-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v19)) (v3 : (c : Dev Cert.KernelIdeal.nD) → Buf (Elt Ideal) ((c.tc : Thread Cert.KernelIdeal.nD Cert.KernelIdeal.τ).loc Cert.KernelIdeal.main_v25)) (v4 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_v25) = v3 c
          ∧ r.2.mem ((c.tc : Thread Cert.KernelIdeal.nD Cert.KernelIdeal.τ).loc Cert.KernelIdeal.main_v20) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_v90) = v3 c
          ∧ r.2.mem ((c.tc : Thread Cert.ReferenceIdeal.nD Cert.ReferenceIdeal.τ).loc Cert.ReferenceIdeal.main_v85) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S4x1 : Shape := ⟨2, ![4, 1]⟩
abbrev S4x1x512 : Shape := ⟨3, ![4, 1, 512]⟩
abbrev S4x1x16x2048x256 : Shape := ⟨5, ![4, 1, 16, 2048, 256]⟩
abbrev S4x1x16x2048 : Shape := ⟨4, ![4, 1, 16, 2048]⟩
abbrev S512x256 : Shape := ⟨2, ![512, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S256x512 : Shape := ⟨2, ![256, 512]⟩
abbrev S512 : Shape := ⟨1, ![512]⟩
abbrev S4x32768x256 : Shape := ⟨3, ![4, 32768, 256]⟩
abbrev S8x16384 : Shape := ⟨2, ![8, 16384]⟩
abbrev S_ : Shape := ⟨0, ![]⟩
abbrev S1 : Shape := ⟨1, ![1]⟩
abbrev S2 : Shape := ⟨1, ![2]⟩
abbrev S1x1 : Shape := ⟨2, ![1, 1]⟩
abbrev S131072x256 : Shape := ⟨2, ![131072, 256]⟩
abbrev S1x256 : Shape := ⟨2, ![1, 256]⟩
abbrev S1x128 : Shape := ⟨2, ![1, 128]⟩
abbrev S1x512 : Shape := ⟨2, ![1, 512]⟩
abbrev S4x1x32768 : Shape := ⟨3, ![4, 1, 32768]⟩
abbrev S1x4 : Shape := ⟨2, ![1, 4]⟩
abbrev S4x512 : Shape := ⟨2, ![4, 512]⟩
abbrev S1x1x512 : Shape := ⟨3, ![1, 1, 512]⟩
abbrev S1x16384x256 : Shape := ⟨3, ![1, 16384, 256]⟩
abbrev S1x1x16384 : Shape := ⟨3, ![1, 1, 16384]⟩
abbrev S4x256 : Shape := ⟨2, ![4, 256]⟩
abbrev S16384x256 : Shape := ⟨2, ![16384, 256]⟩
abbrev S16384x128 : Shape := ⟨2, ![16384, 128]⟩
abbrev S1x16384 : Shape := ⟨2, ![1, 16384]⟩
abbrev S1x8x16384 : Shape := ⟨3, ![1, 8, 16384]⟩
abbrev S1x1x1 : Shape := ⟨3, ![1, 1, 1]⟩
abbrev S2x16384 : Shape := ⟨2, ![2, 16384]⟩
abbrev S1x2x16384 : Shape := ⟨3, ![1, 2, 16384]⟩
abbrev S4x1x1 : Shape := ⟨3, ![4, 1, 1]⟩

abbrev nBuf : Space → Nat
  | .hbm => 314
  | .vmem => 23
  | .smem => 1
  | _ => 0

abbrev hbmTy0_0 (i : Nat) : BufTy := match i % 128 with
  | 0 => ⟨S4x1, .i32⟩
  | 1 => ⟨S4x1x512, .f32⟩
  | 2 => ⟨S4x1x16x2048x256, .f32⟩
  | 3 => ⟨S4x1x16x2048, .i1⟩
  | 4 => ⟨S512x256, .f32⟩
  | 5 => ⟨S256, .f32⟩
  | 6 => ⟨S256x128, .f32⟩
  | 7 => ⟨S128, .f32⟩
  | 8 => ⟨S256x256, .f32⟩
  | 9 => ⟨S256, .f32⟩
  | 10 => ⟨S256x128, .f32⟩
  | 11 => ⟨S128, .f32⟩
  | 12 => ⟨S256x512, .f32⟩
  | 13 => ⟨S512, .f32⟩
  | 14 => ⟨S4x32768x256, .f32⟩
  | 15 => ⟨S8x16384, .i1⟩
  | 16 => ⟨S8x16384, .f32⟩
  | 17 => ⟨S_, .i32⟩
  | 18 => ⟨S_, .i32⟩
  | 19 => ⟨S_, .i32⟩
  | 20 => ⟨S_, .i32⟩
  | 21 => ⟨S1, .i32⟩
  | 22 => ⟨S_, .i32⟩
  | 23 => ⟨S_, .i32⟩
  | 24 => ⟨S_, .i32⟩
  | 25 => ⟨S1, .i32⟩
  | 26 => ⟨S2, .i32⟩
  | 27 => ⟨S_, .f32⟩
  | 28 => ⟨S_, .f32⟩
  | 29 => ⟨S_, .f32⟩
  | 30 => ⟨S1x1, .f32⟩
  | 31 => ⟨S1x1, .f32⟩
  | 32 => ⟨S1, .i32⟩
  | 33 => ⟨S_, .i32⟩
  | 34 => ⟨S1, .i32⟩
  | 35 => ⟨S_, .i32⟩
  | 36 => ⟨S8x16384, .i64⟩
  | 37 => ⟨S8x16384, .i64⟩
  | 38 => ⟨S_, .i64⟩
  | 39 => ⟨S8x16384, .i64⟩
  | 40 => ⟨S8x16384, .i64⟩
  | 41 => ⟨S_, .i64⟩
  | 42 => ⟨S8x16384, .i64⟩
  | 43 => ⟨S8x16384, .i64⟩
  | 44 => ⟨S8x16384, .i64⟩
  | 45 => ⟨S_, .i64⟩
  | 46 => ⟨S8x16384, .i64⟩
  | 47 => ⟨S8x16384, .i64⟩
  | 48 => ⟨S8x16384, .i32⟩
  | 49 => ⟨S8x16384, .i32⟩
  | 50 => ⟨S_, .i32⟩
  | 51 => ⟨S_, .i32⟩
  | 52 => ⟨S_, .i32⟩
  | 53 => ⟨S8x16384, .i32⟩
  | 54 => ⟨S8x16384, .i32⟩
  | 55 => ⟨S8x16384, .i32⟩
  | 56 => ⟨S8x16384, .i32⟩
  | 57 => ⟨S8x16384, .i32⟩
  | 58 => ⟨S_, .i32⟩
  | 59 => ⟨S8x16384, .i32⟩
  | 60 => ⟨S8x16384, .i32⟩
  | 61 => ⟨S_, .i32⟩
  | 62 => ⟨S8x16384, .i32⟩
  | 63 => ⟨S8x16384, .i32⟩
  | 64 => ⟨S8x16384, .i32⟩
  | 65 => ⟨S8x16384, .i32⟩
  | 66 => ⟨S8x16384, .i32⟩
  | 67 => ⟨S_, .i32⟩
  | 68 => ⟨S8x16384, .i32⟩
  | 69 => ⟨S8x16384, .i32⟩
  | 70 => ⟨S_, .i32⟩
  | 71 => ⟨S8x16384, .i32⟩
  | 72 => ⟨S8x16384, .i32⟩
  | 73 => ⟨S8x16384, .i32⟩
  | 74 => ⟨S8x16384, .i32⟩
  | 75 => ⟨S8x16384, .i32⟩
  | 76 => ⟨S_, .i32⟩
  | 77 => ⟨S8x16384, .i32⟩
  | 78 => ⟨S8x16384, .i32⟩
  | 79 => ⟨S_, .i32⟩
  | 80 => ⟨S8x16384, .i32⟩
  | 81 => ⟨S8x16384, .i32⟩
  | 82 => ⟨S8x16384, .i32⟩
  | 83 => ⟨S8x16384, .i32⟩
  | 84 => ⟨S8x16384, .i32⟩
  | 85 => ⟨S_, .i32⟩
  | 86 => ⟨S8x16384, .i32⟩
  | 87 => ⟨S8x16384, .i32⟩
  | 88 => ⟨S_, .i32⟩
  | 89 => ⟨S8x16384, .i32⟩
  | 90 => ⟨S8x16384, .i32⟩
  | 91 => ⟨S8x16384, .i32⟩
  | 92 => ⟨S8x16384, .i32⟩
  | 93 => ⟨S8x16384, .i32⟩
  | 94 => ⟨S8x16384, .i32⟩
  | 95 => ⟨S8x16384, .i32⟩
  | 96 => ⟨S8x16384, .i32⟩
  | 97 => ⟨S_, .i32⟩
  | 98 => ⟨S8x16384, .i32⟩
  | 99 => ⟨S8x16384, .i32⟩
  | 100 => ⟨S8x16384, .i32⟩
  | 101 => ⟨S_, .i32⟩
  | 102 => ⟨S8x16384, .i32⟩
  | 103 => ⟨S8x16384, .i32⟩
  | 104 => ⟨S_, .i32⟩
  | 105 => ⟨S8x16384, .i32⟩
  | 106 => ⟨S8x16384, .i32⟩
  | 107 => ⟨S8x16384, .i32⟩
  | 108 => ⟨S8x16384, .i32⟩
  | 109 => ⟨S8x16384, .i32⟩
  | 110 => ⟨S_, .i32⟩
  | 111 => ⟨S8x16384, .i32⟩
  | 112 => ⟨S8x16384, .i32⟩
  | 113 => ⟨S_, .i32⟩
  | 114 => ⟨S8x16384, .i32⟩
  | 115 => ⟨S8x16384, .i32⟩
  | 116 => ⟨S8x16384, .i32⟩
  | 117 => ⟨S8x16384, .i32⟩
  | 118 => ⟨S8x16384, .i32⟩
  | 119 => ⟨S_, .i32⟩
  | 120 => ⟨S8x16384, .i32⟩
  | 121 => ⟨S8x16384, .i32⟩
  | 122 => ⟨S_, .i32⟩
  | 123 => ⟨S8x16384, .i32⟩
  | 124 => ⟨S8x16384, .i32⟩
  | 125 => ⟨S8x16384, .i32⟩
  | 126 => ⟨S8x16384, .i32⟩
  | 127 => ⟨S8x16384, .i32⟩
  | _ => ⟨S4x1, .i32⟩

abbrev hbmTy0_1 (i : Nat) : BufTy := match i % 128 with
  | 0 => ⟨S_, .i32⟩
  | 1 => ⟨S8x16384, .i32⟩
  | 2 => ⟨S8x16384, .i32⟩
  | 3 => ⟨S_, .i32⟩
  | 4 => ⟨S8x16384, .i32⟩
  | 5 => ⟨S8x16384, .i32⟩
  | 6 => ⟨S8x16384, .i32⟩
  | 7 => ⟨S8x16384, .i32⟩
  | 8 => ⟨S8x16384, .i32⟩
  | 9 => ⟨S8x16384, .i32⟩
  | 10 => ⟨S8x16384, .i32⟩
  | 11 => ⟨S8x16384, .i32⟩
  | 12 => ⟨S_, .i32⟩
  | 13 => ⟨S8x16384, .i32⟩
  | 14 => ⟨S8x16384, .i32⟩
  | 15 => ⟨S8x16384, .i32⟩
  | 16 => ⟨S_, .i32⟩
  | 17 => ⟨S8x16384, .i32⟩
  | 18 => ⟨S8x16384, .i32⟩
  | 19 => ⟨S_, .i32⟩
  | 20 => ⟨S8x16384, .i32⟩
  | 21 => ⟨S8x16384, .i32⟩
  | 22 => ⟨S8x16384, .i32⟩
  | 23 => ⟨S8x16384, .i32⟩
  | 24 => ⟨S8x16384, .i32⟩
  | 25 => ⟨S_, .i32⟩
  | 26 => ⟨S8x16384, .i32⟩
  | 27 => ⟨S8x16384, .i32⟩
  | 28 => ⟨S_, .i32⟩
  | 29 => ⟨S8x16384, .i32⟩
  | 30 => ⟨S8x16384, .i32⟩
  | 31 => ⟨S8x16384, .i32⟩
  | 32 => ⟨S8x16384, .i32⟩
  | 33 => ⟨S8x16384, .i32⟩
  | 34 => ⟨S_, .i32⟩
  | 35 => ⟨S8x16384, .i32⟩
  | 36 => ⟨S8x16384, .i32⟩
  | 37 => ⟨S_, .i32⟩
  | 38 => ⟨S8x16384, .i32⟩
  | 39 => ⟨S8x16384, .i32⟩
  | 40 => ⟨S8x16384, .i32⟩
  | 41 => ⟨S8x16384, .i32⟩
  | 42 => ⟨S8x16384, .i32⟩
  | 43 => ⟨S_, .i32⟩
  | 44 => ⟨S8x16384, .i32⟩
  | 45 => ⟨S8x16384, .i32⟩
  | 46 => ⟨S_, .i32⟩
  | 47 => ⟨S8x16384, .i32⟩
  | 48 => ⟨S8x16384, .i32⟩
  | 49 => ⟨S8x16384, .i32⟩
  | 50 => ⟨S8x16384, .i32⟩
  | 51 => ⟨S8x16384, .i32⟩
  | 52 => ⟨S8x16384, .i32⟩
  | 53 => ⟨S8x16384, .i32⟩
  | 54 => ⟨S8x16384, .i32⟩
  | 55 => ⟨S_, .i32⟩
  | 56 => ⟨S8x16384, .i32⟩
  | 57 => ⟨S8x16384, .i32⟩
  | 58 => ⟨S8x16384, .i32⟩
  | 59 => ⟨S_, .i32⟩
  | 60 => ⟨S8x16384, .i32⟩
  | 61 => ⟨S8x16384, .i32⟩
  | 62 => ⟨S_, .i32⟩
  | 63 => ⟨S8x16384, .i32⟩
  | 64 => ⟨S8x16384, .i32⟩
  | 65 => ⟨S8x16384, .i32⟩
  | 66 => ⟨S8x16384, .i32⟩
  | 67 => ⟨S8x16384, .i32⟩
  | 68 => ⟨S_, .i32⟩
  | 69 => ⟨S8x16384, .i32⟩
  | 70 => ⟨S8x16384, .i32⟩
  | 71 => ⟨S_, .i32⟩
  | 72 => ⟨S8x16384, .i32⟩
  | 73 => ⟨S8x16384, .i32⟩
  | 74 => ⟨S8x16384, .i32⟩
  | 75 => ⟨S8x16384, .i32⟩
  | 76 => ⟨S8x16384, .i32⟩
  | 77 => ⟨S_, .i32⟩
  | 78 => ⟨S8x16384, .i32⟩
  | 79 => ⟨S8x16384, .i32⟩
  | 80 => ⟨S_, .i32⟩
  | 81 => ⟨S8x16384, .i32⟩
  | 82 => ⟨S8x16384, .i32⟩
  | 83 => ⟨S8x16384, .i32⟩
  | 84 => ⟨S8x16384, .i32⟩
  | 85 => ⟨S8x16384, .i32⟩
  | 86 => ⟨S_, .i32⟩
  | 87 => ⟨S8x16384, .i32⟩
  | 88 => ⟨S8x16384, .i32⟩
  | 89 => ⟨S_, .i32⟩
  | 90 => ⟨S8x16384, .i32⟩
  | 91 => ⟨S8x16384, .i32⟩
  | 92 => ⟨S8x16384, .i32⟩
  | 93 => ⟨S8x16384, .i32⟩
  | 94 => ⟨S8x16384, .i32⟩
  | 95 => ⟨S8x16384, .i32⟩
  | 96 => ⟨S8x16384, .i32⟩
  | 97 => ⟨S8x16384, .i32⟩
  | 98 => ⟨S_, .i32⟩
  | 99 => ⟨S8x16384, .i32⟩
  | 100 => ⟨S8x16384, .i32⟩
  | 101 => ⟨S8x16384, .i32⟩
  | 102 => ⟨S_, .i32⟩
  | 103 => ⟨S8x16384, .i32⟩
  | 104 => ⟨S8x16384, .i32⟩
  | 105 => ⟨S_, .i32⟩
  | 106 => ⟨S8x16384, .i32⟩
  | 107 => ⟨S8x16384, .i32⟩
  | 108 => ⟨S8x16384, .i32⟩
  | 109 => ⟨S8x16384, .i32⟩
  | 110 => ⟨S8x16384, .i32⟩
  | 111 => ⟨S_, .i32⟩
  | 112 => ⟨S8x16384, .i32⟩
  | 113 => ⟨S8x16384, .i32⟩
  | 114 => ⟨S_, .i32⟩
  | 115 => ⟨S8x16384, .i32⟩
  | 116 => ⟨S8x16384, .i32⟩
  | 117 => ⟨S8x16384, .i32⟩
  | 118 => ⟨S8x16384, .i32⟩
  | 119 => ⟨S8x16384, .i32⟩
  | 120 => ⟨S_, .i32⟩
  | 121 => ⟨S8x16384, .i32⟩
  | 122 => ⟨S8x16384, .i32⟩
  | 123 => ⟨S_, .i32⟩
  | 124 => ⟨S8x16384, .i32⟩
  | 125 => ⟨S8x16384, .i32⟩
  | 126 => ⟨S8x16384, .i32⟩
  | 127 => ⟨S8x16384, .i32⟩
  | _ => ⟨S4x1, .i32⟩

abbrev hbmTy0_2 (i : Nat) : BufTy := match i % 128 with
  | 0 => ⟨S8x16384, .i32⟩
  | 1 => ⟨S_, .i32⟩
  | 2 => ⟨S8x16384, .i32⟩
  | 3 => ⟨S8x16384, .i32⟩
  | 4 => ⟨S_, .i32⟩
  | 5 => ⟨S8x16384, .i32⟩
  | 6 => ⟨S8x16384, .i32⟩
  | 7 => ⟨S8x16384, .i32⟩
  | 8 => ⟨S8x16384, .i32⟩
  | 9 => ⟨S8x16384, .i32⟩
  | 10 => ⟨S8x16384, .i32⟩
  | 11 => ⟨S8x16384, .i32⟩
  | 12 => ⟨S8x16384, .i32⟩
  | 13 => ⟨S_, .i32⟩
  | 14 => ⟨S8x16384, .i32⟩
  | 15 => ⟨S8x16384, .i32⟩
  | 16 => ⟨S8x16384, .i32⟩
  | 17 => ⟨S_, .i32⟩
  | 18 => ⟨S8x16384, .i32⟩
  | 19 => ⟨S8x16384, .i32⟩
  | 20 => ⟨S_, .i32⟩
  | 21 => ⟨S8x16384, .i32⟩
  | 22 => ⟨S8x16384, .i32⟩
  | 23 => ⟨S8x16384, .f32⟩
  | 24 => ⟨S_, .f32⟩
  | 25 => ⟨S8x16384, .f32⟩
  | 26 => ⟨S8x16384, .f32⟩
  | 27 => ⟨S1x1, .f32⟩
  | 28 => ⟨S8x16384, .f32⟩
  | 29 => ⟨S8x16384, .f32⟩
  | 30 => ⟨S8x16384, .f32⟩
  | 31 => ⟨S8x16384, .f32⟩
  | 32 => ⟨S8x16384, .f32⟩
  | 33 => ⟨S8x16384, .f32⟩
  | 34 => ⟨S8x16384, .f32⟩
  | 35 => ⟨S8x16384, .f32⟩
  | 36 => ⟨S8x16384, .f32⟩
  | 37 => ⟨S8x16384, .f32⟩
  | 38 => ⟨S131072x256, .f32⟩
  | 39 => ⟨S1x256, .f32⟩
  | 40 => ⟨S1x128, .f32⟩
  | 41 => ⟨S1x256, .f32⟩
  | 42 => ⟨S1x128, .f32⟩
  | 43 => ⟨S1x512, .f32⟩
  | 44 => ⟨S4x1x32768, .f32⟩
  | 45 => ⟨S8x16384, .f32⟩
  | 46 => ⟨S1x4, .i32⟩
  | 47 => ⟨S4x512, .f32⟩
  | 48 => ⟨S4x1x32768, .f32⟩
  | 49 => ⟨S4x1x1, .i32⟩
  | 50 => ⟨S4x1x512, .f32⟩
  | 51 => ⟨S_, .i32⟩
  | 52 => ⟨S4x1, .i32⟩
  | 53 => ⟨S4x1, .i1⟩
  | 54 => ⟨S4x1x1, .i1⟩
  | 55 => ⟨S4x1x512, .f32⟩
  | 56 => ⟨S4x1x512, .i1⟩
  | 57 => ⟨S4x1x512, .f32⟩
  | _ => ⟨S4x1, .i32⟩

abbrev hbmTy (i : Nat) : BufTy := match i / 128 with
  | 0 => hbmTy0_0 i
  | 1 => hbmTy0_1 i
  | 2 => hbmTy0_2 i
  | _ => ⟨S4x1, .i32⟩

abbrev bufTy : (tb : Table) → Fin (tcTables nBuf tb) → BufTy
  | .hbm, ⟨i, _⟩ => hbmTy i
  | .local _ .vmem, ⟨0, _⟩ => ⟨S1x1x512, .f32⟩
  | .local _ .vmem, ⟨1, _⟩ => ⟨S1x1x512, .f32⟩
  | .local _ .vmem, ⟨2, _⟩ => ⟨S512x256, .f32⟩
  | .local _ .vmem, ⟨3, _⟩ => ⟨S1x256, .f32⟩
  | .local _ .vmem, ⟨4, _⟩ => ⟨S256x128, .f32⟩
  | .local _ .vmem, ⟨5, _⟩ => ⟨S1x128, .f32⟩
  | .local _ .vmem, ⟨6, _⟩ => ⟨S256x256, .f32⟩
  | .local _ .vmem, ⟨7, _⟩ => ⟨S1x256, .f32⟩
  | .local _ .vmem, ⟨8, _⟩ => ⟨S256x128, .f32⟩
  | .local _ .vmem, ⟨9, _⟩ => ⟨S1x128, .f32⟩
  | .local _ .vmem, ⟨10, _⟩ => ⟨S1x16384x256, .f32⟩
  | .local _ .vmem, ⟨11, _⟩ => ⟨S1x16384x256, .f32⟩
  | .local _ .vmem, ⟨12, _⟩ => ⟨S8x16384, .f32⟩
  | .local _ .vmem, ⟨13, _⟩ => ⟨S8x16384, .f32⟩
  | .local _ .vmem, ⟨14, _⟩ => ⟨S256x512, .f32⟩
  | .local _ .vmem, ⟨15, _⟩ => ⟨S1x512, .f32⟩
  | .local _ .vmem, ⟨16, _⟩ => ⟨S1x1x16384, .f32⟩
  | .local _ .vmem, ⟨17, _⟩ => ⟨S1x1x16384, .f32⟩
  | .local _ .vmem, ⟨18, _⟩ => ⟨S8x16384, .f32⟩
  | .local _ .vmem, ⟨19, _⟩ => ⟨S4x512, .f32⟩
  | .local _ .vmem, ⟨20, _⟩ => ⟨S1x128, .f32⟩
  | .local _ .vmem, ⟨21, _⟩ => ⟨S8x16384, .f32⟩
  | .local _ .vmem, ⟨22, _⟩ => ⟨S4x256, .f32⟩
  | .local _ .smem, ⟨0, _⟩ => ⟨S1x4, .i32⟩
  | _, _ => ⟨S4x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call0_cst : Ref sig .tc := ⟨.hbm, 27, rfl⟩
abbrev main_call0_cst_0 : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_c : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_c_0 : Ref sig .tc := ⟨.hbm, 41, rfl⟩
abbrev main_call0_call0_v11 : Ref sig .tc := ⟨.hbm, 42, rfl⟩
abbrev main_call0_call0_v12 : Ref sig .tc := ⟨.hbm, 43, rfl⟩
abbrev main_call0_call0_v13 : Ref sig .tc := ⟨.hbm, 44, rfl⟩
abbrev main_call0_call0_c_1 : Ref sig .tc := ⟨.hbm, 45, rfl⟩
abbrev main_call0_call0_v14 : Ref sig .tc := ⟨.hbm, 46, rfl⟩
abbrev main_call0_call0_v15 : Ref sig .tc := ⟨.hbm, 47, rfl⟩
abbrev main_call0_call0_v16 : Ref sig .tc := ⟨.hbm, 48, rfl⟩
abbrev main_call0_call0_v17 : Ref sig .tc := ⟨.hbm, 49, rfl⟩
abbrev main_call0_call0_call0_v0 : Ref sig .tc := ⟨.hbm, 50, rfl⟩
abbrev main_call0_call0_call0_c : Ref sig .tc := ⟨.hbm, 51, rfl⟩
abbrev main_call0_call0_call0_v1 : Ref sig .tc := ⟨.hbm, 52, rfl⟩
abbrev main_call0_call0_call0_v2 : Ref sig .tc := ⟨.hbm, 53, rfl⟩
abbrev main_call0_call0_call0_v3 : Ref sig .tc := ⟨.hbm, 54, rfl⟩
abbrev main_call0_call0_call0_v4 : Ref sig .tc := ⟨.hbm, 55, rfl⟩
abbrev main_call0_call0_call0_v5 : Ref sig .tc := ⟨.hbm, 56, rfl⟩
abbrev main_call0_call0_call0_v6 : Ref sig .tc := ⟨.hbm, 57, rfl⟩
abbrev main_call0_call0_call0_c_0 : Ref sig .tc := ⟨.hbm, 58, rfl⟩
abbrev main_call0_call0_call0_v7 : Ref sig .tc := ⟨.hbm, 59, rfl⟩
abbrev main_call0_call0_call0_v8 : Ref sig .tc := ⟨.hbm, 60, rfl⟩
abbrev main_call0_call0_call0_c_1 : Ref sig .tc := ⟨.hbm, 61, rfl⟩
abbrev main_call0_call0_call0_v9 : Ref sig .tc := ⟨.hbm, 62, rfl⟩
abbrev main_call0_call0_call0_v10 : Ref sig .tc := ⟨.hbm, 63, rfl⟩
abbrev main_call0_call0_call0_v11 : Ref sig .tc := ⟨.hbm, 64, rfl⟩
abbrev main_call0_call0_call0_v12 : Ref sig .tc := ⟨.hbm, 65, rfl⟩
abbrev main_call0_call0_call0_v13 : Ref sig .tc := ⟨.hbm, 66, rfl⟩
abbrev main_call0_call0_call0_c_2 : Ref sig .tc := ⟨.hbm, 67, rfl⟩
abbrev main_call0_call0_call0_v14 : Ref sig .tc := ⟨.hbm, 68, rfl⟩
abbrev main_call0_call0_call0_v15 : Ref sig .tc := ⟨.hbm, 69, rfl⟩
abbrev main_call0_call0_call0_c_3 : Ref sig .tc := ⟨.hbm, 70, rfl⟩
abbrev main_call0_call0_call0_v16 : Ref sig .tc := ⟨.hbm, 71, rfl⟩
abbrev main_call0_call0_call0_v17 : Ref sig .tc := ⟨.hbm, 72, rfl⟩
abbrev main_call0_call0_call0_v18 : Ref sig .tc := ⟨.hbm, 73, rfl⟩
abbrev main_call0_call0_call0_v19 : Ref sig .tc := ⟨.hbm, 74, rfl⟩
abbrev main_call0_call0_call0_v20 : Ref sig .tc := ⟨.hbm, 75, rfl⟩
abbrev main_call0_call0_call0_c_4 : Ref sig .tc := ⟨.hbm, 76, rfl⟩
abbrev main_call0_call0_call0_v21 : Ref sig .tc := ⟨.hbm, 77, rfl⟩
abbrev main_call0_call0_call0_v22 : Ref sig .tc := ⟨.hbm, 78, rfl⟩
abbrev main_call0_call0_call0_c_5 : Ref sig .tc := ⟨.hbm, 79, rfl⟩
abbrev main_call0_call0_call0_v23 : Ref sig .tc := ⟨.hbm, 80, rfl⟩
abbrev main_call0_call0_call0_v24 : Ref sig .tc := ⟨.hbm, 81, rfl⟩
abbrev main_call0_call0_call0_v25 : Ref sig .tc := ⟨.hbm, 82, rfl⟩
abbrev main_call0_call0_call0_v26 : Ref sig .tc := ⟨.hbm, 83, rfl⟩
abbrev main_call0_call0_call0_v27 : Ref sig .tc := ⟨.hbm, 84, rfl⟩
abbrev main_call0_call0_call0_c_6 : Ref sig .tc := ⟨.hbm, 85, rfl⟩
abbrev main_call0_call0_call0_v28 : Ref sig .tc := ⟨.hbm, 86, rfl⟩
abbrev main_call0_call0_call0_v29 : Ref sig .tc := ⟨.hbm, 87, rfl⟩
abbrev main_call0_call0_call0_c_7 : Ref sig .tc := ⟨.hbm, 88, rfl⟩
abbrev main_call0_call0_call0_v30 : Ref sig .tc := ⟨.hbm, 89, rfl⟩
abbrev main_call0_call0_call0_v31 : Ref sig .tc := ⟨.hbm, 90, rfl⟩
abbrev main_call0_call0_call0_v32 : Ref sig .tc := ⟨.hbm, 91, rfl⟩
abbrev main_call0_call0_call0_v33 : Ref sig .tc := ⟨.hbm, 92, rfl⟩
abbrev main_call0_call0_call0_v34 : Ref sig .tc := ⟨.hbm, 93, rfl⟩
abbrev main_call0_call0_call0_v35 : Ref sig .tc := ⟨.hbm, 94, rfl⟩
abbrev main_call0_call0_call0_v36 : Ref sig .tc := ⟨.hbm, 95, rfl⟩
abbrev main_call0_call0_call0_v37 : Ref sig .tc := ⟨.hbm, 96, rfl⟩
abbrev main_call0_call0_call0_c_8 : Ref sig .tc := ⟨.hbm, 97, rfl⟩
abbrev main_call0_call0_call0_v38 : Ref sig .tc := ⟨.hbm, 98, rfl⟩
abbrev main_call0_call0_call0_v39 : Ref sig .tc := ⟨.hbm, 99, rfl⟩
abbrev main_call0_call0_call0_v40 : Ref sig .tc := ⟨.hbm, 100, rfl⟩
abbrev main_call0_call0_call0_c_9 : Ref sig .tc := ⟨.hbm, 101, rfl⟩
abbrev main_call0_call0_call0_v41 : Ref sig .tc := ⟨.hbm, 102, rfl⟩
abbrev main_call0_call0_call0_v42 : Ref sig .tc := ⟨.hbm, 103, rfl⟩
abbrev main_call0_call0_call0_c_10 : Ref sig .tc := ⟨.hbm, 104, rfl⟩
abbrev main_call0_call0_call0_v43 : Ref sig .tc := ⟨.hbm, 105, rfl⟩
abbrev main_call0_call0_call0_v44 : Ref sig .tc := ⟨.hbm, 106, rfl⟩
abbrev main_call0_call0_call0_v45 : Ref sig .tc := ⟨.hbm, 107, rfl⟩
abbrev main_call0_call0_call0_v46 : Ref sig .tc := ⟨.hbm, 108, rfl⟩
abbrev main_call0_call0_call0_v47 : Ref sig .tc := ⟨.hbm, 109, rfl⟩
abbrev main_call0_call0_call0_c_11 : Ref sig .tc := ⟨.hbm, 110, rfl⟩
abbrev main_call0_call0_call0_v48 : Ref sig .tc := ⟨.hbm, 111, rfl⟩
abbrev main_call0_call0_call0_v49 : Ref sig .tc := ⟨.hbm, 112, rfl⟩
abbrev main_call0_call0_call0_c_12 : Ref sig .tc := ⟨.hbm, 113, rfl⟩
abbrev main_call0_call0_call0_v50 : Ref sig .tc := ⟨.hbm, 114, rfl⟩
abbrev main_call0_call0_call0_v51 : Ref sig .tc := ⟨.hbm, 115, rfl⟩
abbrev main_call0_call0_call0_v52 : Ref sig .tc := ⟨.hbm, 116, rfl⟩
abbrev main_call0_call0_call0_v53 : Ref sig .tc := ⟨.hbm, 117, rfl⟩
abbrev main_call0_call0_call0_v54 : Ref sig .tc := ⟨.hbm, 118, rfl⟩
abbrev main_call0_call0_call0_c_13 : Ref sig .tc := ⟨.hbm, 119, rfl⟩
abbrev main_call0_call0_call0_v55 : Ref sig .tc := ⟨.hbm, 120, rfl⟩
abbrev main_call0_call0_call0_v56 : Ref sig .tc := ⟨.hbm, 121, rfl⟩
abbrev main_call0_call0_call0_c_14 : Ref sig .tc := ⟨.hbm, 122, rfl⟩
abbrev main_call0_call0_call0_v57 : Ref sig .tc := ⟨.hbm, 123, rfl⟩
abbrev main_call0_call0_call0_v58 : Ref sig .tc := ⟨.hbm, 124, rfl⟩
abbrev main_call0_call0_call0_v59 : Ref sig .tc := ⟨.hbm, 125, rfl⟩
abbrev main_call0_call0_call0_v60 : Ref sig .tc := ⟨.hbm, 126, rfl⟩
abbrev main_call0_call0_call0_v61 : Ref sig .tc := ⟨.hbm, 127, rfl⟩
abbrev main_call0_call0_call0_c_15 : Ref sig .tc := ⟨.hbm, 128, rfl⟩
abbrev main_call0_call0_call0_v62 : Ref sig .tc := ⟨.hbm, 129, rfl⟩
abbrev main_call0_call0_call0_v63 : Ref sig .tc := ⟨.hbm, 130, rfl⟩
abbrev main_call0_call0_call0_c_16 : Ref sig .tc := ⟨.hbm, 131, rfl⟩
abbrev main_call0_call0_call0_v64 : Ref sig .tc := ⟨.hbm, 132, rfl⟩
abbrev main_call0_call0_call0_v65 : Ref sig .tc := ⟨.hbm, 133, rfl⟩
abbrev main_call0_call0_call0_v66 : Ref sig .tc := ⟨.hbm, 134, rfl⟩
abbrev main_call0_call0_call0_v67 : Ref sig .tc := ⟨.hbm, 135, rfl⟩
abbrev main_call0_call0_call0_v68 : Ref sig .tc := ⟨.hbm, 136, rfl⟩
abbrev main_call0_call0_call0_v69 : Ref sig .tc := ⟨.hbm, 137, rfl⟩
abbrev main_call0_call0_call0_v70 : Ref sig .tc := ⟨.hbm, 138, rfl⟩
abbrev main_call0_call0_call0_v71 : Ref sig .tc := ⟨.hbm, 139, rfl⟩
abbrev main_call0_call0_call0_c_17 : Ref sig .tc := ⟨.hbm, 140, rfl⟩
abbrev main_call0_call0_call0_v72 : Ref sig .tc := ⟨.hbm, 141, rfl⟩
abbrev main_call0_call0_call0_v73 : Ref sig .tc := ⟨.hbm, 142, rfl⟩
abbrev main_call0_call0_call0_v74 : Ref sig .tc := ⟨.hbm, 143, rfl⟩
abbrev main_call0_call0_call0_c_18 : Ref sig .tc := ⟨.hbm, 144, rfl⟩
abbrev main_call0_call0_call0_v75 : Ref sig .tc := ⟨.hbm, 145, rfl⟩
abbrev main_call0_call0_call0_v76 : Ref sig .tc := ⟨.hbm, 146, rfl⟩
abbrev main_call0_call0_call0_c_19 : Ref sig .tc := ⟨.hbm, 147, rfl⟩
abbrev main_call0_call0_call0_v77 : Ref sig .tc := ⟨.hbm, 148, rfl⟩
abbrev main_call0_call0_call0_v78 : Ref sig .tc := ⟨.hbm, 149, rfl⟩
abbrev main_call0_call0_call0_v79 : Ref sig .tc := ⟨.hbm, 150, rfl⟩
abbrev main_call0_call0_call0_v80 : Ref sig .tc := ⟨.hbm, 151, rfl⟩
abbrev main_call0_call0_call0_v81 : Ref sig .tc := ⟨.hbm, 152, rfl⟩
abbrev main_call0_call0_call0_c_20 : Ref sig .tc := ⟨.hbm, 153, rfl⟩
abbrev main_call0_call0_call0_v82 : Ref sig .tc := ⟨.hbm, 154, rfl⟩
abbrev main_call0_call0_call0_v83 : Ref sig .tc := ⟨.hbm, 155, rfl⟩
abbrev main_call0_call0_call0_c_21 : Ref sig .tc := ⟨.hbm, 156, rfl⟩
abbrev main_call0_call0_call0_v84 : Ref sig .tc := ⟨.hbm, 157, rfl⟩
abbrev main_call0_call0_call0_v85 : Ref sig .tc := ⟨.hbm, 158, rfl⟩
abbrev main_call0_call0_call0_v86 : Ref sig .tc := ⟨.hbm, 159, rfl⟩
abbrev main_call0_call0_call0_v87 : Ref sig .tc := ⟨.hbm, 160, rfl⟩
abbrev main_call0_call0_call0_v88 : Ref sig .tc := ⟨.hbm, 161, rfl⟩
abbrev main_call0_call0_call0_c_22 : Ref sig .tc := ⟨.hbm, 162, rfl⟩
abbrev main_call0_call0_call0_v89 : Ref sig .tc := ⟨.hbm, 163, rfl⟩
abbrev main_call0_call0_call0_v90 : Ref sig .tc := ⟨.hbm, 164, rfl⟩
abbrev main_call0_call0_call0_c_23 : Ref sig .tc := ⟨.hbm, 165, rfl⟩
abbrev main_call0_call0_call0_v91 : Ref sig .tc := ⟨.hbm, 166, rfl⟩
abbrev main_call0_call0_call0_v92 : Ref sig .tc := ⟨.hbm, 167, rfl⟩
abbrev main_call0_call0_call0_v93 : Ref sig .tc := ⟨.hbm, 168, rfl⟩
abbrev main_call0_call0_call0_v94 : Ref sig .tc := ⟨.hbm, 169, rfl⟩
abbrev main_call0_call0_call0_v95 : Ref sig .tc := ⟨.hbm, 170, rfl⟩
abbrev main_call0_call0_call0_c_24 : Ref sig .tc := ⟨.hbm, 171, rfl⟩
abbrev main_call0_call0_call0_v96 : Ref sig .tc := ⟨.hbm, 172, rfl⟩
abbrev main_call0_call0_call0_v97 : Ref sig .tc := ⟨.hbm, 173, rfl⟩
abbrev main_call0_call0_call0_c_25 : Ref sig .tc := ⟨.hbm, 174, rfl⟩
abbrev main_call0_call0_call0_v98 : Ref sig .tc := ⟨.hbm, 175, rfl⟩
abbrev main_call0_call0_call0_v99 : Ref sig .tc := ⟨.hbm, 176, rfl⟩
abbrev main_call0_call0_call0_v100 : Ref sig .tc := ⟨.hbm, 177, rfl⟩
abbrev main_call0_call0_call0_v101 : Ref sig .tc := ⟨.hbm, 178, rfl⟩
abbrev main_call0_call0_call0_v102 : Ref sig .tc := ⟨.hbm, 179, rfl⟩
abbrev main_call0_call0_call0_v103 : Ref sig .tc := ⟨.hbm, 180, rfl⟩
abbrev main_call0_call0_call0_v104 : Ref sig .tc := ⟨.hbm, 181, rfl⟩
abbrev main_call0_call0_call0_v105 : Ref sig .tc := ⟨.hbm, 182, rfl⟩
abbrev main_call0_call0_call0_c_26 : Ref sig .tc := ⟨.hbm, 183, rfl⟩
abbrev main_call0_call0_call0_v106 : Ref sig .tc := ⟨.hbm, 184, rfl⟩
abbrev main_call0_call0_call0_v107 : Ref sig .tc := ⟨.hbm, 185, rfl⟩
abbrev main_call0_call0_call0_v108 : Ref sig .tc := ⟨.hbm, 186, rfl⟩
abbrev main_call0_call0_call0_c_27 : Ref sig .tc := ⟨.hbm, 187, rfl⟩
abbrev main_call0_call0_call0_v109 : Ref sig .tc := ⟨.hbm, 188, rfl⟩
abbrev main_call0_call0_call0_v110 : Ref sig .tc := ⟨.hbm, 189, rfl⟩
abbrev main_call0_call0_call0_c_28 : Ref sig .tc := ⟨.hbm, 190, rfl⟩
abbrev main_call0_call0_call0_v111 : Ref sig .tc := ⟨.hbm, 191, rfl⟩
abbrev main_call0_call0_call0_v112 : Ref sig .tc := ⟨.hbm, 192, rfl⟩
abbrev main_call0_call0_call0_v113 : Ref sig .tc := ⟨.hbm, 193, rfl⟩
abbrev main_call0_call0_call0_v114 : Ref sig .tc := ⟨.hbm, 194, rfl⟩
abbrev main_call0_call0_call0_v115 : Ref sig .tc := ⟨.hbm, 195, rfl⟩
abbrev main_call0_call0_call0_c_29 : Ref sig .tc := ⟨.hbm, 196, rfl⟩
abbrev main_call0_call0_call0_v116 : Ref sig .tc := ⟨.hbm, 197, rfl⟩
abbrev main_call0_call0_call0_v117 : Ref sig .tc := ⟨.hbm, 198, rfl⟩
abbrev main_call0_call0_call0_c_30 : Ref sig .tc := ⟨.hbm, 199, rfl⟩
abbrev main_call0_call0_call0_v118 : Ref sig .tc := ⟨.hbm, 200, rfl⟩
abbrev main_call0_call0_call0_v119 : Ref sig .tc := ⟨.hbm, 201, rfl⟩
abbrev main_call0_call0_call0_v120 : Ref sig .tc := ⟨.hbm, 202, rfl⟩
abbrev main_call0_call0_call0_v121 : Ref sig .tc := ⟨.hbm, 203, rfl⟩
abbrev main_call0_call0_call0_v122 : Ref sig .tc := ⟨.hbm, 204, rfl⟩
abbrev main_call0_call0_call0_c_31 : Ref sig .tc := ⟨.hbm, 205, rfl⟩
abbrev main_call0_call0_call0_v123 : Ref sig .tc := ⟨.hbm, 206, rfl⟩
abbrev main_call0_call0_call0_v124 : Ref sig .tc := ⟨.hbm, 207, rfl⟩
abbrev main_call0_call0_call0_c_32 : Ref sig .tc := ⟨.hbm, 208, rfl⟩
abbrev main_call0_call0_call0_v125 : Ref sig .tc := ⟨.hbm, 209, rfl⟩
abbrev main_call0_call0_call0_v126 : Ref sig .tc := ⟨.hbm, 210, rfl⟩
abbrev main_call0_call0_call0_v127 : Ref sig .tc := ⟨.hbm, 211, rfl⟩
abbrev main_call0_call0_call0_v128 : Ref sig .tc := ⟨.hbm, 212, rfl⟩
abbrev main_call0_call0_call0_v129 : Ref sig .tc := ⟨.hbm, 213, rfl⟩
abbrev main_call0_call0_call0_c_33 : Ref sig .tc := ⟨.hbm, 214, rfl⟩
abbrev main_call0_call0_call0_v130 : Ref sig .tc := ⟨.hbm, 215, rfl⟩
abbrev main_call0_call0_call0_v131 : Ref sig .tc := ⟨.hbm, 216, rfl⟩
abbrev main_call0_call0_call0_c_34 : Ref sig .tc := ⟨.hbm, 217, rfl⟩
abbrev main_call0_call0_call0_v132 : Ref sig .tc := ⟨.hbm, 218, rfl⟩
abbrev main_call0_call0_call0_v133 : Ref sig .tc := ⟨.hbm, 219, rfl⟩
abbrev main_call0_call0_call0_v134 : Ref sig .tc := ⟨.hbm, 220, rfl⟩
abbrev main_call0_call0_call0_v135 : Ref sig .tc := ⟨.hbm, 221, rfl⟩
abbrev main_call0_call0_call0_v136 : Ref sig .tc := ⟨.hbm, 222, rfl⟩
abbrev main_call0_call0_call0_v137 : Ref sig .tc := ⟨.hbm, 223, rfl⟩
abbrev main_call0_call0_call0_v138 : Ref sig .tc := ⟨.hbm, 224, rfl⟩
abbrev main_call0_call0_call0_v139 : Ref sig .tc := ⟨.hbm, 225, rfl⟩
abbrev main_call0_call0_call0_c_35 : Ref sig .tc := ⟨.hbm, 226, rfl⟩
abbrev main_call0_call0_call0_v140 : Ref sig .tc := ⟨.hbm, 227, rfl⟩
abbrev main_call0_call0_call0_v141 : Ref sig .tc := ⟨.hbm, 228, rfl⟩
abbrev main_call0_call0_call0_v142 : Ref sig .tc := ⟨.hbm, 229, rfl⟩
abbrev main_call0_call0_call0_c_36 : Ref sig .tc := ⟨.hbm, 230, rfl⟩
abbrev main_call0_call0_call0_v143 : Ref sig .tc := ⟨.hbm, 231, rfl⟩
abbrev main_call0_call0_call0_v144 : Ref sig .tc := ⟨.hbm, 232, rfl⟩
abbrev main_call0_call0_call0_c_37 : Ref sig .tc := ⟨.hbm, 233, rfl⟩
abbrev main_call0_call0_call0_v145 : Ref sig .tc := ⟨.hbm, 234, rfl⟩
abbrev main_call0_call0_call0_v146 : Ref sig .tc := ⟨.hbm, 235, rfl⟩
abbrev main_call0_call0_call0_v147 : Ref sig .tc := ⟨.hbm, 236, rfl⟩
abbrev main_call0_call0_call0_v148 : Ref sig .tc := ⟨.hbm, 237, rfl⟩
abbrev main_call0_call0_call0_v149 : Ref sig .tc := ⟨.hbm, 238, rfl⟩
abbrev main_call0_call0_call0_c_38 : Ref sig .tc := ⟨.hbm, 239, rfl⟩
abbrev main_call0_call0_call0_v150 : Ref sig .tc := ⟨.hbm, 240, rfl⟩
abbrev main_call0_call0_call0_v151 : Ref sig .tc := ⟨.hbm, 241, rfl⟩
abbrev main_call0_call0_call0_c_39 : Ref sig .tc := ⟨.hbm, 242, rfl⟩
abbrev main_call0_call0_call0_v152 : Ref sig .tc := ⟨.hbm, 243, rfl⟩
abbrev main_call0_call0_call0_v153 : Ref sig .tc := ⟨.hbm, 244, rfl⟩
abbrev main_call0_call0_call0_v154 : Ref sig .tc := ⟨.hbm, 245, rfl⟩
abbrev main_call0_call0_call0_v155 : Ref sig .tc := ⟨.hbm, 246, rfl⟩
abbrev main_call0_call0_call0_v156 : Ref sig .tc := ⟨.hbm, 247, rfl⟩
abbrev main_call0_call0_call0_c_40 : Ref sig .tc := ⟨.hbm, 248, rfl⟩
abbrev main_call0_call0_call0_v157 : Ref sig .tc := ⟨.hbm, 249, rfl⟩
abbrev main_call0_call0_call0_v158 : Ref sig .tc := ⟨.hbm, 250, rfl⟩
abbrev main_call0_call0_call0_c_41 : Ref sig .tc := ⟨.hbm, 251, rfl⟩
abbrev main_call0_call0_call0_v159 : Ref sig .tc := ⟨.hbm, 252, rfl⟩
abbrev main_call0_call0_call0_v160 : Ref sig .tc := ⟨.hbm, 253, rfl⟩
abbrev main_call0_call0_call0_v161 : Ref sig .tc := ⟨.hbm, 254, rfl⟩
abbrev main_call0_call0_call0_v162 : Ref sig .tc := ⟨.hbm, 255, rfl⟩
abbrev main_call0_call0_call0_v163 : Ref sig .tc := ⟨.hbm, 256, rfl⟩
abbrev main_call0_call0_call0_c_42 : Ref sig .tc := ⟨.hbm, 257, rfl⟩
abbrev main_call0_call0_call0_v164 : Ref sig .tc := ⟨.hbm, 258, rfl⟩
abbrev main_call0_call0_call0_v165 : Ref sig .tc := ⟨.hbm, 259, rfl⟩
abbrev main_call0_call0_call0_c_43 : Ref sig .tc := ⟨.hbm, 260, rfl⟩
abbrev main_call0_call0_call0_v166 : Ref sig .tc := ⟨.hbm, 261, rfl⟩
abbrev main_call0_call0_call0_v167 : Ref sig .tc := ⟨.hbm, 262, rfl⟩
abbrev main_call0_call0_call0_v168 : Ref sig .tc := ⟨.hbm, 263, rfl⟩
abbrev main_call0_call0_call0_v169 : Ref sig .tc := ⟨.hbm, 264, rfl⟩
abbrev main_call0_call0_call0_v170 : Ref sig .tc := ⟨.hbm, 265, rfl⟩
abbrev main_call0_call0_v18_0 : Ref sig .tc := ⟨.hbm, 266, rfl⟩
abbrev main_call0_call0_call0_v172 : Ref sig .tc := ⟨.hbm, 267, rfl⟩
abbrev main_call0_call0_call0_v173 : Ref sig .tc := ⟨.hbm, 268, rfl⟩
abbrev main_call0_call0_call0_c_44 : Ref sig .tc := ⟨.hbm, 269, rfl⟩
abbrev main_call0_call0_call0_v174 : Ref sig .tc := ⟨.hbm, 270, rfl⟩
abbrev main_call0_call0_v18_1 : Ref sig .tc := ⟨.hbm, 271, rfl⟩
abbrev main_call0_call0_v19 : Ref sig .tc := ⟨.hbm, 272, rfl⟩
abbrev main_call0_call0_c_2 : Ref sig .tc := ⟨.hbm, 273, rfl⟩
abbrev main_call0_call0_v20 : Ref sig .tc := ⟨.hbm, 274, rfl⟩
abbrev main_call0_call0_v21 : Ref sig .tc := ⟨.hbm, 275, rfl⟩
abbrev main_call0_call0_c_3 : Ref sig .tc := ⟨.hbm, 276, rfl⟩
abbrev main_call0_call0_v22 : Ref sig .tc := ⟨.hbm, 277, rfl⟩
abbrev main_call0_call0_v23 : Ref sig .tc := ⟨.hbm, 278, rfl⟩
abbrev main_call0_call0_v24 : Ref sig .tc := ⟨.hbm, 279, rfl⟩
abbrev main_call0_call0_cst : Ref sig .tc := ⟨.hbm, 280, rfl⟩
abbrev main_call0_call0_v25 : Ref sig .tc := ⟨.hbm, 281, rfl⟩
abbrev main_call0_call0_v26 : Ref sig .tc := ⟨.hbm, 282, rfl⟩
abbrev main_call0_call0_v27 : Ref sig .tc := ⟨.hbm, 283, rfl⟩
abbrev main_call0_call0_v28 : Ref sig .tc := ⟨.hbm, 284, rfl⟩
abbrev main_call0_call0_v29 : Ref sig .tc := ⟨.hbm, 285, rfl⟩
abbrev main_call0_call0_v30 : Ref sig .tc := ⟨.hbm, 286, rfl⟩
abbrev main_call0_call0_v31 : Ref sig .tc := ⟨.hbm, 287, rfl⟩
abbrev main_call0_call0_v32 : Ref sig .tc := ⟨.hbm, 288, rfl⟩
abbrev main_call0_v0 : Ref sig .tc := ⟨.hbm, 289, rfl⟩
abbrev main_call0_v1 : Ref sig .tc := ⟨.hbm, 290, rfl⟩
abbrev main_call0_v2 : Ref sig .tc := ⟨.hbm, 291, rfl⟩
abbrev main_call0_v3 : Ref sig .tc := ⟨.hbm, 292, rfl⟩
abbrev main_v10 : Ref sig .tc := ⟨.hbm, 293, rfl⟩
abbrev main_v11 : Ref sig .tc := ⟨.hbm, 294, rfl⟩
abbrev main_v12 : Ref sig .tc := ⟨.hbm, 295, rfl⟩
abbrev main_v13 : Ref sig .tc := ⟨.hbm, 296, rfl⟩
abbrev main_v14 : Ref sig .tc := ⟨.hbm, 297, rfl⟩
abbrev main_v15 : Ref sig .tc := ⟨.hbm, 298, rfl⟩
abbrev main_v16 : Ref sig .tc := ⟨.hbm, 299, rfl⟩
abbrev main_v17_0 : Ref sig .tc := ⟨.hbm, 300, rfl⟩
abbrev main_v17_1 : Ref sig .tc := ⟨.hbm, 301, rfl⟩
abbrev main_v17_2 : Ref sig .tc := ⟨.hbm, 302, rfl⟩
abbrev main_v17_3 : Ref sig .tc := ⟨.hbm, 303, rfl⟩
abbrev main_v18 : Ref sig .tc := ⟨.hbm, 304, rfl⟩
abbrev main_v19 : Ref sig .tc := ⟨.hbm, 305, rfl⟩
abbrev main_v20 : Ref sig .tc := ⟨.hbm, 306, rfl⟩
abbrev main_c_2 : Ref sig .tc := ⟨.hbm, 307, rfl⟩
abbrev main_v21 : Ref sig .tc := ⟨.hbm, 308, rfl⟩
abbrev main_v22 : Ref sig .tc := ⟨.hbm, 309, rfl⟩
abbrev main_v23 : Ref sig .tc := ⟨.hbm, 310, rfl⟩
abbrev main_v24 : Ref sig .tc := ⟨.hbm, 311, rfl⟩
abbrev main_call1_v0 : Ref sig .tc := ⟨.hbm, 312, rfl⟩
abbrev main_v25 : Ref sig .tc := ⟨.hbm, 313, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg17_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_stg16_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem16_0 : DmaSem sig := 19
abbrev cc0_sem17_0 : DmaSem sig := 20

abbrev nD : Nat := 1
abbrev τ : Topo := Topo.v7x

variable {F : FTy → Type} [FloatOps F]

abbrev grid0 : Pipeline.Grid := ⟨2, ![4, 2], ![false, false]⟩

def k0_off1 (i : grid0.Coords) : Fin 2 → Nat :=
  let arg0 : BitVec 32 := BitVec.ofNat 32 (i 0).val
  let c2_i32 : BitVec 32 := 2#32
  let v24 : BitVec 32 := Scalar.muli arg0 c2_i32
  let arg1 : BitVec 32 := BitVec.ofNat 32 (i 1).val
  let v25 : BitVec 32 := Scalar.addi v24 arg1
  let v26 : Index := Scalar.indexCast v25
  let c0_19 : Index := 0#32
  ![v26.toNat, 0]
def k0_cond2 (i : grid0.Coords) : BitVec 1 :=
  let arg0 : BitVec 32 := BitVec.ofNat 32 (i 0).val
  let c3_i32 : BitVec 32 := 3#32
  let v30 : BitVec 1 := Scalar.cmpi .eq arg0 c3_i32
  let arg1 : BitVec 32 := BitVec.ofNat 32 (i 1).val
  let c1_i32 : BitVec 32 := 1#32
  let v31 : BitVec 1 := Scalar.cmpi .eq arg1 c1_i32
  let v32 : BitVec 1 := Scalar.andi v30 v31
  let v33 : BitVec 32 := Scalar.extui v32
  let c0_i32_20 : BitVec 32 := 0#32
  let v34 : BitVec 1 := Scalar.cmpi .ne v33 c0_i32_20
  v34

def k0_off2 (v96 : BitVec 32) : Fin 2 → Nat :=
  let c0_i32_47 : BitVec 32 := 0#32
  ![v96.toNat, 0]

def k0_chk1 (i : grid0.Coords) (v96 : BitVec 32) : Prop :=
  (∀ (k0_h2 : k0_cond2 i = 1#1), ∀ a, (k0_off2 v96) a + S1x256.size a ≤ S131072x256.size a)
theorem k0_off2_inb : ∀ (i : grid0.Coords) (v96 : BitVec 32) (k0_hw1 : k0_chk1 i v96), ∀ (k0_h2 : k0_cond2 i = 1#1), ∀ a, (k0_off2 v96) a + S1x256.size a ≤ S131072x256.size a := fun i v96 k0_hw1 k0_h2 => k0_hw1 k0_h2

def k0_off3 (v152 : BitVec 32) : Fin 2 → Nat :=
  let c0_i32_73 : BitVec 32 := 0#32
  ![v152.toNat, 0]

def k0_chk2 (i : grid0.Coords) (v152 : BitVec 32) : Prop :=
  (∀ (k0_h2 : k0_cond2 i = 1#1), ∀ a, (k0_off3 v152) a + S1x256.size a ≤ S131072x256.size a)
theorem k0_off3_inb : ∀ (i : grid0.Coords) (v152 : BitVec 32) (k0_hw2 : k0_chk2 i v152), ∀ (k0_h2 : k0_cond2 i = 1#1), ∀ a, (k0_off3 v152) a + S1x256.size a ≤ S131072x256.size a := fun i v152 k0_hw2 k0_h2 => k0_hw2 k0_h2

def k0_off4 (v208 : BitVec 32) : Fin 2 → Nat :=
  let c0_i32_100 : BitVec 32 := 0#32
  ![v208.toNat, 0]

def k0_chk3 (i : grid0.Coords) (v208 : BitVec 32) : Prop :=
  (∀ (k0_h2 : k0_cond2 i = 1#1), ∀ a, (k0_off4 v208) a + S1x256.size a ≤ S131072x256.size a)
theorem k0_off4_inb : ∀ (i : grid0.Coords) (v208 : BitVec 32) (k0_hw3 : k0_chk3 i v208), ∀ (k0_h2 : k0_cond2 i = 1#1), ∀ a, (k0_off4 v208) a + S1x256.size a ≤ S131072x256.size a := fun i v208 k0_hw3 k0_h2 => k0_hw3 k0_h2

def k0_off5 (v264 : BitVec 32) : Fin 2 → Nat :=
  let c0_i32_126 : BitVec 32 := 0#32
  ![v264.toNat, 0]

def k0_chk4 (i : grid0.Coords) (v264 : BitVec 32) : Prop :=
  (∀ (k0_h2 : k0_cond2 i = 1#1), ∀ a, (k0_off5 v264) a + S1x256.size a ≤ S131072x256.size a)
theorem k0_off5_inb : ∀ (i : grid0.Coords) (v264 : BitVec 32) (k0_hw4 : k0_chk4 i v264), ∀ (k0_h2 : k0_cond2 i = 1#1), ∀ a, (k0_off5 v264) a + S1x256.size a ≤ S131072x256.size a := fun i v264 k0_hw4 k0_h2 => k0_hw4 k0_h2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x16384x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S8x16384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8x16384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x1x16384 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S8x16384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .smem S1x4 .i32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S4x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]
-- ==== ReferenceIdeal.lean ====
abbrev S4x1 : Shape := ⟨2, ![4, 1]⟩
abbrev S4x1x512 : Shape := ⟨3, ![4, 1, 512]⟩
abbrev S4x1x16x2048x256 : Shape := ⟨5, ![4, 1, 16, 2048, 256]⟩
abbrev S4x1x16x2048 : Shape := ⟨4, ![4, 1, 16, 2048]⟩
abbrev S512x256 : Shape := ⟨2, ![512, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S256x512 : Shape := ⟨2, ![256, 512]⟩
abbrev S512 : Shape := ⟨1, ![512]⟩
abbrev S4x1x256 : Shape := ⟨3, ![4, 1, 256]⟩
abbrev S1x1x256 : Shape := ⟨3, ![1, 1, 256]⟩
abbrev S_ : Shape := ⟨0, ![]⟩
abbrev S4x1x128 : Shape := ⟨3, ![4, 1, 128]⟩
abbrev S1x1x128 : Shape := ⟨3, ![1, 1, 128]⟩
abbrev S4x1x1x1x128 : Shape := ⟨5, ![4, 1, 1, 1, 128]⟩
abbrev S1x1x1x1x256 : Shape := ⟨5, ![1, 1, 1, 1, 256]⟩
abbrev S4x1x16x2048x128 : Shape := ⟨5, ![4, 1, 16, 2048, 128]⟩
abbrev S1x1x1x1x128 : Shape := ⟨5, ![1, 1, 1, 1, 128]⟩
abbrev S4x1x16x128x2048 : Shape := ⟨5, ![4, 1, 16, 128, 2048]⟩
abbrev S4x16x128x2048 : Shape := ⟨4, ![4, 16, 128, 2048]⟩
abbrev S4x16x1x2048 : Shape := ⟨4, ![4, 16, 1, 2048]⟩
abbrev S4x1x16x1x2048 : Shape := ⟨5, ![4, 1, 16, 1, 2048]⟩
abbrev S4x1x32768 : Shape := ⟨3, ![4, 1, 32768]⟩
abbrev S4x32768 : Shape := ⟨2, ![4, 32768]⟩
abbrev S4x1x1 : Shape := ⟨3, ![4, 1, 1]⟩
abbrev S1 : Shape := ⟨1, ![1]⟩
abbrev S2 : Shape := ⟨1, ![2]⟩
abbrev S1x1 : Shape := ⟨2, ![1, 1]⟩
abbrev S4 : Shape := ⟨1, ![4]⟩
abbrev S131072x256 : Shape := ⟨2, ![131072, 256]⟩
abbrev S1x1x512 : Shape := ⟨3, ![1, 1, 512]⟩

abbrev nBuf : Space → Nat
  | .hbm => 397
  | .vmem => 0
  | .smem => 0
  | _ => 0

abbrev hbmTy0_0 (i : Nat) : BufTy := match i % 128 with
  | 0 => ⟨S4x1, .i32⟩
  | 1 => ⟨S4x1x512, .f32⟩
  | 2 => ⟨S4x1x16x2048x256, .f32⟩
  | 3 => ⟨S4x1x16x2048, .i1⟩
  | 4 => ⟨S512x256, .f32⟩
  | 5 => ⟨S256, .f32⟩
  | 6 => ⟨S256x128, .f32⟩
  | 7 => ⟨S128, .f32⟩
  | 8 => ⟨S256x256, .f32⟩
  | 9 => ⟨S256, .f32⟩
  | 10 => ⟨S256x128, .f32⟩
  | 11 => ⟨S128, .f32⟩
  | 12 => ⟨S256x512, .f32⟩
  | 13 => ⟨S512, .f32⟩
  | 14 => ⟨S4x1x256, .f32⟩
  | 15 => ⟨S1x1x256, .f32⟩
  | 16 => ⟨S4x1x256, .f32⟩
  | 17 => ⟨S4x1x256, .f32⟩
  | 18 => ⟨S_, .f32⟩
  | 19 => ⟨S4x1x256, .f32⟩
  | 20 => ⟨S4x1x256, .f32⟩
  | 21 => ⟨S4x1x128, .f32⟩
  | 22 => ⟨S1x1x128, .f32⟩
  | 23 => ⟨S4x1x128, .f32⟩
  | 24 => ⟨S4x1x128, .f32⟩
  | 25 => ⟨S4x1x1x1x128, .f32⟩
  | 26 => ⟨S4x1x16x2048x256, .f32⟩
  | 27 => ⟨S1x1x1x1x256, .f32⟩
  | 28 => ⟨S4x1x16x2048x256, .f32⟩
  | 29 => ⟨S4x1x16x2048x256, .f32⟩
  | 30 => ⟨S_, .f32⟩
  | 31 => ⟨S4x1x16x2048x256, .f32⟩
  | 32 => ⟨S4x1x16x2048x256, .f32⟩
  | 33 => ⟨S4x1x16x2048x128, .f32⟩
  | 34 => ⟨S1x1x1x1x128, .f32⟩
  | 35 => ⟨S4x1x16x2048x128, .f32⟩
  | 36 => ⟨S4x1x16x2048x128, .f32⟩
  | 37 => ⟨S4x1x16x128x2048, .f32⟩
  | 38 => ⟨S4x1x128, .f32⟩
  | 39 => ⟨S4x16x128x2048, .f32⟩
  | 40 => ⟨S4x1x16x2048, .f32⟩
  | 41 => ⟨S4x16x1x2048, .f32⟩
  | 42 => ⟨S4x1x16x1x2048, .f32⟩
  | 43 => ⟨S4x1x32768, .f32⟩
  | 44 => ⟨S4x32768, .i1⟩
  | 45 => ⟨S4x32768, .i32⟩
  | 46 => ⟨S_, .i32⟩
  | 47 => ⟨S_, .i32⟩
  | 48 => ⟨S_, .i32⟩
  | 49 => ⟨S_, .i1⟩
  | 50 => ⟨S_, .i1⟩
  | 51 => ⟨S4x32768, .i1⟩
  | 52 => ⟨S4x32768, .i1⟩
  | 53 => ⟨S4x1x32768, .i1⟩
  | 54 => ⟨S_, .f32⟩
  | 55 => ⟨S4x1, .f32⟩
  | 56 => ⟨S4x1x1, .f32⟩
  | 57 => ⟨S4x1x32768, .f32⟩
  | 58 => ⟨S4x1x32768, .f32⟩
  | 59 => ⟨S_, .f32⟩
  | 60 => ⟨S4x1, .f32⟩
  | 61 => ⟨S4x1x1, .f32⟩
  | 62 => ⟨S4x1x32768, .f32⟩
  | 63 => ⟨S4x1x32768, .f32⟩
  | 64 => ⟨S4x1x32768, .f32⟩
  | 65 => ⟨S4x1x32768, .f32⟩
  | 66 => ⟨S4x1x32768, .f32⟩
  | 67 => ⟨S_, .f32⟩
  | 68 => ⟨S_, .f32⟩
  | 69 => ⟨S4x1x32768, .f32⟩
  | 70 => ⟨S4x1x32768, .f32⟩
  | 71 => ⟨S_, .f32⟩
  | 72 => ⟨S4x1, .f32⟩
  | 73 => ⟨S4x1x1, .f32⟩
  | 74 => ⟨S4x1x32768, .f32⟩
  | 75 => ⟨S4x1x32768, .f32⟩
  | 76 => ⟨S4x32768, .f32⟩
  | 77 => ⟨S_, .i32⟩
  | 78 => ⟨S_, .i32⟩
  | 79 => ⟨S_, .i32⟩
  | 80 => ⟨S_, .i32⟩
  | 81 => ⟨S1, .i32⟩
  | 82 => ⟨S_, .i32⟩
  | 83 => ⟨S_, .i32⟩
  | 84 => ⟨S_, .i32⟩
  | 85 => ⟨S1, .i32⟩
  | 86 => ⟨S2, .i32⟩
  | 87 => ⟨S_, .f32⟩
  | 88 => ⟨S4x32768, .f32⟩
  | 89 => ⟨S4x32768, .f32⟩
  | 90 => ⟨S4x32768, .f32⟩
  | 91 => ⟨S_, .f32⟩
  | 92 => ⟨S_, .f32⟩
  | 93 => ⟨S_, .f32⟩
  | 94 => ⟨S1x1, .f32⟩
  | 95 => ⟨S1x1, .f32⟩
  | 96 => ⟨S1, .i32⟩
  | 97 => ⟨S_, .i32⟩
  | 98 => ⟨S1, .i32⟩
  | 99 => ⟨S_, .i32⟩
  | 100 => ⟨S4x32768, .i64⟩
  | 101 => ⟨S4x32768, .i64⟩
  | 102 => ⟨S_, .i64⟩
  | 103 => ⟨S4x32768, .i64⟩
  | 104 => ⟨S4x32768, .i64⟩
  | 105 => ⟨S_, .i64⟩
  | 106 => ⟨S4x32768, .i64⟩
  | 107 => ⟨S4x32768, .i64⟩
  | 108 => ⟨S4x32768, .i64⟩
  | 109 => ⟨S_, .i64⟩
  | 110 => ⟨S4x32768, .i64⟩
  | 111 => ⟨S4x32768, .i64⟩
  | 112 => ⟨S4x32768, .i32⟩
  | 113 => ⟨S4x32768, .i32⟩
  | 114 => ⟨S_, .i32⟩
  | 115 => ⟨S_, .i32⟩
  | 116 => ⟨S_, .i32⟩
  | 117 => ⟨S4x32768, .i32⟩
  | 118 => ⟨S4x32768, .i32⟩
  | 119 => ⟨S4x32768, .i32⟩
  | 120 => ⟨S4x32768, .i32⟩
  | 121 => ⟨S4x32768, .i32⟩
  | 122 => ⟨S_, .i32⟩
  | 123 => ⟨S4x32768, .i32⟩
  | 124 => ⟨S4x32768, .i32⟩
  | 125 => ⟨S_, .i32⟩
  | 126 => ⟨S4x32768, .i32⟩
  | 127 => ⟨S4x32768, .i32⟩
  | _ => ⟨S4x1, .i32⟩

abbrev hbmTy0_1 (i : Nat) : BufTy := match i % 128 with
  | 0 => ⟨S4x32768, .i32⟩
  | 1 => ⟨S4x32768, .i32⟩
  | 2 => ⟨S4x32768, .i32⟩
  | 3 => ⟨S_, .i32⟩
  | 4 => ⟨S4x32768, .i32⟩
  | 5 => ⟨S4x32768, .i32⟩
  | 6 => ⟨S_, .i32⟩
  | 7 => ⟨S4x32768, .i32⟩
  | 8 => ⟨S4x32768, .i32⟩
  | 9 => ⟨S4x32768, .i32⟩
  | 10 => ⟨S4x32768, .i32⟩
  | 11 => ⟨S4x32768, .i32⟩
  | 12 => ⟨S_, .i32⟩
  | 13 => ⟨S4x32768, .i32⟩
  | 14 => ⟨S4x32768, .i32⟩
  | 15 => ⟨S_, .i32⟩
  | 16 => ⟨S4x32768, .i32⟩
  | 17 => ⟨S4x32768, .i32⟩
  | 18 => ⟨S4x32768, .i32⟩
  | 19 => ⟨S4x32768, .i32⟩
  | 20 => ⟨S4x32768, .i32⟩
  | 21 => ⟨S_, .i32⟩
  | 22 => ⟨S4x32768, .i32⟩
  | 23 => ⟨S4x32768, .i32⟩
  | 24 => ⟨S_, .i32⟩
  | 25 => ⟨S4x32768, .i32⟩
  | 26 => ⟨S4x32768, .i32⟩
  | 27 => ⟨S4x32768, .i32⟩
  | 28 => ⟨S4x32768, .i32⟩
  | 29 => ⟨S4x32768, .i32⟩
  | 30 => ⟨S4x32768, .i32⟩
  | 31 => ⟨S4x32768, .i32⟩
  | 32 => ⟨S4x32768, .i32⟩
  | 33 => ⟨S_, .i32⟩
  | 34 => ⟨S4x32768, .i32⟩
  | 35 => ⟨S4x32768, .i32⟩
  | 36 => ⟨S4x32768, .i32⟩
  | 37 => ⟨S_, .i32⟩
  | 38 => ⟨S4x32768, .i32⟩
  | 39 => ⟨S4x32768, .i32⟩
  | 40 => ⟨S_, .i32⟩
  | 41 => ⟨S4x32768, .i32⟩
  | 42 => ⟨S4x32768, .i32⟩
  | 43 => ⟨S4x32768, .i32⟩
  | 44 => ⟨S4x32768, .i32⟩
  | 45 => ⟨S4x32768, .i32⟩
  | 46 => ⟨S_, .i32⟩
  | 47 => ⟨S4x32768, .i32⟩
  | 48 => ⟨S4x32768, .i32⟩
  | 49 => ⟨S_, .i32⟩
  | 50 => ⟨S4x32768, .i32⟩
  | 51 => ⟨S4x32768, .i32⟩
  | 52 => ⟨S4x32768, .i32⟩
  | 53 => ⟨S4x32768, .i32⟩
  | 54 => ⟨S4x32768, .i32⟩
  | 55 => ⟨S_, .i32⟩
  | 56 => ⟨S4x32768, .i32⟩
  | 57 => ⟨S4x32768, .i32⟩
  | 58 => ⟨S_, .i32⟩
  | 59 => ⟨S4x32768, .i32⟩
  | 60 => ⟨S4x32768, .i32⟩
  | 61 => ⟨S4x32768, .i32⟩
  | 62 => ⟨S4x32768, .i32⟩
  | 63 => ⟨S4x32768, .i32⟩
  | 64 => ⟨S_, .i32⟩
  | 65 => ⟨S4x32768, .i32⟩
  | 66 => ⟨S4x32768, .i32⟩
  | 67 => ⟨S_, .i32⟩
  | 68 => ⟨S4x32768, .i32⟩
  | 69 => ⟨S4x32768, .i32⟩
  | 70 => ⟨S4x32768, .i32⟩
  | 71 => ⟨S4x32768, .i32⟩
  | 72 => ⟨S4x32768, .i32⟩
  | 73 => ⟨S4x32768, .i32⟩
  | 74 => ⟨S4x32768, .i32⟩
  | 75 => ⟨S4x32768, .i32⟩
  | 76 => ⟨S_, .i32⟩
  | 77 => ⟨S4x32768, .i32⟩
  | 78 => ⟨S4x32768, .i32⟩
  | 79 => ⟨S4x32768, .i32⟩
  | 80 => ⟨S_, .i32⟩
  | 81 => ⟨S4x32768, .i32⟩
  | 82 => ⟨S4x32768, .i32⟩
  | 83 => ⟨S_, .i32⟩
  | 84 => ⟨S4x32768, .i32⟩
  | 85 => ⟨S4x32768, .i32⟩
  | 86 => ⟨S4x32768, .i32⟩
  | 87 => ⟨S4x32768, .i32⟩
  | 88 => ⟨S4x32768, .i32⟩
  | 89 => ⟨S_, .i32⟩
  | 90 => ⟨S4x32768, .i32⟩
  | 91 => ⟨S4x32768, .i32⟩
  | 92 => ⟨S_, .i32⟩
  | 93 => ⟨S4x32768, .i32⟩
  | 94 => ⟨S4x32768, .i32⟩
  | 95 => ⟨S4x32768, .i32⟩
  | 96 => ⟨S4x32768, .i32⟩
  | 97 => ⟨S4x32768, .i32⟩
  | 98 => ⟨S_, .i32⟩
  | 99 => ⟨S4x32768, .i32⟩
  | 100 => ⟨S4x32768, .i32⟩
  | 101 => ⟨S_, .i32⟩
  | 102 => ⟨S4x32768, .i32⟩
  | 103 => ⟨S4x32768, .i32⟩
  | 104 => ⟨S4x32768, .i32⟩
  | 105 => ⟨S4x32768, .i32⟩
  | 106 => ⟨S4x32768, .i32⟩
  | 107 => ⟨S_, .i32⟩
  | 108 => ⟨S4x32768, .i32⟩
  | 109 => ⟨S4x32768, .i32⟩
  | 110 => ⟨S_, .i32⟩
  | 111 => ⟨S4x32768, .i32⟩
  | 112 => ⟨S4x32768, .i32⟩
  | 113 => ⟨S4x32768, .i32⟩
  | 114 => ⟨S4x32768, .i32⟩
  | 115 => ⟨S4x32768, .i32⟩
  | 116 => ⟨S4x32768, .i32⟩
  | 117 => ⟨S4x32768, .i32⟩
  | 118 => ⟨S4x32768, .i32⟩
  | 119 => ⟨S_, .i32⟩
  | 120 => ⟨S4x32768, .i32⟩
  | 121 => ⟨S4x32768, .i32⟩
  | 122 => ⟨S4x32768, .i32⟩
  | 123 => ⟨S_, .i32⟩
  | 124 => ⟨S4x32768, .i32⟩
  | 125 => ⟨S4x32768, .i32⟩
  | 126 => ⟨S_, .i32⟩
  | 127 => ⟨S4x32768, .i32⟩
  | _ => ⟨S4x1, .i32⟩

abbrev hbmTy0_2 (i : Nat) : BufTy := match i % 128 with
  | 0 => ⟨S4x32768, .i32⟩
  | 1 => ⟨S4x32768, .i32⟩
  | 2 => ⟨S4x32768, .i32⟩
  | 3 => ⟨S4x32768, .i32⟩
  | 4 => ⟨S_, .i32⟩
  | 5 => ⟨S4x32768, .i32⟩
  | 6 => ⟨S4x32768, .i32⟩
  | 7 => ⟨S_, .i32⟩
  | 8 => ⟨S4x32768, .i32⟩
  | 9 => ⟨S4x32768, .i32⟩
  | 10 => ⟨S4x32768, .i32⟩
  | 11 => ⟨S4x32768, .i32⟩
  | 12 => ⟨S4x32768, .i32⟩
  | 13 => ⟨S_, .i32⟩
  | 14 => ⟨S4x32768, .i32⟩
  | 15 => ⟨S4x32768, .i32⟩
  | 16 => ⟨S_, .i32⟩
  | 17 => ⟨S4x32768, .i32⟩
  | 18 => ⟨S4x32768, .i32⟩
  | 19 => ⟨S4x32768, .i32⟩
  | 20 => ⟨S4x32768, .i32⟩
  | 21 => ⟨S4x32768, .i32⟩
  | 22 => ⟨S_, .i32⟩
  | 23 => ⟨S4x32768, .i32⟩
  | 24 => ⟨S4x32768, .i32⟩
  | 25 => ⟨S_, .i32⟩
  | 26 => ⟨S4x32768, .i32⟩
  | 27 => ⟨S4x32768, .i32⟩
  | 28 => ⟨S4x32768, .i32⟩
  | 29 => ⟨S4x32768, .i32⟩
  | 30 => ⟨S4x32768, .i32⟩
  | 31 => ⟨S4x32768, .i32⟩
  | 32 => ⟨S4x32768, .i32⟩
  | 33 => ⟨S4x32768, .i32⟩
  | 34 => ⟨S_, .i32⟩
  | 35 => ⟨S4x32768, .i32⟩
  | 36 => ⟨S4x32768, .i32⟩
  | 37 => ⟨S4x32768, .i32⟩
  | 38 => ⟨S_, .i32⟩
  | 39 => ⟨S4x32768, .i32⟩
  | 40 => ⟨S4x32768, .i32⟩
  | 41 => ⟨S_, .i32⟩
  | 42 => ⟨S4x32768, .i32⟩
  | 43 => ⟨S4x32768, .i32⟩
  | 44 => ⟨S4x32768, .i32⟩
  | 45 => ⟨S4x32768, .i32⟩
  | 46 => ⟨S4x32768, .i32⟩
  | 47 => ⟨S_, .i32⟩
  | 48 => ⟨S4x32768, .i32⟩
  | 49 => ⟨S4x32768, .i32⟩
  | 50 => ⟨S_, .i32⟩
  | 51 => ⟨S4x32768, .i32⟩
  | 52 => ⟨S4x32768, .i32⟩
  | 53 => ⟨S4x32768, .i32⟩
  | 54 => ⟨S4x32768, .i32⟩
  | 55 => ⟨S4x32768, .i32⟩
  | 56 => ⟨S_, .i32⟩
  | 57 => ⟨S4x32768, .i32⟩
  | 58 => ⟨S4x32768, .i32⟩
  | 59 => ⟨S_, .i32⟩
  | 60 => ⟨S4x32768, .i32⟩
  | 61 => ⟨S4x32768, .i32⟩
  | 62 => ⟨S4x32768, .i32⟩
  | 63 => ⟨S4x32768, .i32⟩
  | 64 => ⟨S4x32768, .i32⟩
  | 65 => ⟨S_, .i32⟩
  | 66 => ⟨S4x32768, .i32⟩
  | 67 => ⟨S4x32768, .i32⟩
  | 68 => ⟨S_, .i32⟩
  | 69 => ⟨S4x32768, .i32⟩
  | 70 => ⟨S4x32768, .i32⟩
  | 71 => ⟨S4x32768, .i32⟩
  | 72 => ⟨S4x32768, .i32⟩
  | 73 => ⟨S4x32768, .i32⟩
  | 74 => ⟨S4x32768, .i32⟩
  | 75 => ⟨S4x32768, .i32⟩
  | 76 => ⟨S4x32768, .i32⟩
  | 77 => ⟨S_, .i32⟩
  | 78 => ⟨S4x32768, .i32⟩
  | 79 => ⟨S4x32768, .i32⟩
  | 80 => ⟨S4x32768, .i32⟩
  | 81 => ⟨S_, .i32⟩
  | 82 => ⟨S4x32768, .i32⟩
  | 83 => ⟨S4x32768, .i32⟩
  | 84 => ⟨S_, .i32⟩
  | 85 => ⟨S4x32768, .i32⟩
  | 86 => ⟨S4x32768, .i32⟩
  | 87 => ⟨S4x32768, .f32⟩
  | 88 => ⟨S_, .f32⟩
  | 89 => ⟨S4x32768, .f32⟩
  | 90 => ⟨S4x32768, .f32⟩
  | 91 => ⟨S1x1, .f32⟩
  | 92 => ⟨S4x32768, .f32⟩
  | 93 => ⟨S4x32768, .f32⟩
  | 94 => ⟨S4x32768, .f32⟩
  | 95 => ⟨S4x32768, .f32⟩
  | 96 => ⟨S4x32768, .f32⟩
  | 97 => ⟨S4x32768, .f32⟩
  | 98 => ⟨S4x32768, .f32⟩
  | 99 => ⟨S4x32768, .f32⟩
  | 100 => ⟨S4x32768, .f32⟩
  | 101 => ⟨S4x32768, .f32⟩
  | 102 => ⟨S4x32768, .f32⟩
  | 103 => ⟨S4x32768, .i32⟩
  | 104 => ⟨S_, .f32⟩
  | 105 => ⟨S_, .i32⟩
  | 106 => ⟨S4, .f32⟩
  | 107 => ⟨S4, .i32⟩
  | 108 => ⟨S4x1, .i32⟩
  | 109 => ⟨S4x1x1, .i32⟩
  | 110 => ⟨S1, .i32⟩
  | 111 => ⟨S_, .i32⟩
  | 112 => ⟨S1, .i32⟩
  | 113 => ⟨S1, .i32⟩
  | 114 => ⟨S_, .i32⟩
  | 115 => ⟨S1, .i32⟩
  | 116 => ⟨S1, .i32⟩
  | 117 => ⟨S1x1, .i32⟩
  | 118 => ⟨S4x1, .i32⟩
  | 119 => ⟨S4x1, .i32⟩
  | 120 => ⟨S131072x256, .f32⟩
  | 121 => ⟨S_, .i32⟩
  | 122 => ⟨S4x1, .i32⟩
  | 123 => ⟨S4x1, .i1⟩
  | 124 => ⟨S_, .i32⟩
  | 125 => ⟨S4x1, .i32⟩
  | 126 => ⟨S4x1, .i32⟩
  | 127 => ⟨S4x1, .i32⟩
  | _ => ⟨S4x1, .i32⟩

abbrev hbmTy0_3 (i : Nat) : BufTy := match i % 128 with
  | 0 => ⟨S4x1x1, .i32⟩
  | 1 => ⟨S4x1x256, .f32⟩
  | 2 => ⟨S4x1x512, .f32⟩
  | 3 => ⟨S1x1x512, .f32⟩
  | 4 => ⟨S4x1x512, .f32⟩
  | 5 => ⟨S4x1x512, .f32⟩
  | 6 => ⟨S_, .i32⟩
  | 7 => ⟨S4x1, .i32⟩
  | 8 => ⟨S4x1, .i1⟩
  | 9 => ⟨S4x1x1, .i1⟩
  | 10 => ⟨S4x1x512, .f32⟩
  | 11 => ⟨S4x1x512, .i1⟩
  | 12 => ⟨S4x1x512, .f32⟩
  | _ => ⟨S4x1, .i32⟩

abbrev hbmTy (i : Nat) : BufTy := match i / 128 with
  | 0 => hbmTy0_0 i
  | 1 => hbmTy0_1 i
  | 2 => hbmTy0_2 i
  | 3 => hbmTy0_3 i
  | _ => ⟨S4x1, .i32⟩

abbrev bufTy : (tb : Table) → Fin (tcTables nBuf tb) → BufTy
  | .hbm, ⟨i, _⟩ => hbmTy i
  | _, _ => ⟨S4x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c : Ref sig .tc := ⟨.hbm, 46, rfl⟩
abbrev main_v30 : Ref sig .tc := ⟨.hbm, 47, rfl⟩
abbrev main_c_1 : Ref sig .tc := ⟨.hbm, 48, rfl⟩
abbrev main_v31 : Ref sig .tc := ⟨.hbm, 49, rfl⟩
abbrev main_c_2 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_3 : Ref sig .tc := ⟨.hbm, 54, rfl⟩
abbrev main_v35 : Ref sig .tc := ⟨.hbm, 55, rfl⟩
abbrev main_v36 : Ref sig .tc := ⟨.hbm, 56, rfl⟩
abbrev main_call1_v0 : Ref sig .tc := ⟨.hbm, 57, rfl⟩
abbrev main_v37 : Ref sig .tc := ⟨.hbm, 58, rfl⟩
abbrev main_cst_4 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_5 : Ref sig .tc := ⟨.hbm, 67, rfl⟩
abbrev main_call2_v0 : Ref sig .tc := ⟨.hbm, 68, rfl⟩
abbrev main_call2_v1 : Ref sig .tc := ⟨.hbm, 69, rfl⟩
abbrev main_v45 : Ref sig .tc := ⟨.hbm, 70, rfl⟩
abbrev main_cst_6 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c_7 : Ref sig .tc := ⟨.hbm, 77, rfl⟩
abbrev main_c_8 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_c_9 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_10 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_call3_cst : Ref sig .tc := ⟨.hbm, 91, rfl⟩
abbrev main_call3_cst_0 : Ref sig .tc := ⟨.hbm, 92, rfl⟩
abbrev main_call3_call0_v0 : Ref sig .tc := ⟨.hbm, 93, rfl⟩
abbrev main_call3_call0_v1 : Ref sig .tc := ⟨.hbm, 94, rfl⟩
abbrev main_call3_call0_v2 : Ref sig .tc := ⟨.hbm, 95, rfl⟩
abbrev main_call3_call0_v3 : Ref sig .tc := ⟨.hbm, 96, rfl⟩
abbrev main_call3_call0_v4 : Ref sig .tc := ⟨.hbm, 97, rfl⟩
abbrev main_call3_call0_v5 : Ref sig .tc := ⟨.hbm, 98, rfl⟩
abbrev main_call3_call0_v6 : Ref sig .tc := ⟨.hbm, 99, rfl⟩
abbrev main_call3_call0_v7 : Ref sig .tc := ⟨.hbm, 100, rfl⟩
abbrev main_call3_call0_v8 : Ref sig .tc := ⟨.hbm, 101, rfl⟩
abbrev main_call3_call0_c : Ref sig .tc := ⟨.hbm, 102, rfl⟩
abbrev main_call3_call0_v9 : Ref sig .tc := ⟨.hbm, 103, rfl⟩
abbrev main_call3_call0_v10 : Ref sig .tc := ⟨.hbm, 104, rfl⟩
abbrev main_call3_call0_c_0 : Ref sig .tc := ⟨.hbm, 105, rfl⟩
abbrev main_call3_call0_v11 : Ref sig .tc := ⟨.hbm, 106, rfl⟩
abbrev main_call3_call0_v12 : Ref sig .tc := ⟨.hbm, 107, rfl⟩
abbrev main_call3_call0_v13 : Ref sig .tc := ⟨.hbm, 108, rfl⟩
abbrev main_call3_call0_c_1 : Ref sig .tc := ⟨.hbm, 109, rfl⟩
abbrev main_call3_call0_v14 : Ref sig .tc := ⟨.hbm, 110, rfl⟩
abbrev main_call3_call0_v15 : Ref sig .tc := ⟨.hbm, 111, rfl⟩
abbrev main_call3_call0_v16 : Ref sig .tc := ⟨.hbm, 112, rfl⟩
abbrev main_call3_call0_v17 : Ref sig .tc := ⟨.hbm, 113, rfl⟩
abbrev main_call3_call0_call0_v0 : Ref sig .tc := ⟨.hbm, 114, rfl⟩
abbrev main_call3_call0_call0_c : Ref sig .tc := ⟨.hbm, 115, rfl⟩
abbrev main_call3_call0_call0_v1 : Ref sig .tc := ⟨.hbm, 116, rfl⟩
abbrev main_call3_call0_call0_v2 : Ref sig .tc := ⟨.hbm, 117, rfl⟩
abbrev main_call3_call0_call0_v3 : Ref sig .tc := ⟨.hbm, 118, rfl⟩
abbrev main_call3_call0_call0_v4 : Ref sig .tc := ⟨.hbm, 119, rfl⟩
abbrev main_call3_call0_call0_v5 : Ref sig .tc := ⟨.hbm, 120, rfl⟩
abbrev main_call3_call0_call0_v6 : Ref sig .tc := ⟨.hbm, 121, rfl⟩
abbrev main_call3_call0_call0_c_0 : Ref sig .tc := ⟨.hbm, 122, rfl⟩
abbrev main_call3_call0_call0_v7 : Ref sig .tc := ⟨.hbm, 123, rfl⟩
abbrev main_call3_call0_call0_v8 : Ref sig .tc := ⟨.hbm, 124, rfl⟩
abbrev main_call3_call0_call0_c_1 : Ref sig .tc := ⟨.hbm, 125, rfl⟩
abbrev main_call3_call0_call0_v9 : Ref sig .tc := ⟨.hbm, 126, rfl⟩
abbrev main_call3_call0_call0_v10 : Ref sig .tc := ⟨.hbm, 127, rfl⟩
abbrev main_call3_call0_call0_v11 : Ref sig .tc := ⟨.hbm, 128, rfl⟩
abbrev main_call3_call0_call0_v12 : Ref sig .tc := ⟨.hbm, 129, rfl⟩
abbrev main_call3_call0_call0_v13 : Ref sig .tc := ⟨.hbm, 130, rfl⟩
abbrev main_call3_call0_call0_c_2 : Ref sig .tc := ⟨.hbm, 131, rfl⟩
abbrev main_call3_call0_call0_v14 : Ref sig .tc := ⟨.hbm, 132, rfl⟩
abbrev main_call3_call0_call0_v15 : Ref sig .tc := ⟨.hbm, 133, rfl⟩
abbrev main_call3_call0_call0_c_3 : Ref sig .tc := ⟨.hbm, 134, rfl⟩
abbrev main_call3_call0_call0_v16 : Ref sig .tc := ⟨.hbm, 135, rfl⟩
abbrev main_call3_call0_call0_v17 : Ref sig .tc := ⟨.hbm, 136, rfl⟩
abbrev main_call3_call0_call0_v18 : Ref sig .tc := ⟨.hbm, 137, rfl⟩
abbrev main_call3_call0_call0_v19 : Ref sig .tc := ⟨.hbm, 138, rfl⟩
abbrev main_call3_call0_call0_v20 : Ref sig .tc := ⟨.hbm, 139, rfl⟩
abbrev main_call3_call0_call0_c_4 : Ref sig .tc := ⟨.hbm, 140, rfl⟩
abbrev main_call3_call0_call0_v21 : Ref sig .tc := ⟨.hbm, 141, rfl⟩
abbrev main_call3_call0_call0_v22 : Ref sig .tc := ⟨.hbm, 142, rfl⟩
abbrev main_call3_call0_call0_c_5 : Ref sig .tc := ⟨.hbm, 143, rfl⟩
abbrev main_call3_call0_call0_v23 : Ref sig .tc := ⟨.hbm, 144, rfl⟩
abbrev main_call3_call0_call0_v24 : Ref sig .tc := ⟨.hbm, 145, rfl⟩
abbrev main_call3_call0_call0_v25 : Ref sig .tc := ⟨.hbm, 146, rfl⟩
abbrev main_call3_call0_call0_v26 : Ref sig .tc := ⟨.hbm, 147, rfl⟩
abbrev main_call3_call0_call0_v27 : Ref sig .tc := ⟨.hbm, 148, rfl⟩
abbrev main_call3_call0_call0_c_6 : Ref sig .tc := ⟨.hbm, 149, rfl⟩
abbrev main_call3_call0_call0_v28 : Ref sig .tc := ⟨.hbm, 150, rfl⟩
abbrev main_call3_call0_call0_v29 : Ref sig .tc := ⟨.hbm, 151, rfl⟩
abbrev main_call3_call0_call0_c_7 : Ref sig .tc := ⟨.hbm, 152, rfl⟩
abbrev main_call3_call0_call0_v30 : Ref sig .tc := ⟨.hbm, 153, rfl⟩
abbrev main_call3_call0_call0_v31 : Ref sig .tc := ⟨.hbm, 154, rfl⟩
abbrev main_call3_call0_call0_v32 : Ref sig .tc := ⟨.hbm, 155, rfl⟩
abbrev main_call3_call0_call0_v33 : Ref sig .tc := ⟨.hbm, 156, rfl⟩
abbrev main_call3_call0_call0_v34 : Ref sig .tc := ⟨.hbm, 157, rfl⟩
abbrev main_call3_call0_call0_v35 : Ref sig .tc := ⟨.hbm, 158, rfl⟩
abbrev main_call3_call0_call0_v36 : Ref sig .tc := ⟨.hbm, 159, rfl⟩
abbrev main_call3_call0_call0_v37 : Ref sig .tc := ⟨.hbm, 160, rfl⟩
abbrev main_call3_call0_call0_c_8 : Ref sig .tc := ⟨.hbm, 161, rfl⟩
abbrev main_call3_call0_call0_v38 : Ref sig .tc := ⟨.hbm, 162, rfl⟩
abbrev main_call3_call0_call0_v39 : Ref sig .tc := ⟨.hbm, 163, rfl⟩
abbrev main_call3_call0_call0_v40 : Ref sig .tc := ⟨.hbm, 164, rfl⟩
abbrev main_call3_call0_call0_c_9 : Ref sig .tc := ⟨.hbm, 165, rfl⟩
abbrev main_call3_call0_call0_v41 : Ref sig .tc := ⟨.hbm, 166, rfl⟩
abbrev main_call3_call0_call0_v42 : Ref sig .tc := ⟨.hbm, 167, rfl⟩
abbrev main_call3_call0_call0_c_10 : Ref sig .tc := ⟨.hbm, 168, rfl⟩
abbrev main_call3_call0_call0_v43 : Ref sig .tc := ⟨.hbm, 169, rfl⟩
abbrev main_call3_call0_call0_v44 : Ref sig .tc := ⟨.hbm, 170, rfl⟩
abbrev main_call3_call0_call0_v45 : Ref sig .tc := ⟨.hbm, 171, rfl⟩
abbrev main_call3_call0_call0_v46 : Ref sig .tc := ⟨.hbm, 172, rfl⟩
abbrev main_call3_call0_call0_v47 : Ref sig .tc := ⟨.hbm, 173, rfl⟩
abbrev main_call3_call0_call0_c_11 : Ref sig .tc := ⟨.hbm, 174, rfl⟩
abbrev main_call3_call0_call0_v48 : Ref sig .tc := ⟨.hbm, 175, rfl⟩
abbrev main_call3_call0_call0_v49 : Ref sig .tc := ⟨.hbm, 176, rfl⟩
abbrev main_call3_call0_call0_c_12 : Ref sig .tc := ⟨.hbm, 177, rfl⟩
abbrev main_call3_call0_call0_v50 : Ref sig .tc := ⟨.hbm, 178, rfl⟩
abbrev main_call3_call0_call0_v51 : Ref sig .tc := ⟨.hbm, 179, rfl⟩
abbrev main_call3_call0_call0_v52 : Ref sig .tc := ⟨.hbm, 180, rfl⟩
abbrev main_call3_call0_call0_v53 : Ref sig .tc := ⟨.hbm, 181, rfl⟩
abbrev main_call3_call0_call0_v54 : Ref sig .tc := ⟨.hbm, 182, rfl⟩
abbrev main_call3_call0_call0_c_13 : Ref sig .tc := ⟨.hbm, 183, rfl⟩
abbrev main_call3_call0_call0_v55 : Ref sig .tc := ⟨.hbm, 184, rfl⟩
abbrev main_call3_call0_call0_v56 : Ref sig .tc := ⟨.hbm, 185, rfl⟩
abbrev main_call3_call0_call0_c_14 : Ref sig .tc := ⟨.hbm, 186, rfl⟩
abbrev main_call3_call0_call0_v57 : Ref sig .tc := ⟨.hbm, 187, rfl⟩
abbrev main_call3_call0_call0_v58 : Ref sig .tc := ⟨.hbm, 188, rfl⟩
abbrev main_call3_call0_call0_v59 : Ref sig .tc := ⟨.hbm, 189, rfl⟩
abbrev main_call3_call0_call0_v60 : Ref sig .tc := ⟨.hbm, 190, rfl⟩
abbrev main_call3_call0_call0_v61 : Ref sig .tc := ⟨.hbm, 191, rfl⟩
abbrev main_call3_call0_call0_c_15 : Ref sig .tc := ⟨.hbm, 192, rfl⟩
abbrev main_call3_call0_call0_v62 : Ref sig .tc := ⟨.hbm, 193, rfl⟩
abbrev main_call3_call0_call0_v63 : Ref sig .tc := ⟨.hbm, 194, rfl⟩
abbrev main_call3_call0_call0_c_16 : Ref sig .tc := ⟨.hbm, 195, rfl⟩
abbrev main_call3_call0_call0_v64 : Ref sig .tc := ⟨.hbm, 196, rfl⟩
abbrev main_call3_call0_call0_v65 : Ref sig .tc := ⟨.hbm, 197, rfl⟩
abbrev main_call3_call0_call0_v66 : Ref sig .tc := ⟨.hbm, 198, rfl⟩
abbrev main_call3_call0_call0_v67 : Ref sig .tc := ⟨.hbm, 199, rfl⟩
abbrev main_call3_call0_call0_v68 : Ref sig .tc := ⟨.hbm, 200, rfl⟩
abbrev main_call3_call0_call0_v69 : Ref sig .tc := ⟨.hbm, 201, rfl⟩
abbrev main_call3_call0_call0_v70 : Ref sig .tc := ⟨.hbm, 202, rfl⟩
abbrev main_call3_call0_call0_v71 : Ref sig .tc := ⟨.hbm, 203, rfl⟩
abbrev main_call3_call0_call0_c_17 : Ref sig .tc := ⟨.hbm, 204, rfl⟩
abbrev main_call3_call0_call0_v72 : Ref sig .tc := ⟨.hbm, 205, rfl⟩
abbrev main_call3_call0_call0_v73 : Ref sig .tc := ⟨.hbm, 206, rfl⟩
abbrev main_call3_call0_call0_v74 : Ref sig .tc := ⟨.hbm, 207, rfl⟩
abbrev main_call3_call0_call0_c_18 : Ref sig .tc := ⟨.hbm, 208, rfl⟩
abbrev main_call3_call0_call0_v75 : Ref sig .tc := ⟨.hbm, 209, rfl⟩
abbrev main_call3_call0_call0_v76 : Ref sig .tc := ⟨.hbm, 210, rfl⟩
abbrev main_call3_call0_call0_c_19 : Ref sig .tc := ⟨.hbm, 211, rfl⟩
abbrev main_call3_call0_call0_v77 : Ref sig .tc := ⟨.hbm, 212, rfl⟩
abbrev main_call3_call0_call0_v78 : Ref sig .tc := ⟨.hbm, 213, rfl⟩
abbrev main_call3_call0_call0_v79 : Ref sig .tc := ⟨.hbm, 214, rfl⟩
abbrev main_call3_call0_call0_v80 : Ref sig .tc := ⟨.hbm, 215, rfl⟩
abbrev main_call3_call0_call0_v81 : Ref sig .tc := ⟨.hbm, 216, rfl⟩
abbrev main_call3_call0_call0_c_20 : Ref sig .tc := ⟨.hbm, 217, rfl⟩
abbrev main_call3_call0_call0_v82 : Ref sig .tc := ⟨.hbm, 218, rfl⟩
abbrev main_call3_call0_call0_v83 : Ref sig .tc := ⟨.hbm, 219, rfl⟩
abbrev main_call3_call0_call0_c_21 : Ref sig .tc := ⟨.hbm, 220, rfl⟩
abbrev main_call3_call0_call0_v84 : Ref sig .tc := ⟨.hbm, 221, rfl⟩
abbrev main_call3_call0_call0_v85 : Ref sig .tc := ⟨.hbm, 222, rfl⟩
abbrev main_call3_call0_call0_v86 : Ref sig .tc := ⟨.hbm, 223, rfl⟩
abbrev main_call3_call0_call0_v87 : Ref sig .tc := ⟨.hbm, 224, rfl⟩
abbrev main_call3_call0_call0_v88 : Ref sig .tc := ⟨.hbm, 225, rfl⟩
abbrev main_call3_call0_call0_c_22 : Ref sig .tc := ⟨.hbm, 226, rfl⟩
abbrev main_call3_call0_call0_v89 : Ref sig .tc := ⟨.hbm, 227, rfl⟩
abbrev main_call3_call0_call0_v90 : Ref sig .tc := ⟨.hbm, 228, rfl⟩
abbrev main_call3_call0_call0_c_23 : Ref sig .tc := ⟨.hbm, 229, rfl⟩
abbrev main_call3_call0_call0_v91 : Ref sig .tc := ⟨.hbm, 230, rfl⟩
abbrev main_call3_call0_call0_v92 : Ref sig .tc := ⟨.hbm, 231, rfl⟩
abbrev main_call3_call0_call0_v93 : Ref sig .tc := ⟨.hbm, 232, rfl⟩
abbrev main_call3_call0_call0_v94 : Ref sig .tc := ⟨.hbm, 233, rfl⟩
abbrev main_call3_call0_call0_v95 : Ref sig .tc := ⟨.hbm, 234, rfl⟩
abbrev main_call3_call0_call0_c_24 : Ref sig .tc := ⟨.hbm, 235, rfl⟩
abbrev main_call3_call0_call0_v96 : Ref sig .tc := ⟨.hbm, 236, rfl⟩
abbrev main_call3_call0_call0_v97 : Ref sig .tc := ⟨.hbm, 237, rfl⟩
abbrev main_call3_call0_call0_c_25 : Ref sig .tc := ⟨.hbm, 238, rfl⟩
abbrev main_call3_call0_call0_v98 : Ref sig .tc := ⟨.hbm, 239, rfl⟩
abbrev main_call3_call0_call0_v99 : Ref sig .tc := ⟨.hbm, 240, rfl⟩
abbrev main_call3_call0_call0_v100 : Ref sig .tc := ⟨.hbm, 241, rfl⟩
abbrev main_call3_call0_call0_v101 : Ref sig .tc := ⟨.hbm, 242, rfl⟩
abbrev main_call3_call0_call0_v102 : Ref sig .tc := ⟨.hbm, 243, rfl⟩
abbrev main_call3_call0_call0_v103 : Ref sig .tc := ⟨.hbm, 244, rfl⟩
abbrev main_call3_call0_call0_v104 : Ref sig .tc := ⟨.hbm, 245, rfl⟩
abbrev main_call3_call0_call0_v105 : Ref sig .tc := ⟨.hbm, 246, rfl⟩
abbrev main_call3_call0_call0_c_26 : Ref sig .tc := ⟨.hbm, 247, rfl⟩
abbrev main_call3_call0_call0_v106 : Ref sig .tc := ⟨.hbm, 248, rfl⟩
abbrev main_call3_call0_call0_v107 : Ref sig .tc := ⟨.hbm, 249, rfl⟩
abbrev main_call3_call0_call0_v108 : Ref sig .tc := ⟨.hbm, 250, rfl⟩
abbrev main_call3_call0_call0_c_27 : Ref sig .tc := ⟨.hbm, 251, rfl⟩
abbrev main_call3_call0_call0_v109 : Ref sig .tc := ⟨.hbm, 252, rfl⟩
abbrev main_call3_call0_call0_v110 : Ref sig .tc := ⟨.hbm, 253, rfl⟩
abbrev main_call3_call0_call0_c_28 : Ref sig .tc := ⟨.hbm, 254, rfl⟩
abbrev main_call3_call0_call0_v111 : Ref sig .tc := ⟨.hbm, 255, rfl⟩
abbrev main_call3_call0_call0_v112 : Ref sig .tc := ⟨.hbm, 256, rfl⟩
abbrev main_call3_call0_call0_v113 : Ref sig .tc := ⟨.hbm, 257, rfl⟩
abbrev main_call3_call0_call0_v114 : Ref sig .tc := ⟨.hbm, 258, rfl⟩
abbrev main_call3_call0_call0_v115 : Ref sig .tc := ⟨.hbm, 259, rfl⟩
abbrev main_call3_call0_call0_c_29 : Ref sig .tc := ⟨.hbm, 260, rfl⟩
abbrev main_call3_call0_call0_v116 : Ref sig .tc := ⟨.hbm, 261, rfl⟩
abbrev main_call3_call0_call0_v117 : Ref sig .tc := ⟨.hbm, 262, rfl⟩
abbrev main_call3_call0_call0_c_30 : Ref sig .tc := ⟨.hbm, 263, rfl⟩
abbrev main_call3_call0_call0_v118 : Ref sig .tc := ⟨.hbm, 264, rfl⟩
abbrev main_call3_call0_call0_v119 : Ref sig .tc := ⟨.hbm, 265, rfl⟩
abbrev main_call3_call0_call0_v120 : Ref sig .tc := ⟨.hbm, 266, rfl⟩
abbrev main_call3_call0_call0_v121 : Ref sig .tc := ⟨.hbm, 267, rfl⟩
abbrev main_call3_call0_call0_v122 : Ref sig .tc := ⟨.hbm, 268, rfl⟩
abbrev main_call3_call0_call0_c_31 : Ref sig .tc := ⟨.hbm, 269, rfl⟩
abbrev main_call3_call0_call0_v123 : Ref sig .tc := ⟨.hbm, 270, rfl⟩
abbrev main_call3_call0_call0_v124 : Ref sig .tc := ⟨.hbm, 271, rfl⟩
abbrev main_call3_call0_call0_c_32 : Ref sig .tc := ⟨.hbm, 272, rfl⟩
abbrev main_call3_call0_call0_v125 : Ref sig .tc := ⟨.hbm, 273, rfl⟩
abbrev main_call3_call0_call0_v126 : Ref sig .tc := ⟨.hbm, 274, rfl⟩
abbrev main_call3_call0_call0_v127 : Ref sig .tc := ⟨.hbm, 275, rfl⟩
abbrev main_call3_call0_call0_v128 : Ref sig .tc := ⟨.hbm, 276, rfl⟩
abbrev main_call3_call0_call0_v129 : Ref sig .tc := ⟨.hbm, 277, rfl⟩
abbrev main_call3_call0_call0_c_33 : Ref sig .tc := ⟨.hbm, 278, rfl⟩
abbrev main_call3_call0_call0_v130 : Ref sig .tc := ⟨.hbm, 279, rfl⟩
abbrev main_call3_call0_call0_v131 : Ref sig .tc := ⟨.hbm, 280, rfl⟩
abbrev main_call3_call0_call0_c_34 : Ref sig .tc := ⟨.hbm, 281, rfl⟩
abbrev main_call3_call0_call0_v132 : Ref sig .tc := ⟨.hbm, 282, rfl⟩
abbrev main_call3_call0_call0_v133 : Ref sig .tc := ⟨.hbm, 283, rfl⟩
abbrev main_call3_call0_call0_v134 : Ref sig .tc := ⟨.hbm, 284, rfl⟩
abbrev main_call3_call0_call0_v135 : Ref sig .tc := ⟨.hbm, 285, rfl⟩
abbrev main_call3_call0_call0_v136 : Ref sig .tc := ⟨.hbm, 286, rfl⟩
abbrev main_call3_call0_call0_v137 : Ref sig .tc := ⟨.hbm, 287, rfl⟩
abbrev main_call3_call0_call0_v138 : Ref sig .tc := ⟨.hbm, 288, rfl⟩
abbrev main_call3_call0_call0_v139 : Ref sig .tc := ⟨.hbm, 289, rfl⟩
abbrev main_call3_call0_call0_c_35 : Ref sig .tc := ⟨.hbm, 290, rfl⟩
abbrev main_call3_call0_call0_v140 : Ref sig .tc := ⟨.hbm, 291, rfl⟩
abbrev main_call3_call0_call0_v141 : Ref sig .tc := ⟨.hbm, 292, rfl⟩
abbrev main_call3_call0_call0_v142 : Ref sig .tc := ⟨.hbm, 293, rfl⟩
abbrev main_call3_call0_call0_c_36 : Ref sig .tc := ⟨.hbm, 294, rfl⟩
abbrev main_call3_call0_call0_v143 : Ref sig .tc := ⟨.hbm, 295, rfl⟩
abbrev main_call3_call0_call0_v144 : Ref sig .tc := ⟨.hbm, 296, rfl⟩
abbrev main_call3_call0_call0_c_37 : Ref sig .tc := ⟨.hbm, 297, rfl⟩
abbrev main_call3_call0_call0_v145 : Ref sig .tc := ⟨.hbm, 298, rfl⟩
abbrev main_call3_call0_call0_v146 : Ref sig .tc := ⟨.hbm, 299, rfl⟩
abbrev main_call3_call0_call0_v147 : Ref sig .tc := ⟨.hbm, 300, rfl⟩
abbrev main_call3_call0_call0_v148 : Ref sig .tc := ⟨.hbm, 301, rfl⟩
abbrev main_call3_call0_call0_v149 : Ref sig .tc := ⟨.hbm, 302, rfl⟩
abbrev main_call3_call0_call0_c_38 : Ref sig .tc := ⟨.hbm, 303, rfl⟩
abbrev main_call3_call0_call0_v150 : Ref sig .tc := ⟨.hbm, 304, rfl⟩
abbrev main_call3_call0_call0_v151 : Ref sig .tc := ⟨.hbm, 305, rfl⟩
abbrev main_call3_call0_call0_c_39 : Ref sig .tc := ⟨.hbm, 306, rfl⟩
abbrev main_call3_call0_call0_v152 : Ref sig .tc := ⟨.hbm, 307, rfl⟩
abbrev main_call3_call0_call0_v153 : Ref sig .tc := ⟨.hbm, 308, rfl⟩
abbrev main_call3_call0_call0_v154 : Ref sig .tc := ⟨.hbm, 309, rfl⟩
abbrev main_call3_call0_call0_v155 : Ref sig .tc := ⟨.hbm, 310, rfl⟩
abbrev main_call3_call0_call0_v156 : Ref sig .tc := ⟨.hbm, 311, rfl⟩
abbrev main_call3_call0_call0_c_40 : Ref sig .tc := ⟨.hbm, 312, rfl⟩
abbrev main_call3_call0_call0_v157 : Ref sig .tc := ⟨.hbm, 313, rfl⟩
abbrev main_call3_call0_call0_v158 : Ref sig .tc := ⟨.hbm, 314, rfl⟩
abbrev main_call3_call0_call0_c_41 : Ref sig .tc := ⟨.hbm, 315, rfl⟩
abbrev main_call3_call0_call0_v159 : Ref sig .tc := ⟨.hbm, 316, rfl⟩
abbrev main_call3_call0_call0_v160 : Ref sig .tc := ⟨.hbm, 317, rfl⟩
abbrev main_call3_call0_call0_v161 : Ref sig .tc := ⟨.hbm, 318, rfl⟩
abbrev main_call3_call0_call0_v162 : Ref sig .tc := ⟨.hbm, 319, rfl⟩
abbrev main_call3_call0_call0_v163 : Ref sig .tc := ⟨.hbm, 320, rfl⟩
abbrev main_call3_call0_call0_c_42 : Ref sig .tc := ⟨.hbm, 321, rfl⟩
abbrev main_call3_call0_call0_v164 : Ref sig .tc := ⟨.hbm, 322, rfl⟩
abbrev main_call3_call0_call0_v165 : Ref sig .tc := ⟨.hbm, 323, rfl⟩
abbrev main_call3_call0_call0_c_43 : Ref sig .tc := ⟨.hbm, 324, rfl⟩
abbrev main_call3_call0_call0_v166 : Ref sig .tc := ⟨.hbm, 325, rfl⟩
abbrev main_call3_call0_call0_v167 : Ref sig .tc := ⟨.hbm, 326, rfl⟩
abbrev main_call3_call0_call0_v168 : Ref sig .tc := ⟨.hbm, 327, rfl⟩
abbrev main_call3_call0_call0_v169 : Ref sig .tc := ⟨.hbm, 328, rfl⟩
abbrev main_call3_call0_call0_v170 : Ref sig .tc := ⟨.hbm, 329, rfl⟩
abbrev main_call3_call0_v18_0 : Ref sig .tc := ⟨.hbm, 330, rfl⟩
abbrev main_call3_call0_call0_v172 : Ref sig .tc := ⟨.hbm, 331, rfl⟩
abbrev main_call3_call0_call0_v173 : Ref sig .tc := ⟨.hbm, 332, rfl⟩
abbrev main_call3_call0_call0_c_44 : Ref sig .tc := ⟨.hbm, 333, rfl⟩
abbrev main_call3_call0_call0_v174 : Ref sig .tc := ⟨.hbm, 334, rfl⟩
abbrev main_call3_call0_v18_1 : Ref sig .tc := ⟨.hbm, 335, rfl⟩
abbrev main_call3_call0_v19 : Ref sig .tc := ⟨.hbm, 336, rfl⟩
abbrev main_call3_call0_c_2 : Ref sig .tc := ⟨.hbm, 337, rfl⟩
abbrev main_call3_call0_v20 : Ref sig .tc := ⟨.hbm, 338, rfl⟩
abbrev main_call3_call0_v21 : Ref sig .tc := ⟨.hbm, 339, rfl⟩
abbrev main_call3_call0_c_3 : Ref sig .tc := ⟨.hbm, 340, rfl⟩
abbrev main_call3_call0_v22 : Ref sig .tc := ⟨.hbm, 341, rfl⟩
abbrev main_call3_call0_v23 : Ref sig .tc := ⟨.hbm, 342, rfl⟩
abbrev main_call3_call0_v24 : Ref sig .tc := ⟨.hbm, 343, rfl⟩
abbrev main_call3_call0_cst : Ref sig .tc := ⟨.hbm, 344, rfl⟩
abbrev main_call3_call0_v25 : Ref sig .tc := ⟨.hbm, 345, rfl⟩
abbrev main_call3_call0_v26 : Ref sig .tc := ⟨.hbm, 346, rfl⟩
abbrev main_call3_call0_v27 : Ref sig .tc := ⟨.hbm, 347, rfl⟩
abbrev main_call3_call0_v28 : Ref sig .tc := ⟨.hbm, 348, rfl⟩
abbrev main_call3_call0_v29 : Ref sig .tc := ⟨.hbm, 349, rfl⟩
abbrev main_call3_call0_v30 : Ref sig .tc := ⟨.hbm, 350, rfl⟩
abbrev main_call3_call0_v31 : Ref sig .tc := ⟨.hbm, 351, rfl⟩
abbrev main_call3_call0_v32 : Ref sig .tc := ⟨.hbm, 352, rfl⟩
abbrev main_call3_v0 : Ref sig .tc := ⟨.hbm, 353, rfl⟩
abbrev main_call3_v1 : Ref sig .tc := ⟨.hbm, 354, rfl⟩
abbrev main_call3_v2 : Ref sig .tc := ⟨.hbm, 355, rfl⟩
abbrev main_call3_v3 : Ref sig .tc := ⟨.hbm, 356, rfl⟩
abbrev main_v61 : Ref sig .tc := ⟨.hbm, 357, rfl⟩
abbrev main_v62 : Ref sig .tc := ⟨.hbm, 358, rfl⟩
abbrev main_call4_v0 : Ref sig .tc := ⟨.hbm, 359, rfl⟩
abbrev main_call4_cst : Ref sig .tc := ⟨.hbm, 360, rfl⟩
abbrev main_call4_c : Ref sig .tc := ⟨.hbm, 361, rfl⟩
abbrev main_call4_v1_0 : Ref sig .tc := ⟨.hbm, 362, rfl⟩
abbrev main_v63 : Ref sig .tc := ⟨.hbm, 363, rfl⟩
abbrev main_v64 : Ref sig .tc := ⟨.hbm, 364, rfl⟩
abbrev main_v65 : Ref sig .tc := ⟨.hbm, 365, rfl⟩
abbrev main_v66 : Ref sig .tc := ⟨.hbm, 366, rfl⟩
abbrev main_c_11 : Ref sig .tc := ⟨.hbm, 367, rfl⟩
abbrev main_v67 : Ref sig .tc := ⟨.hbm, 368, rfl⟩
abbrev main_v68 : Ref sig .tc := ⟨.hbm, 369, rfl⟩
abbrev main_c_12 : Ref sig .tc := ⟨.hbm, 370, rfl⟩
abbrev main_v69 : Ref sig .tc := ⟨.hbm, 371, rfl⟩
abbrev main_v70 : Ref sig .tc := ⟨.hbm, 372, rfl⟩
abbrev main_v71 : Ref sig .tc := ⟨.hbm, 373, rfl⟩
abbrev main_v72 : Ref sig .tc := ⟨.hbm, 374, rfl⟩
abbrev main_v73 : Ref sig .tc := ⟨.hbm, 375, rfl⟩
abbrev main_v74 : Ref sig .tc := ⟨.hbm, 376, rfl⟩
abbrev main_c_13 : Ref sig .tc := ⟨.hbm, 377, rfl⟩
abbrev main_v75 : Ref sig .tc := ⟨.hbm, 378, rfl⟩
abbrev main_v76 : Ref sig .tc := ⟨.hbm, 379, rfl⟩
abbrev main_c_14 : Ref sig .tc := ⟨.hbm, 380, rfl⟩
abbrev main_v77 : Ref sig .tc := ⟨.hbm, 381, rfl⟩
abbrev main_v78 : Ref sig .tc := ⟨.hbm, 382, rfl⟩
abbrev main_v79 : Ref sig .tc := ⟨.hbm, 383, rfl⟩
abbrev main_v80 : Ref sig .tc := ⟨.hbm, 384, rfl⟩
abbrev main_v81 : Ref sig .tc := ⟨.hbm, 385, rfl⟩
abbrev main_v82 : Ref sig .tc := ⟨.hbm, 386, rfl⟩
abbrev main_v83 : Ref sig .tc := ⟨.hbm, 387, rfl⟩
abbrev main_v84 : Ref sig .tc := ⟨.hbm, 388, rfl⟩
abbrev main_v85 : Ref sig .tc := ⟨.hbm, 389, rfl⟩
abbrev main_c_15 : Ref sig .tc := ⟨.hbm, 390, rfl⟩
abbrev main_v86 : Ref sig .tc := ⟨.hbm, 391, rfl⟩
abbrev main_v87 : Ref sig .tc := ⟨.hbm, 392, rfl⟩
abbrev main_v88 : Ref sig .tc := ⟨.hbm, 393, rfl⟩
abbrev main_v89 : Ref sig .tc := ⟨.hbm, 394, rfl⟩
abbrev main_call5_v0 : Ref sig .tc := ⟨.hbm, 395, rfl⟩
abbrev main_v90 : Ref sig .tc := ⟨.hbm, 396, rfl⟩

abbrev nD : Nat := 1
abbrev τ : Topo := Topo.v7x

variable {F : FTy → Type} [FloatOps F]
-- ==== Proof.Pieces.lean ====
module

public import proofs.«01_k».proof.Proof.Gen.KernelIdeal.Frame
public import proofs.«01_k».proof.Proof.Gen.KernelIdeal.Skeleton
public import Idealize.ShloMosaic.Lib.Pipeline.Frame
public import Idealize.ShloMosaic.Lib.Pipeline.Value
public import Idealize.ShloMosaic.Lib.Tactic
public import Idealize.ShloMosaic.Lib.WritesUnit
public import Idealize.ShloMosaic.Lib.VecWindow
public import Idealize.ShloMosaic.Lib.ValueIdx
public import Idealize.ShloMosaic.Lib.Transfers

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ
/-! What the kernel's body computes, named: the pieces its stores are made of. -/

/-- The kernel's first column coordinate is zero: the point at which the query is computed. -/
abbrev starts (i : grid0.Coords) : Prop :=
  Scalar.cmpi .ne (Scalar.extui (Scalar.cmpi .eq (BitVec.ofNat 32 (i 1).val) 0#32) : BitVec 32) 0#32 = 1#1

/-- The query a point works with: computed there if the point starts a batch element, else the one already held. -/
def qAt (i : grid0.Coords) (x2 : Vec F S1x1x512 .f32) (x3 : Vec F S512x256 .f32) (x4 : Vec F S1x256 .f32) (x5 : Vec F S256x128 .f32)
    (x6 : Vec F S1x128 .f32) (xq : Vec F S1x128 .f32) : Vec F S1x128 .f32 :=
  if starts i then k0_pay16 x2 x3 x4 x5 x6 else xq

/-- A table of eight rows with one row replaced. -/
def putRow (r : ℕ) (row : Vec F S1x16384 .f32) (X : Vec F S8x16384 .f32) : Vec F S8x16384 .f32 :=
  fun y => if (y 0).val = r then row (ValueIdx.ix2 0 (y 1)) else X y

/-- Two consecutive rows of a table of eight: those of batch element `b`. -/
def rowsOf (b : Fin 4) (X : Vec F S8x16384 .f32) : Vec F S2x16384 .f32 :=
  fun y => X (ValueIdx.ix2 ⟨2 * b.val + (y 0).val, by have h : (y 0).val < 2 := (y 0).isLt; omega⟩ (y 1))

/-- The policy of batch element `b`, from the whole mask and all logits. -/
def polOf (M L : Vec F S8x16384 .f32) (b : Fin 4) : Vec F S2x16384 .f32 := k0_pay4 M (rowsOf b L) (rowsOf b M)

/-- The index word drawn for batch element `b`. -/
def wordOf (M L G : Vec F S8x16384 .f32) (b : Fin 4) : BitVec 32 :=
  extractAt ![0, 0, 0] (k0_pay5 k0_pay3 (polOf M L b) (rowsOf b G)) inpos_S1x1x1_p0_0_0

/-- All policies, eight rows. -/
def polAll (M L : Vec F S8x16384 .f32) : Vec F S8x16384 .f32 :=
  fun y => polOf M L ⟨(y 0).val / 2, by have h : (y 0).val < 8 := (y 0).isLt; omega⟩ (ValueIdx.ix2 ⟨(y 0).val % 2, Nat.mod_lt _ (by decide)⟩ (y 1))

/-- All index words. -/
def idxAll (M L G : Vec F S8x16384 .f32) : Vec F S1x4 .i32 := fun y => wordOf M L G (y 1)

/-- The rows of the table the words name. -/
def gathered (T : Vec F S131072x256 .f32) (w : Fin 4 → BitVec 32) (hw : ∀ b, (w b).toNat < 131072) : Vec F S4x256 .f32 :=
  fun y => T (ValueIdx.ix2 ⟨(w (y 0)).toNat, hw (y 0)⟩ (y 1))

theorem zero2 : (![0, 0] : Fin 2 → ℕ) = fun _ => 0 := funext fun a => by fin_cases a <;> rfl
theorem zero3 : (![0, 0, 0] : Fin 3 → ℕ) = fun _ => 0 := funext fun a => by fin_cases a <;> rfl

/-- Loading two rows of the table. -/
theorem ld_rows (X : Vec F S8x16384 .f32) (b : Fin 4) (off : Fin 2 → ℕ) (hoff : off = ![2 * b.val, 0])
    (inb : ∀ a, off a + S2x16384.size a ≤ S8x16384.size a) :
    View.ld X (Rect.unit (s := S8x16384) off (no_index S2x16384.size) inb) = rowsOf b X := by
  subst hoff
  funext y
  show X _ = X _
  congr 1
  funext a
  apply Fin.ext
  fin_cases a
  · show 2 * b.val + 1 * (y 0).val = 2 * b.val + (y 0).val; omega
  · show 0 + 1 * (y 1).val = (y 1).val; omega

/-- Storing one row of the table. -/
theorem read_put {κ : Kind} {sp : Space} (v : View sig κ sp S8x16384 .f32) (f : v.ty.Contents (Elt F)) (off : Fin 2 → ℕ) (h1 : off 1 = 0)
    (inb : ∀ a, off a + S1x16384.size a ≤ S8x16384.size a) (row : Vec F S1x16384 .f32) :
    v.read (Elt F) (v.writes (Elt F) f [⟨Rect.unit (s := S8x16384) off (no_index S1x16384.size) inb, row⟩])
      = putRow (off 0) row (v.read (Elt F) f) := by
  funext y
  unfold putRow
  by_cases h : (y 0).val = off 0
  · rw [if_pos h]
    exact View.read_writes_cons_unit_of_mem v f inb row [] y (ValueIdx.ix2 0 (y 1)) rfl (fun a => by
      fin_cases a
      · show (y 0).val = off 0 + 0; omega
      · show (y 1).val = off 1 + (y 1).val; omega)
  · rw [if_neg h, View.read_writes_cons_unit_of_not_mem v f inb row [] y rfl 0 (by
      show (y 0).val < off 0 ∨ off 0 + 1 ≤ (y 0).val; omega)]
    rfl

/-- Reading back one stored pair of rows and what was stored before it. -/
theorem read_pair {κ : Kind} {sp : Space} (v : View sig κ sp S8x16384 .f32) (f : v.ty.Contents (Elt F)) (b : ℕ) (off : Fin 2 → ℕ) (hoff : off = ![2 * b, 0])
    (inb : ∀ a, off a + S2x16384.size a ≤ S8x16384.size a) (p : Vec F S2x16384 .f32) (L : List (View.Piece (Elt F) S8x16384 .f32)) (y : S8x16384.Idx) :
    v.read (Elt F) (v.writes (Elt F) f (⟨Rect.unit (s := S8x16384) off S2x16384.size inb, p⟩ :: L)) y
      = if (y 0).val / 2 = b then p (ValueIdx.ix2 ⟨(y 0).val % 2, Nat.mod_lt _ (by decide)⟩ (y 1)) else v.read (Elt F) (v.writes (Elt F) f L) y := by
  subst hoff
  by_cases h : (y 0).val / 2 = b
  · rw [if_pos h]
    exact View.read_writes_cons_unit_of_mem v f inb p L y _ rfl (fun a => by
      fin_cases a
      · show (y 0).val = 2 * b + (y 0).val % 2; omega
      · show (y 1).val = 0 + (y 1).val; omega)
  · rw [if_neg h, View.read_writes_cons_unit_of_not_mem v f inb p L y rfl 0 (by
      show (y 0).val < 2 * b ∨ 2 * b + 2 ≤ (y 0).val; omega)]

/-- Reading back one stored row of four and what was stored before it. -/
theorem read_row {κ : Kind} {sp : Space} (v : View sig κ sp S4x256 .f32) (f : v.ty.Contents (Elt F)) (b : ℕ) (off : Fin 2 → ℕ) (hoff : off = ![b, 0])
    (inb : ∀ a, off a + S1x256.size a ≤ S4x256.size a) (p : Vec F S1x256 .f32) (L : List (View.Piece (Elt F) S4x256 .f32)) (y : S4x256.Idx) :
    v.read (Elt F) (v.writes (Elt F) f (⟨Rect.unit (s := S4x256) off S1x256.size inb, p⟩ :: L)) y
      = if (y 0).val = b then p (ValueIdx.ix2 0 (y 1)) else v.read (Elt F) (v.writes (Elt F) f L) y := by
  subst hoff
  by_cases h : (y 0).val = b
  · rw [if_pos h]
    exact View.read_writes_cons_unit_of_mem v f inb p L y _ rfl (fun a => by
      fin_cases a
      · show (y 0).val = b + 0; omega
      · show (y 1).val = 0 + (y 1).val; omega)
  · rw [if_neg h, View.read_writes_cons_unit_of_not_mem v f inb p L y rfl 0 (by
      show (y 0).val < b ∨ b + 1 ≤ (y 0).val; omega)]

/-- Reading back one stored index word and what was stored before it. -/
theorem read_word {κ : Kind} {sp : Space} (v : View sig κ sp S1x4 .i32) (f : v.ty.Contents (Elt F)) (b : ℕ) (off : Fin 2 → ℕ) (hoff : off = ![0, b])
    (inb : ∀ a, off a + S1x1.size a ≤ S1x4.size a) (p : BitVec 32) (L : List (View.Piece (Elt F) S1x4 .i32)) (y : S1x4.Idx) :
    v.read (Elt F) (v.writes (Elt F) f (⟨Rect.unit (s := S1x4) off S1x1.size inb, fun _ => p⟩ :: L)) y
      = if (y 1).val = b then p else v.read (Elt F) (v.writes (Elt F) f L) y := by
  subst hoff
  have h0 : (y 0).val < 1 := (y 0).isLt
  by_cases h : (y 1).val = b
  · rw [if_pos h]
    exact View.read_writes_cons_unit_of_mem v f inb (fun _ => p) L y (ValueIdx.ix2 0 0) rfl (fun a => by
      fin_cases a
      · show (y 0).val = 0 + 0; omega
      · show (y 1).val = b + 0; omega)
  · rw [if_neg h, View.read_writes_cons_unit_of_not_mem v f inb (fun _ => p) L y rfl 1 (by
      show (y 1).val < b ∨ b + 1 ≤ (y 1).val; omega)]

/-- Reading the query's buffer after a store made or not made. -/
theorem read_maybe {κ : Kind} {sp : Space} (v : View sig κ sp S1x128 .f32) (f : v.ty.Contents (Elt F)) {C : Prop} [Decidable C]
    (inb : ∀ a, (![0, 0] : Fin 2 → ℕ) a + S1x128.size a ≤ S1x128.size a) (w : Vec F S1x128 .f32) :
    v.read (Elt F) (if _ : C then v.writes (Elt F) f [⟨Rect.unit (s := S1x128) ![0, 0] (no_index S1x128.size) inb, w⟩] else f)
      = if C then w else v.read (Elt F) f := by
  by_cases h : C
  · simp only [h, dite_true, if_true]
    exact View.read_writes_full v f inb w []
  · simp only [h, dite_false, if_false]

/-- One row of the table, as a copy reads it: the row a word names. -/
theorem read_table (T : Vec F S131072x256 .f32) (n : ℕ) (off : Fin 2 → ℕ) (hoff : off = ![n, 0])
    (inb : ∀ a, off a + S1x256.size a ≤ S131072x256.size a) (m : ℕ) (hm : m < 131072) (hn : n = m) (l : Fin 256) :
    ((View.whole main_v11).slice (Rect.unit (s := S131072x256) off S1x256.size inb)).read (Elt F) T (ValueIdx.ix2 0 l)
      = T (ValueIdx.ix2 ⟨m, hm⟩ l) := by
  subst hoff hn
  show T _ = _
  congr 1
  funext a
  apply Fin.ext
  fin_cases a
  · show n + 1 * 0 = n; omega
  · show 0 + 1 * l.val = l.val; omega

/-- The four stored pairs of rows are the whole table. -/
theorem pairs_eq (p : Fin 4 → Vec F S2x16384 .f32) (y : S8x16384.Idx) (z : F .f32) (j : S2x16384.Idx) :
    (if (y 0).val / 2 = 3 then p 3 j else if (y 0).val / 2 = 2 then p 2 j else if (y 0).val / 2 = 1 then p 1 j else if (y 0).val / 2 = 0 then p 0 j else z)
      = p ⟨(y 0).val / 2, by have h : (y 0).val < 8 := (y 0).isLt; omega⟩ j := by
  have h : (y 0).val < 8 := (y 0).isLt
  obtain h | h | h | h : (y 0).val / 2 = 0 ∨ (y 0).val / 2 = 1 ∨ (y 0).val / 2 = 2 ∨ (y 0).val / 2 = 3 := by omega
  all_goals (simp only [h]; rfl)

/-- A choice among four by number. -/
theorem four_eq {α : Type} (p : Fin 4 → α) (k : Fin 4) (z : α) :
    (if k.val = 3 then p 3 else if k.val = 2 then p 2 else if k.val = 1 then p 1 else if k.val = 0 then p 0 else z) = p k := by
  fin_cases k <;> rfl

/-- The four rows copied in are the gathered rows. -/
theorem gathered_eq {κ : Kind} {sp : Space} (v : View sig κ sp S4x256 .f32) (f : v.ty.Contents (Elt F)) (T : Vec F S131072x256 .f32) (w : Fin 4 → BitVec 32)
    (hw : ∀ b, (w b).toNat < 131072) (p0 p1 p2 p3 : Vec F S1x256 .f32)
    (h0 : ∀ l, p0 (ValueIdx.ix2 0 l) = T (ValueIdx.ix2 ⟨(w 0).toNat, hw 0⟩ l)) (h1 : ∀ l, p1 (ValueIdx.ix2 0 l) = T (ValueIdx.ix2 ⟨(w 1).toNat, hw 1⟩ l))
    (h2 : ∀ l, p2 (ValueIdx.ix2 0 l) = T (ValueIdx.ix2 ⟨(w 2).toNat, hw 2⟩ l)) (h3 : ∀ l, p3 (ValueIdx.ix2 0 l) = T (ValueIdx.ix2 ⟨(w 3).toNat, hw 3⟩ l))
    (i0 : ∀ a, (![0, 0] : Fin 2 → ℕ) a + S1x256.size a ≤ S4x256.size a) (i1 : ∀ a, (![1, 0] : Fin 2 → ℕ) a + S1x256.size a ≤ S4x256.size a)
    (i2 : ∀ a, (![2, 0] : Fin 2 → ℕ) a + S1x256.size a ≤ S4x256.size a) (i3 : ∀ a, (![3, 0] : Fin 2 → ℕ) a + S1x256.size a ≤ S4x256.size a) :
    v.read (Elt F) (v.writes (Elt F) f [⟨Rect.unit (s := S4x256) ![3, 0] S1x256.size i3, p3⟩, ⟨Rect.unit (s := S4x256) ![2, 0] S1x256.size i2, p2⟩,
        ⟨Rect.unit (s := S4x256) ![1, 0] S1x256.size i1, p1⟩, ⟨Rect.unit (s := S4x256) ![0, 0] S1x256.size i0, p0⟩]) = gathered T w hw := by
  funext y
  rw [read_row _ _ 3 ![3, 0] rfl, read_row _ _ 2 ![2, 0] rfl, read_row _ _ 1 ![1, 0] rfl, read_row _ _ 0 ![0, 0] rfl]
  refine Eq.trans ?_ (four_eq (fun k => T (ValueIdx.ix2 ⟨(w k).toNat, hw k⟩ (y 1))) (y 0) (v.read (Elt F) (v.writes (Elt F) f []) y))
  split_ifs
  · exact h3 (y 1)
  · exact h2 (y 1)
  · exact h1 (y 1)
  · exact h0 (y 1)
  · rfl

end Cert.KernelIdeal.Hand
-- ==== Proof.Body.lean ====
module

public import proofs.«01_k».proof.Proof.Gen.KernelIdeal.Frame
public import proofs.«01_k».proof.Proof.Pieces
public import proofs.«01_k».proof.Proof.Gen.KernelIdeal.Skeleton
public import Idealize.ShloMosaic.Lib.Pipeline.Frame
public import Idealize.ShloMosaic.Lib.Pipeline.Value
public import Idealize.ShloMosaic.Lib.Tactic
public import Idealize.ShloMosaic.Lib.Transfers
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ
/-! The kernel's body, run at any grid point on any staging buffers. -/

/-- The three scratch buffers of the kernel (query, logits of all blocks, gathered rows) and the table left in HBM. -/
abbrev qM : Memref sig .tc .vmem S1x128 .f32 := Memref.whole cc0_scratch0
abbrev lM : Memref sig .tc .vmem S8x16384 .f32 := Memref.whole cc0_scratch1
abbrev rM : Memref sig .tc .vmem S4x256 .f32 := Memref.whole cc0_scratch2
abbrev hbM : Memref sig .tc .hbm S131072x256 .f32 := Memref.whole main_v11

/-- A memref's buffer on core `c`, held whole at `f`. -/
abbrev hbPt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The kernel's body at a grid point, on any staging buffers. -/
abbrev bodyOn (i : grid0.Coords)
  (a2 : Memref sig .tc .vmem S1x1x512 .f32) (h2 : a2.IsWhole)
  (a3 : Memref sig .tc .vmem S512x256 .f32) (h3 : a3.IsWhole)
  (a4 : Memref sig .tc .vmem S1x256 .f32) (h4 : a4.IsWhole)
  (a5 : Memref sig .tc .vmem S256x128 .f32) (h5 : a5.IsWhole)
  (a6 : Memref sig .tc .vmem S1x128 .f32) (h6 : a6.IsWhole)
  (a7 : Memref sig .tc .vmem S256x256 .f32) (h7 : a7.IsWhole)
  (a8 : Memref sig .tc .vmem S1x256 .f32) (h8 : a8.IsWhole)
  (a9 : Memref sig .tc .vmem S256x128 .f32) (h9 : a9.IsWhole)
  (a10 : Memref sig .tc .vmem S1x128 .f32) (h10 : a10.IsWhole)
  (a11 : Memref sig .tc .vmem S1x16384x256 .f32) (h11 : a11.IsWhole)
  (a12 : Memref sig .tc .vmem S8x16384 .f32) (h12 : a12.IsWhole)
  (a13 : Memref sig .tc .vmem S8x16384 .f32) (h13 : a13.IsWhole)
  (a14 : Memref sig .tc .vmem S256x512 .f32) (h14 : a14.IsWhole)
  (a15 : Memref sig .tc .vmem S1x512 .f32) (h15 : a15.IsWhole)
  (a17 : Memref sig .tc .vmem S1x1x16384 .f32) (h17 : a17.IsWhole)
  (a18 : Memref sig .tc .vmem S8x16384 .f32) (h18 : a18.IsWhole)
  (a19 : Memref sig .tc .smem S1x4 .i32) (h19 : a19.IsWhole)
  (a20 : Memref sig .tc .vmem S4x512 .f32) (h20 : a20.IsWhole)
  (aq : Memref sig .tc .vmem S1x128 .f32) (hq : aq.IsWhole)
  (al : Memref sig .tc .vmem S8x16384 .f32) (hl : al.IsWhole) :
    Prog (TpuEff nD τ sig (Elt F) Λ₀ .tc) PUnit :=
  cc0_body i a2 h2 a3 h3 a4 h4 a5 h5 a6 h6 a7 h7 a8 h8 a9 h9 a10 h10 a11 h11 a12 h12 a13 h13 a14 h14 a15 h15 hbM (Memref.isWhole_whole _) a17 h17 a18 h18 a19 h19 a20 h20 aq hq al hl rM (Memref.isWhole_whole _) cc0_scratch3

section
variable (c : Dev nD) (i : grid0.Coords)
  (a2 : Memref sig .tc .vmem S1x1x512 .f32) (h2 : a2.IsWhole)
  (a3 : Memref sig .tc .vmem S512x256 .f32) (h3 : a3.IsWhole)
  (a4 : Memref sig .tc .vmem S1x256 .f32) (h4 : a4.IsWhole)
  (a5 : Memref sig .tc .vmem S256x128 .f32) (h5 : a5.IsWhole)
  (a6 : Memref sig .tc .vmem S1x128 .f32) (h6 : a6.IsWhole)
  (a7 : Memref sig .tc .vmem S256x256 .f32) (h7 : a7.IsWhole)
  (a8 : Memref sig .tc .vmem S1x256 .f32) (h8 : a8.IsWhole)
  (a9 : Memref sig .tc .vmem S256x128 .f32) (h9 : a9.IsWhole)
  (a10 : Memref sig .tc .vmem S1x128 .f32) (h10 : a10.IsWhole)
  (a11 : Memref sig .tc .vmem S1x16384x256 .f32) (h11 : a11.IsWhole)
  (a12 : Memref sig .tc .vmem S8x16384 .f32) (h12 : a12.IsWhole)
  (a13 : Memref sig .tc .vmem S8x16384 .f32) (h13 : a13.IsWhole)
  (a14 : Memref sig .tc .vmem S256x512 .f32) (h14 : a14.IsWhole)
  (a15 : Memref sig .tc .vmem S1x512 .f32) (h15 : a15.IsWhole)
  (a17 : Memref sig .tc .vmem S1x1x16384 .f32) (h17 : a17.IsWhole)
  (a18 : Memref sig .tc .vmem S8x16384 .f32) (h18 : a18.IsWhole)
  (a19 : Memref sig .tc .smem S1x4 .i32) (h19 : a19.IsWhole)
  (a20 : Memref sig .tc .vmem S4x512 .f32) (h20 : a20.IsWhole)
  (aq : Memref sig .tc .vmem S1x128 .f32) (hq : aq.IsWhole)
  (al : Memref sig .tc .vmem S8x16384 .f32) (hl : al.IsWhole)

/-- At a point before the last: the query (computed if a batch element starts), then the block's logits, stored in the output
    and in the scratch buffer's row. -/
theorem run_inner (ec : ¬ k0_cond2 i = 1#1)
    (x2 : Vec F S1x1x512 .f32) (x3 : Vec F S512x256 .f32) (x4 : Vec F S1x256 .f32) (x5 : Vec F S256x128 .f32) (x6 : Vec F S1x128 .f32) (x11 : Vec F S1x16384x256 .f32) (x7 : Vec F S256x256 .f32) (x8 : Vec F S1x256 .f32) (x9 : Vec F S256x128 .f32) (x10 : Vec F S1x128 .f32) (dl : Vec F S8x16384 .f32) (xq : Vec F S1x128 .f32) (K : PUnit → sProp 𝕄) :
    iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a11 fullShare x11 ∗ owns (c : Thread nD τ) a7 fullShare x7 ∗ owns (c : Thread nD τ) a8 fullShare x8 ∗ owns (c : Thread nD τ) a9 fullShare x9 ∗ owns (c : Thread nD τ) a10 fullShare x10
        ∗ (∃ d, owns (c : Thread nD τ) a17 fullShare d) ∗ owns (c : Thread nD τ) aq fullShare xq ∗ owns (c : Thread nD τ) al fullShare dl
        ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a11 fullShare x11 ∗ owns (c : Thread nD τ) a7 fullShare x7 ∗ owns (c : Thread nD τ) a8 fullShare x8 ∗ owns (c : Thread nD τ) a9 fullShare x9 ∗ owns (c : Thread nD τ) a10 fullShare x10
            ∗ owns (c : Thread nD τ) a17 fullShare (k0_pay18 x11 x7 x8 x9 x10 (qAt i x2 x3 x4 x5 x6 xq))
            ∗ owns (c : Thread nD τ) aq fullShare (qAt i x2 x3 x4 x5 x6 xq)
            ∗ owns (c : Thread nD τ) al fullShare (putRow (k0_off1 i 0) (k0_pay19 x11 x7 x8 x9 x10 (qAt i x2 x3 x4 x5 x6 xq)) dl)) -∗ K ⟨⟩))
      ⊢ wp frame (wpE (defs₀ (F := F)) Variants.none c none) Set.univ
          (bodyOn i a2 h2 a3 h3 a4 h4 a5 h5 a6 h6 a7 h7 a8 h8 a9 h9 a10 h10 a11 h11 a12 h12 a13 h13 a14 h14 a15 h15 a17 h17 a18 h18 a19 h19 a20 h20 aq hq al hl) K := by
  unfold bodyOn
  simp only [cc0_body_eq_skeleton]; unfold cc0_body_skel
  unfold owns
  iintro ⟨⟨%f2, %e2, H2⟩, ⟨%f3, %e3, H3⟩, ⟨%f4, %e4, H4⟩, ⟨%f5, %e5, H5⟩, ⟨%f6, %e6, H6⟩, ⟨%f11, %e11, H11⟩, ⟨%f7, %e7, H7⟩, ⟨%f8, %e8, H8⟩, ⟨%f9, %e9, H9⟩, ⟨%f10, %e10, H10⟩, ⟨%d17, %f17, -, H17⟩, ⟨%fq, %eq, HQ⟩, ⟨%fl, %el, HL⟩, Hk⟩
  subst e2 e3 e4 e5 e6 e11 e7 e8 e9 e10 eq el
  sl_exec
  sl_step
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H11]
  · iexists _; isplitr; swap; · iexact H11
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H17]
  · iexists _; isplitr; swap; · iexact H17
    ipureintro
    unfold qAt
    rw [← read_maybe (C := starts i) aq.view fq inb_S1x128_S1x128_0_0]
    sl_unfold_run_names
    rw [View.read_writes_full (s := S1x1x16384)]
    simp only [View.readAt_eq_ld, View.ld_unit_zero (S := S1x1x512) zero3, View.ld_unit_zero (S := S512x256) zero2, View.ld_unit_zero (S := S1x256) zero2, View.ld_unit_zero (S := S256x128) zero2, View.ld_unit_zero (S := S1x128) zero2, View.ld_unit_zero (S := S256x256) zero2, View.ld_unit_zero (S := S1x16384x256) zero3, View.ld_unit_zero (S := S8x16384) zero2, View.ld_unit_zero (S := S256x512) zero2, View.ld_unit_zero (S := S1x512) zero2, View.ld_unit_zero (S := S4x256) zero2]
  isplitl [HQ]
  · iexists _; isplitr; swap; · iexact HQ
    ipureintro
    unfold qAt
    rw [← read_maybe (C := starts i) aq.view fq inb_S1x128_S1x128_0_0]
    sl_unfold_run_names
    simp only [View.readAt_eq_ld, View.ld_unit_zero (S := S1x1x512) zero3, View.ld_unit_zero (S := S512x256) zero2, View.ld_unit_zero (S := S1x256) zero2, View.ld_unit_zero (S := S256x128) zero2, View.ld_unit_zero (S := S1x128) zero2, View.ld_unit_zero (S := S256x256) zero2, View.ld_unit_zero (S := S1x16384x256) zero3, View.ld_unit_zero (S := S8x16384) zero2, View.ld_unit_zero (S := S256x512) zero2, View.ld_unit_zero (S := S1x512) zero2, View.ld_unit_zero (S := S4x256) zero2]
  iexists _; isplitr; swap; · iexact HL
  ipureintro
  unfold qAt
  rw [← read_maybe (C := starts i) aq.view fq inb_S1x128_S1x128_0_0]
  sl_unfold_run_names
  rw [read_put _ _ (k0_off1 i) rfl]
  simp only [View.readAt_eq_ld, View.ld_unit_zero (S := S1x1x512) zero3, View.ld_unit_zero (S := S512x256) zero2, View.ld_unit_zero (S := S1x256) zero2, View.ld_unit_zero (S := S256x128) zero2, View.ld_unit_zero (S := S1x128) zero2, View.ld_unit_zero (S := S256x256) zero2, View.ld_unit_zero (S := S1x16384x256) zero3, View.ld_unit_zero (S := S8x16384) zero2, View.ld_unit_zero (S := S256x512) zero2, View.ld_unit_zero (S := S1x512) zero2, View.ld_unit_zero (S := S4x256) zero2]

set_option maxHeartbeats 4000000 in
/-- At the last point, moreover, the four policies, the four index words, the rows they name and their projection. -/
theorem run_last (ec : k0_cond2 i = 1#1)
    (hw1 : ∀ P G, k0_chk1 i (extractAt ![0, 0, 0] (k0_pay5 (F := F) k0_pay3 P G) inpos_S1x1x1_p0_0_0))
    (hw2 : ∀ a b d G, k0_chk2 i (extractAt ![0, 0, 0] (k0_pay9 (F := F) k0_pay3 a b d G) inpos_S1x1x1_p0_0_0))
    (hw3 : ∀ P G, k0_chk3 i (extractAt ![0, 0, 0] (k0_pay11 (F := F) k0_pay3 P G) inpos_S1x1x1_p0_0_0))
    (hw4 : ∀ a b d e G, k0_chk4 i (extractAt ![0, 0, 0] (k0_pay15 (F := F) k0_pay3 a b d e G) inpos_S1x1x1_p0_0_0))
    (hr : ∀ M L G b, (wordOf (F := F) M L G b).toNat < 131072)
    (x2 : Vec F S1x1x512 .f32) (x3 : Vec F S512x256 .f32) (x4 : Vec F S1x256 .f32) (x5 : Vec F S256x128 .f32) (x6 : Vec F S1x128 .f32) (x11 : Vec F S1x16384x256 .f32) (x7 : Vec F S256x256 .f32) (x8 : Vec F S1x256 .f32) (x9 : Vec F S256x128 .f32) (x10 : Vec F S1x128 .f32) (x12 : Vec F S8x16384 .f32) (x13 : Vec F S8x16384 .f32) (x14 : Vec F S256x512 .f32) (x15 : Vec F S1x512 .f32) (dl : Vec F S8x16384 .f32) (xq : Vec F S1x128 .f32)
    (T : Vec F S131072x256 .f32) (W : Waits sig Unit) (K : PUnit → sProp 𝕄) :
    iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a11 fullShare x11 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a12 fullShare x12 ∗ owns (c : Thread nD τ) a13 fullShare x13 ∗ owns (c : Thread nD τ) a14 fullShare x14 ∗ owns (c : Thread nD τ) a15 fullShare x15
        ∗ (∃ d, owns (c : Thread nD τ) a17 fullShare d) ∗ (∃ d, owns (c : Thread nD τ) a18 fullShare d)
        ∗ (∃ d, owns (c : Thread nD τ) a19 fullShare d) ∗ (∃ d, owns (c : Thread nD τ) a20 fullShare d)
        ∗ owns (c : Thread nD τ) aq fullShare xq ∗ owns (c : Thread nD τ) al fullShare dl ∗ (∃ d, owns (c : Thread nD τ) rM fullShare d)
        ∗ semVal ((c : Thread nD τ), SemLoc.dma 21) 0 ∗ hbPt c hbM T ∗ owes (c : Thread nD τ) 0 W
        ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a11 fullShare x11 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a12 fullShare x12 ∗ owns (c : Thread nD τ) a13 fullShare x13 ∗ owns (c : Thread nD τ) a14 fullShare x14 ∗ owns (c : Thread nD τ) a15 fullShare x15
            ∗ owns (c : Thread nD τ) a17 fullShare (k0_pay18 x11 x7 x8 x9 x10 (qAt i x2 x3 x4 x5 x6 xq))
            ∗ owns (c : Thread nD τ) a18 fullShare (polAll x12 (putRow (k0_off1 i 0) (k0_pay19 x11 x7 x8 x9 x10 (qAt i x2 x3 x4 x5 x6 xq)) dl))
            ∗ owns (c : Thread nD τ) a19 fullShare (idxAll x12 (putRow (k0_off1 i 0) (k0_pay19 x11 x7 x8 x9 x10 (qAt i x2 x3 x4 x5 x6 xq)) dl) x13)
            ∗ owns (c : Thread nD τ) a20 fullShare (k0_pay1 (gathered T (wordOf x12 (putRow (k0_off1 i 0) (k0_pay19 x11 x7 x8 x9 x10 (qAt i x2 x3 x4 x5 x6 xq)) dl) x13) (hr _ _ _)) x14 x15)
            ∗ owns (c : Thread nD τ) aq fullShare (qAt i x2 x3 x4 x5 x6 xq)
            ∗ owns (c : Thread nD τ) al fullShare (putRow (k0_off1 i 0) (k0_pay19 x11 x7 x8 x9 x10 (qAt i x2 x3 x4 x5 x6 xq)) dl) ∗ (∃ d, owns (c : Thread nD τ) rM fullShare d)
            ∗ semVal ((c : Thread nD τ), SemLoc.dma 21) 0 ∗ hbPt c hbM T ∗ ∃ W', owes (c : Thread nD τ) 0 W') -∗ K ⟨⟩))
      ⊢ wp frame (wpE (defs₀ (F := F)) Variants.none c none) Set.univ
          (bodyOn i a2 h2 a3 h3 a4 h4 a5 h5 a6 h6 a7 h7 a8 h8 a9 h9 a10 h10 a11 h11 a12 h12 a13 h13 a14 h14 a15 h15 a17 h17 a18 h18 a19 h19 a20 h20 aq hq al hl) K := by
  unfold bodyOn
  simp only [cc0_body_eq_skeleton]; unfold cc0_body_skel
  unfold owns
  iintro ⟨⟨%f2, %e2, H2⟩, ⟨%f3, %e3, H3⟩, ⟨%f4, %e4, H4⟩, ⟨%f5, %e5, H5⟩, ⟨%f6, %e6, H6⟩, ⟨%f11, %e11, H11⟩, ⟨%f7, %e7, H7⟩, ⟨%f8, %e8, H8⟩, ⟨%f9, %e9, H9⟩, ⟨%f10, %e10, H10⟩, ⟨%f12, %e12, H12⟩, ⟨%f13, %e13, H13⟩, ⟨%f14, %e14, H14⟩, ⟨%f15, %e15, H15⟩, ⟨%d17, %f17, -, H17⟩, ⟨%d18, %f18, -, H18⟩, ⟨%d19, %f19, -, H19⟩, ⟨%d20, %f20, -, H20⟩, ⟨%fq, %eq, HQ⟩, ⟨%fl, %el, HL⟩, ⟨%dr, %fr, -, HR⟩, Hs, Hh, HW, Hk⟩
  subst e2 e3 e4 e5 e6 e11 e7 e8 e9 e10 e12 e13 e14 e15 eq el
  sl_exec (disch := first | exact hw1 _ _ | exact hw2 _ _ _ _ | exact hw3 _ _ | exact hw4 _ _ _ _ _)
  sl_step
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H11]
  · iexists _; isplitr; swap; · iexact H11
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H17]
  · iexists _; isplitr; swap; · iexact H17
    ipureintro
    unfold qAt
    rw [← read_maybe (C := starts i) aq.view fq inb_S1x128_S1x128_0_0]
    sl_unfold_run_names
    rw [View.read_writes_full (s := S1x1x16384)]
    simp only [View.readAt_eq_ld, View.ld_unit_zero (S := S1x1x512) zero3, View.ld_unit_zero (S := S512x256) zero2, View.ld_unit_zero (S := S1x256) zero2, View.ld_unit_zero (S := S256x128) zero2, View.ld_unit_zero (S := S1x128) zero2, View.ld_unit_zero (S := S256x256) zero2, View.ld_unit_zero (S := S1x16384x256) zero3, View.ld_unit_zero (S := S8x16384) zero2, View.ld_unit_zero (S := S256x512) zero2, View.ld_unit_zero (S := S1x512) zero2, View.ld_unit_zero (S := S4x256) zero2]
  isplitl [H18]
  · iexists _; isplitr; swap; · iexact H18
    ipureintro
    unfold qAt
    rw [← read_maybe (C := starts i) aq.view fq inb_S1x128_S1x128_0_0]
    sl_unfold_run_names
    funext y
    rw [read_pair _ _ 3 ![6, 0] rfl, read_pair _ _ 2 ![4, 0] rfl, read_pair _ _ 1 ![2, 0] rfl, read_pair _ _ 0 ![0, 0] rfl]
    simp only [View.readAt_eq_ld, View.ld_unit_zero (S := S1x1x512) zero3, View.ld_unit_zero (S := S512x256) zero2, View.ld_unit_zero (S := S1x256) zero2, View.ld_unit_zero (S := S256x128) zero2, View.ld_unit_zero (S := S1x128) zero2, View.ld_unit_zero (S := S256x256) zero2, View.ld_unit_zero (S := S1x16384x256) zero3, View.ld_unit_zero (S := S8x16384) zero2, View.ld_unit_zero (S := S256x512) zero2, View.ld_unit_zero (S := S1x512) zero2, View.ld_unit_zero (S := S4x256) zero2, ld_rows _ 0 ![0, 0] rfl, ld_rows _ 1 ![2, 0] rfl, ld_rows _ 2 ![4, 0] rfl, ld_rows _ 3 ![6, 0] rfl, read_put _ _ (k0_off1 i) rfl]
    exact pairs_eq (polOf _ _) y _ _
  isplitl [H19]
  · iexists _; isplitr; swap; · iexact H19
    ipureintro
    unfold qAt
    rw [← read_maybe (C := starts i) aq.view fq inb_S1x128_S1x128_0_0]
    sl_unfold_run_names
    funext y
    rw [read_word _ _ 3 ![0, 3] rfl, read_word _ _ 2 ![0, 2] rfl, read_word _ _ 1 ![0, 1] rfl, read_word _ _ 0 ![0, 0] rfl]
    simp only [View.readAt_eq_ld, View.ld_unit_zero (S := S1x1x512) zero3, View.ld_unit_zero (S := S512x256) zero2, View.ld_unit_zero (S := S1x256) zero2, View.ld_unit_zero (S := S256x128) zero2, View.ld_unit_zero (S := S1x128) zero2, View.ld_unit_zero (S := S256x256) zero2, View.ld_unit_zero (S := S1x16384x256) zero3, View.ld_unit_zero (S := S8x16384) zero2, View.ld_unit_zero (S := S256x512) zero2, View.ld_unit_zero (S := S1x512) zero2, View.ld_unit_zero (S := S4x256) zero2, ld_rows _ 0 ![0, 0] rfl, ld_rows _ 1 ![2, 0] rfl, ld_rows _ 2 ![4, 0] rfl, ld_rows _ 3 ![6, 0] rfl, read_put _ _ (k0_off1 i) rfl]
    exact four_eq (wordOf _ _ _) (y 1) _
  isplitl [H20]
  · iexists _; isplitr; swap; · iexact H20
    ipureintro
    unfold qAt
    rw [← read_maybe (C := starts i) aq.view fq inb_S1x128_S1x128_0_0]
    sl_unfold_run_names
    rw [View.read_writes_full (s := S4x512)]
    refine congr (congr (congrArg k0_pay1 ?_) ?_) ?_
    · unfold View.readCov
      rw [View.readAt_eq_ld, View.ld_unit_zero (S := S4x256) zero2]
      refine gathered_eq rM.view _ T _ _ _ _ _ _ (fun l => read_table T _ (k0_off2 _) rfl _ _ (hr _ _ _ 0) ?_ l)
        (fun l => read_table T _ (k0_off3 _) rfl _ _ (hr _ _ _ 1) ?_ l) (fun l => read_table T _ (k0_off4 _) rfl _ _ (hr _ _ _ 2) ?_ l)
        (fun l => read_table T _ (k0_off5 _) rfl _ _ (hr _ _ _ 3) ?_ l) _ _ _ _
      all_goals
        refine congrArg BitVec.toNat ?_
        simp only [View.readAt_eq_ld, View.ld_unit_zero (S := S1x1x512) zero3, View.ld_unit_zero (S := S512x256) zero2, View.ld_unit_zero (S := S1x256) zero2, View.ld_unit_zero (S := S256x128) zero2, View.ld_unit_zero (S := S1x128) zero2, View.ld_unit_zero (S := S256x256) zero2, View.ld_unit_zero (S := S1x16384x256) zero3, View.ld_unit_zero (S := S8x16384) zero2, View.ld_unit_zero (S := S256x512) zero2, View.ld_unit_zero (S := S1x512) zero2, View.ld_unit_zero (S := S4x256) zero2, ld_rows _ 0 ![0, 0] rfl, ld_rows _ 1 ![2, 0] rfl, ld_rows _ 2 ![4, 0] rfl, ld_rows _ 3 ![6, 0] rfl, read_put _ _ (k0_off1 i) rfl]
        rfl
    · rw [View.readAt_eq_ld, View.ld_unit_zero (S := S256x512) zero2]
    · rw [View.readAt_eq_ld, View.ld_unit_zero (S := S1x512) zero2]
  isplitl [HQ]
  · iexists _; isplitr; swap; · iexact HQ
    ipureintro
    unfold qAt
    rw [← read_maybe (C := starts i) aq.view fq inb_S1x128_S1x128_0_0]
    sl_unfold_run_names
    simp only [View.readAt_eq_ld, View.ld_unit_zero (S := S1x1x512) zero3, View.ld_unit_zero (S := S512x256) zero2, View.ld_unit_zero (S := S1x256) zero2, View.ld_unit_zero (S := S256x128) zero2, View.ld_unit_zero (S := S1x128) zero2, View.ld_unit_zero (S := S256x256) zero2, View.ld_unit_zero (S := S1x16384x256) zero3, View.ld_unit_zero (S := S8x16384) zero2, View.ld_unit_zero (S := S256x512) zero2, View.ld_unit_zero (S := S1x512) zero2, View.ld_unit_zero (S := S4x256) zero2]
  isplitl [HL]
  · iexists _; isplitr; swap; · iexact HL
    ipureintro
    unfold qAt
    rw [← read_maybe (C := starts i) aq.view fq inb_S1x128_S1x128_0_0]
    sl_unfold_run_names
    rw [read_put _ _ (k0_off1 i) rfl]
    simp only [View.readAt_eq_ld, View.ld_unit_zero (S := S1x1x512) zero3, View.ld_unit_zero (S := S512x256) zero2, View.ld_unit_zero (S := S1x256) zero2, View.ld_unit_zero (S := S256x128) zero2, View.ld_unit_zero (S := S1x128) zero2, View.ld_unit_zero (S := S256x256) zero2, View.ld_unit_zero (S := S1x16384x256) zero3, View.ld_unit_zero (S := S8x16384) zero2, View.ld_unit_zero (S := S256x512) zero2, View.ld_unit_zero (S := S1x512) zero2, View.ld_unit_zero (S := S4x256) zero2]
  isplitl [HR]
  · iexists _, _; isplitr; swap; · iexact HR
    ipureintro; rfl
  isplitl [Hs]; · iexact Hs
  isplitl [Hh]; · iexact Hh
  iexists _; iexact HW
end
end Cert.KernelIdeal.Hand
-- ==== Proof.Launch.lean ====
module

public import proofs.«01_k».proof.Proof.Body
public import Idealize.ShloMosaic.Lib.Pipeline.FrameSuffix

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-! The kernel's launch: what every grid point leaves behind, and the run of the whole program. -/

/-- Every index word names a row of one batch element's part of the table, whatever the policy and the noise. -/
def InRange (F : FTy → Type) [FloatOps F] : Prop :=
  ∀ P G : Vec F S2x16384 .f32, (extractAt ![0, 0, 0] (k0_pay5 (F := F) k0_pay3 P G) inpos_S1x1x1_p0_0_0).toNat < 131072

variable (ok : InRange F)

/-! ## The blocks the points read -/

/-- The embedding row of the point. -/
abbrev xae (c : Dev nD) (t : Fin cfg0.N) : Vec F S1x1x512 .f32 := iblk m c 0 t
/-- The first query weights. -/
abbrev xw1 (c : Dev nD) (t : Fin cfg0.N) : Vec F S512x256 .f32 := iblk m c 1 t
/-- The first query bias. -/
abbrev xb1 (c : Dev nD) (t : Fin cfg0.N) : Vec F S1x256 .f32 := iblk m c 2 t
/-- The second query weights. -/
abbrev xw2 (c : Dev nD) (t : Fin cfg0.N) : Vec F S256x128 .f32 := iblk m c 3 t
/-- The second query bias. -/
abbrev xb2 (c : Dev nD) (t : Fin cfg0.N) : Vec F S1x128 .f32 := iblk m c 4 t
/-- The first key weights. -/
abbrev yw1 (c : Dev nD) (t : Fin cfg0.N) : Vec F S256x256 .f32 := iblk m c 5 t
/-- The first key bias. -/
abbrev yb1 (c : Dev nD) (t : Fin cfg0.N) : Vec F S1x256 .f32 := iblk m c 6 t
/-- The second key weights. -/
abbrev yw2 (c : Dev nD) (t : Fin cfg0.N) : Vec F S256x128 .f32 := iblk m c 7 t
/-- The second key bias. -/
abbrev yb2 (c : Dev nD) (t : Fin cfg0.N) : Vec F S1x128 .f32 := iblk m c 8 t
/-- The block of embeddings of the point. -/
abbrev xmv (c : Dev nD) (t : Fin cfg0.N) : Vec F S1x16384x256 .f32 := iblk m c 9 t
/-- The mask. -/
abbrev xmask (c : Dev nD) (t : Fin cfg0.N) : Vec F S8x16384 .f32 := iblk m c 10 t
/-- The noise. -/
abbrev xnoise (c : Dev nD) (t : Fin cfg0.N) : Vec F S8x16384 .f32 := iblk m c 11 t
/-- The projection weights. -/
abbrev zw (c : Dev nD) (t : Fin cfg0.N) : Vec F S256x512 .f32 := iblk m c 12 t
/-- The projection bias. -/
abbrev zb (c : Dev nD) (t : Fin cfg0.N) : Vec F S1x512 .f32 := iblk m c 13 t
/-- The table the kernel gathers rows from. -/
abbrev xtab (c : Dev nD) : Vec F S131072x256 .f32 := V m c main_v11

/-- The grid point of a number. -/
def pt (n : ℕ) : Fin cfg0.N := ⟨n % 8, lt_of_lt_of_eq (Nat.mod_lt _ (by decide)) N_0.symm⟩

theorem pt_val (t : Fin cfg0.N) : pt t.val = t := Fin.ext (Nat.mod_eq_of_lt (lt_of_lt_of_eq t.isLt N_0))

/-- The query in use at point `n`: computed where its batch element starts. -/
def queryAt (c : Dev nD) (n : ℕ) : Vec F S1x128 .f32 :=
  k0_pay16 (xae m c (pt (2 * (n / 2)))) (xw1 m c (pt (2 * (n / 2)))) (xb1 m c (pt (2 * (n / 2)))) (xw2 m c (pt (2 * (n / 2)))) (xb2 m c (pt (2 * (n / 2))))

/-- The logits of point `n`'s block, as a row. -/
def rowAt (c : Dev nD) (n : ℕ) : Vec F S1x16384 .f32 :=
  k0_pay19 (xmv m c (pt n)) (yw1 m c (pt n)) (yb1 m c (pt n)) (yw2 m c (pt n)) (yb2 m c (pt n)) (queryAt m c n)

/-- All logits, a row per point. -/
def allRows (c : Dev nD) : Vec F S8x16384 .f32 := fun y => rowAt m c (y 0).val (ValueIdx.ix2 0 (y 1))

theorem words_ok (ok : InRange F) (M L G : Vec F S8x16384 .f32) (b : Fin 4) : (wordOf M L G b).toNat < 131072 := ok _ _

/-- A word in range passes the row copy's bounds check. -/
theorem row_fits (w : BitVec 32) (h : w.toNat < 131072) : ∀ a, (![w.toNat, 0] : Fin 2 → ℕ) a + S1x256.size a ≤ S131072x256.size a := by
  intro a
  fin_cases a
  · show w.toNat + 1 ≤ 131072; omega
  · show 0 + 256 ≤ 256; omega

/-! ## What the grid says of a point -/

theorem starts_iff (t : Fin cfg0.N) : starts (grid0.coords t) ↔ t.val % 2 = 0 := by
  rcases fin_N0 t with rfl | rfl | rfl | rfl | rfl | rfl | rfl | rfl <;> decide

theorem last_iff (t : Fin cfg0.N) : k0_cond2 (grid0.coords t) = 1#1 ↔ t.val = 7 := by
  rcases fin_N0 t with rfl | rfl | rfl | rfl | rfl | rfl | rfl | rfl <;> decide

theorem row_no (t : Fin cfg0.N) : k0_off1 (grid0.coords t) 0 = t.val := by
  rcases fin_N0 t with rfl | rfl | rfl | rfl | rfl | rfl | rfl | rfl <;> decide

/-! ## The invariant -/

/-- What the two scratch buffers carry before point `n`: the query of the batch element under way, and the rows done. -/
def Carried (c : Dev nD) (n : ℕ) (dq : Vec F S1x128 .f32) (dl : Vec F S8x16384 .f32) : Prop :=
  (n % 2 = 1 → dq = queryAt m c n) ∧ ∀ y : S8x16384.Idx, (y 0).val < n → dl y = allRows m c y

theorem query_step (c : Dev nD) (t : Fin cfg0.N) (dq : Vec F S1x128 .f32) (dl : Vec F S8x16384 .f32) (h : Carried m c t.val dq dl) :
    qAt (grid0.coords t) (xae m c t) (xw1 m c t) (xb1 m c t) (xw2 m c t) (xb2 m c t) dq = queryAt m c t.val := by
  unfold qAt
  by_cases e : t.val % 2 = 0
  · rw [if_pos ((starts_iff t).mpr e)]
    unfold queryAt
    rw [show 2 * (t.val / 2) = t.val by omega, pt_val]
  · rw [if_neg (fun hs => e ((starts_iff t).mp hs)), h.1 (by omega)]

/-- The row stored at a point, with the query in use. -/
theorem row_eq (c : Dev nD) (t : Fin cfg0.N) :
    k0_pay19 (xmv m c t) (yw1 m c t) (yb1 m c t) (yw2 m c t) (yb2 m c t) (queryAt m c t.val) = rowAt m c t.val := by
  unfold rowAt; rw [pt_val]

theorem carried_step (c : Dev nD) (t : Fin cfg0.N) (dq : Vec F S1x128 .f32) (dl : Vec F S8x16384 .f32) (h : Carried m c t.val dq dl) :
    Carried m c (t.val + 1) (queryAt m c t.val) (putRow (k0_off1 (grid0.coords t) 0) (rowAt m c t.val) dl) := by
  refine ⟨fun e => ?_, fun y hy => ?_⟩
  · unfold queryAt; rw [show 2 * ((t.val + 1) / 2) = 2 * (t.val / 2) by omega]
  · unfold putRow
    rw [row_no]
    by_cases e : (y 0).val = t.val
    · rw [if_pos e, ← e]; rfl
    · rw [if_neg e]; exact h.2 y (by omega)

/-- After the last point every row is there. -/
theorem all_rows (c : Dev nD) (t : Fin cfg0.N) (ht : t.val = 7) (dq : Vec F S1x128 .f32) (dl : Vec F S8x16384 .f32) (h : Carried m c t.val dq dl) :
    putRow (k0_off1 (grid0.coords t) 0) (rowAt m c t.val) dl = allRows m c :=
  funext fun y => (carried_step m c t dq dl h).2 y (by have h8 : (y 0).val < 8 := (y 0).isLt; omega)

/-! ## The kernel's own semaphore and the table it reads -/

abbrev osem0 : Fin 1 → SemLoc sig := fun j => (![SemLoc.dma 21] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 21) 0) := by
  rw [Pipeline.ownSems0_eq_of_list c osem0 [0] (by decide) (by decide)]; rfl
def H0 : Finset (Ref sig .tc) := {main_v11}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt c hbM (V m c main_v11)) := by
  rw [BI.bigSep_eq_bigSepL_of_eq [main_v11] (by decide) (by decide)]; rfl

/-- The launch theorem's invariant, part by part. -/
theorem PhiD0_eq (c : Dev nD) :
    (Pipeline.ΦD osem0 spec0 H0 (V m) c : sProp 𝕄)
      = iprop(iprop((∃ d, owns (c : Thread nD τ) qM fullShare d) ∗ (∃ d, owns (c : Thread nD τ) lM fullShare d) ∗ (∃ d, owns (c : Thread nD τ) rM fullShare d)) ∗ (∃ r, prngReg c r)
          ∗ iprop(semVal ((c : Thread nD τ), SemLoc.dma 21) 0)
          ∗ iprop(hbPt c hbM (V m c main_v11))) := by
  rw [Pipeline.ΦD_eq, scopedRest0_eq, ownSems00_eq, hbmPts0_eq]; simp only [owns_whole]; try rfl

/-- The invariant between points. -/
def between (c : Dev nD) (n : ℕ) : sProp 𝕄 :=
  iprop(∃ dq dl, ⌜Carried m c n dq dl⌝ ∗ owns (c : Thread nD τ) qM fullShare dq ∗ owns (c : Thread nD τ) lM fullShare dl
    ∗ (∃ d, owns (c : Thread nD τ) rM fullShare d) ∗ (∃ r, prngReg c r) ∗ semVal ((c : Thread nD τ), SemLoc.dma 21) 0 ∗ hbPt c hbM (xtab m c))

theorem between_zero (c : Dev nD) : Pipeline.ΦD osem0 spec0 H0 (V m) c ⊢ between m c 0 := by
  rw [PhiD0_eq]; unfold between
  iintro ⟨⟨⟨%dq, HQ⟩, ⟨%dl, HL⟩, HR⟩, Hg, Hs, Hh⟩
  iexists dq, dl
  isplitr; · ipureintro; exact ⟨fun h => absurd h (by decide), fun y hy => absurd hy (Nat.not_lt_zero _)⟩
  isplitl [HQ]; · iexact HQ
  isplitl [HL]; · iexact HL
  isplitl [HR]; · iexact HR
  isplitl [Hg]; · iexact Hg
  isplitl [Hs]; · iexact Hs
  iexact Hh

theorem between_out (c : Dev nD) (n : ℕ) : between m c n ⊢ Pipeline.ΦD osem0 spec0 H0 (V m) c := by
  rw [PhiD0_eq]; unfold between
  iintro ⟨%dq, %dl, -, HQ, HL, HR, Hg, Hs, Hh⟩
  isplitl [HQ HL HR]
  · isplitl [HQ]; · iexists dq; iexact HQ
    isplitl [HL]; · iexists dl; iexact HL
    iexact HR
  isplitl [Hg]; · iexact Hg
  isplitl [Hs]; · iexact Hs
  iexact Hh

/-! ## What the points leave in the windows -/

/-- The logits block of a point. -/
abbrev outBlock (c : Dev nD) (t : Fin cfg0.N) : Vec F S1x1x16384 .f32 :=
  k0_pay18 (xmv m c t) (yw1 m c t) (yb1 m c t) (yw2 m c t) (yb2 m c t) (queryAt m c t.val)
/-- The policies. -/
abbrev outPolicy (c : Dev nD) (t : Fin cfg0.N) : Vec F S8x16384 .f32 := polAll (xmask m c t) (allRows m c)
/-- The index words. -/
abbrev outIdx (c : Dev nD) (t : Fin cfg0.N) : Vec F S1x4 .i32 := idxAll (xmask m c t) (allRows m c) (xnoise m c t)
/-- The projected rows. -/
abbrev outProj (c : Dev nD) (t : Fin cfg0.N) : Vec F S4x512 .f32 :=
  k0_pay1 (gathered (xtab m c) (wordOf (xmask m c t) (allRows m c) (xnoise m c t)) (words_ok ok _ _ _)) (zw m c t) (zb m c t)

/-- The proof data of the region. -/
def dats (_ : Fin 1) (c : Dev nD) : Dat τ (Elt F) Unit ℕ (Pipeline.UD sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => iblk m c 9 t
    | 10 => iblk m c 10 t
    | 11 => iblk m c 11 t
    | 12 => iblk m c 12 t
    | 13 => iblk m c 13 t
    | 14 => outBlock m c t
    | 15 => outPolicy m c t
    | 16 => outIdx m c t
    | 17 => outProj m ok c t
    | ⟨n + 18, h⟩ => absurd (show n + 18 < 18 from h) (by omega)
  Φ t := between m c t.val
  q _ := fullShare
  owed _ := 0

theorem A_eq (c : Dev nD) (w : Fin cfg0.W) : (dats m ok 0 c).A w = V m c (Pipeline.arrRef spec0 w) := by dsimp only [dats]

/-! An input window's buffer holds the window's block at every point, and the body leaves it there. -/

theorem after_0 (c : Dev nD) (t : Fin cfg0.N) : (dats m ok 0 c).after 0 t = iblk m c 0 t := by dsimp only [dats]
theorem before_0 (c : Dev nD) (t : Fin cfg0.N) (d) : (dats m ok 0 c).before 0 t d = iblk m c 0 t :=
  ((dats m ok 0 c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem after_1 (c : Dev nD) (t : Fin cfg0.N) : (dats m ok 0 c).after 1 t = iblk m c 1 t := by dsimp only [dats]
theorem before_1 (c : Dev nD) (t : Fin cfg0.N) (d) : (dats m ok 0 c).before 1 t d = iblk m c 1 t :=
  ((dats m ok 0 c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)
theorem after_2 (c : Dev nD) (t : Fin cfg0.N) : (dats m ok 0 c).after 2 t = iblk m c 2 t := by dsimp only [dats]
theorem before_2 (c : Dev nD) (t : Fin cfg0.N) (d) : (dats m ok 0 c).before 2 t d = iblk m c 2 t :=
  ((dats m ok 0 c).before_in_eq_fetched 2 rfl (fun _ => rfl) (fun _ _ _ => rfl)
    (fun t => by rw [after_2]; unfold Dat.blockOf iblk; rw [A_eq]; try rfl) t d).trans (by unfold Dat.fetched Dat.blockOf iblk; rw [A_eq]; try rfl)
theorem after_3 (c : Dev nD) (t : Fin cfg0.N) : (dats m ok 0 c).after 3 t = iblk m c 3 t := by dsimp only [dats]
theorem before_3 (c : Dev nD) (t : Fin cfg0.N) (d) : (dats m ok 0 c).before 3 t d = iblk m c 3 t :=
  ((dats m ok 0 c).before_in_eq_fetched 3 rfl (fun _ => rfl) (fun _ _ _ => rfl)
    (fun t => by rw [after_3]; unfold Dat.blockOf iblk; rw [A_eq]; try rfl) t d).trans (by unfold Dat.fetched Dat.blockOf iblk; rw [A_eq]; try rfl)
theorem after_4 (c : Dev nD) (t : Fin cfg0.N) : (dats m ok 0 c).after 4 t = iblk m c 4 t := by dsimp only [dats]
theorem before_4 (c : Dev nD) (t : Fin cfg0.N) (d) : (dats m ok 0 c).before 4 t d = iblk m c 4 t :=
  ((dats m ok 0 c).before_in_eq_fetched 4 rfl (fun _ => rfl) (fun _ _ _ => rfl)
    (fun t => by rw [after_4]; unfold Dat.blockOf iblk; rw [A_eq]; try rfl) t d).trans (by unfold Dat.fetched Dat.blockOf iblk; rw [A_eq]; try rfl)
theorem after_5 (c : Dev nD) (t : Fin cfg0.N) : (dats m ok 0 c).after 5 t = iblk m c 5 t := by dsimp only [dats]
theorem before_5 (c : Dev nD) (t : Fin cfg0.N) (d) : (dats m ok 0 c).before 5 t d = iblk m c 5 t :=
  ((dats m ok 0 c).before_in_eq_fetched 5 rfl (fun _ => rfl) (fun _ _ _ => rfl)
    (fun t => by rw [after_5]; unfold Dat.blockOf iblk; rw [A_eq]; try rfl) t d).trans (by unfold Dat.fetched Dat.blockOf iblk; rw [A_eq]; try rfl)
theorem after_6 (c : Dev nD) (t : Fin cfg0.N) : (dats m ok 0 c).after 6 t = iblk m c 6 t := by dsimp only [dats]
theorem before_6 (c : Dev nD) (t : Fin cfg0.N) (d) : (dats m ok 0 c).before 6 t d = iblk m c 6 t :=
  ((dats m ok 0 c).before_in_eq_fetched 6 rfl (fun _ => rfl) (fun _ _ _ => rfl)
    (fun t => by rw [after_6]; unfold Dat.blockOf iblk; rw [A_eq]; try rfl) t d).trans (by unfold Dat.fetched Dat.blockOf iblk; rw [A_eq]; try rfl)
theorem after_7 (c : Dev nD) (t : Fin cfg0.N) : (dats m ok 0 c).after 7 t = iblk m c 7 t := by dsimp only [dats]
theorem before_7 (c : Dev nD) (t : Fin cfg0.N) (d) : (dats m ok 0 c).before 7 t d = iblk m c 7 t :=
  ((dats m ok 0 c).before_in_eq_fetched 7 rfl (fun _ => rfl) (fun _ _ _ => rfl)
    (fun t => by rw [after_7]; unfold Dat.blockOf iblk; rw [A_eq]; try rfl) t d).trans (by unfold Dat.fetched Dat.blockOf iblk; rw [A_eq]; try rfl)
theorem after_8 (c : Dev nD) (t : Fin cfg0.N) : (dats m ok 0 c).after 8 t = iblk m c 8 t := by dsimp only [dats]
theorem before_8 (c : Dev nD) (t : Fin cfg0.N) (d) : (dats m ok 0 c).before 8 t d = iblk m c 8 t :=
  ((dats m ok 0 c).before_in_eq_fetched 8 rfl (fun _ => rfl) (fun _ _ _ => rfl)
    (fun t => by rw [after_8]; unfold Dat.blockOf iblk; rw [A_eq]; try rfl) t d).trans (by unfold Dat.fetched Dat.blockOf iblk; rw [A_eq]; try rfl)
theorem after_9 (c : Dev nD) (t : Fin cfg0.N) : (dats m ok 0 c).after 9 t = iblk m c 9 t := by dsimp only [dats]
theorem before_9 (c : Dev nD) (t : Fin cfg0.N) (d) : (dats m ok 0 c).before 9 t d = iblk m c 9 t :=
  ((dats m ok 0 c).before_in_eq_fetched 9 rfl (fun _ => rfl) (fun _ _ _ => rfl)
    (fun t => by rw [after_9]; unfold Dat.blockOf iblk; rw [A_eq]; try rfl) t d).trans (by unfold Dat.fetched Dat.blockOf iblk; rw [A_eq]; try rfl)
theorem after_10 (c : Dev nD) (t : Fin cfg0.N) : (dats m ok 0 c).after 10 t = iblk m c 10 t := by dsimp only [dats]
theorem before_10 (c : Dev nD) (t : Fin cfg0.N) (d) : (dats m ok 0 c).before 10 t d = iblk m c 10 t :=
  ((dats m ok 0 c).before_in_eq_fetched 10 rfl (fun _ => rfl) (fun _ _ _ => rfl)
    (fun t => by rw [after_10]; unfold Dat.blockOf iblk; rw [A_eq]; try rfl) t d).trans (by unfold Dat.fetched Dat.blockOf iblk; rw [A_eq]; try rfl)
theorem after_11 (c : Dev nD) (t : Fin cfg0.N) : (dats m ok 0 c).after 11 t = iblk m c 11 t := by dsimp only [dats]
theorem before_11 (c : Dev nD) (t : Fin cfg0.N) (d) : (dats m ok 0 c).before 11 t d = iblk m c 11 t :=
  ((dats m ok 0 c).before_in_eq_fetched 11 rfl (fun _ => rfl) (fun _ _ _ => rfl)
    (fun t => by rw [after_11]; unfold Dat.blockOf iblk; rw [A_eq]; try rfl) t d).trans (by unfold Dat.fetched Dat.blockOf iblk; rw [A_eq]; try rfl)
theorem after_12 (c : Dev nD) (t : Fin cfg0.N) : (dats m ok 0 c).after 12 t = iblk m c 12 t := by dsimp only [dats]
theorem before_12 (c : Dev nD) (t : Fin cfg0.N) (d) : (dats m ok 0 c).before 12 t d = iblk m c 12 t :=
  ((dats m ok 0 c).before_in_eq_fetched 12 rfl (fun _ => rfl) (fun _ _ _ => rfl)
    (fun t => by rw [after_12]; unfold Dat.blockOf iblk; rw [A_eq]; try rfl) t d).trans (by unfold Dat.fetched Dat.blockOf iblk; rw [A_eq]; try rfl)
theorem after_13 (c : Dev nD) (t : Fin cfg0.N) : (dats m ok 0 c).after 13 t = iblk m c 13 t := by dsimp only [dats]
theorem before_13 (c : Dev nD) (t : Fin cfg0.N) (d) : (dats m ok 0 c).before 13 t d = iblk m c 13 t :=
  ((dats m ok 0 c).before_in_eq_fetched 13 rfl (fun _ => rfl) (fun _ _ _ => rfl)
    (fun t => by rw [after_13]; unfold Dat.blockOf iblk; rw [A_eq]; try rfl) t d).trans (by unfold Dat.fetched Dat.blockOf iblk; rw [A_eq]; try rfl)
theorem after_14 (c : Dev nD) (t : Fin cfg0.N) : (dats m ok 0 c).after 14 t = outBlock m c t := by dsimp only [dats]
theorem after_15 (c : Dev nD) (t : Fin cfg0.N) : (dats m ok 0 c).after 15 t = outPolicy m c t := by dsimp only [dats]
theorem after_16 (c : Dev nD) (t : Fin cfg0.N) : (dats m ok 0 c).after 16 t = outIdx m c t := by dsimp only [dats]
theorem after_17 (c : Dev nD) (t : Fin cfg0.N) : (dats m ok 0 c).after 17 t = outProj m ok c t := by dsimp only [dats]

/-- The body table's row at the point is the body. -/
theorem defs₀_row (t : Fin cfg0.N) : defs₀ (F := F) .tc cfg0.body (cfg0.bodyArgs t (cfg0.slots t)) = bodyAt0 t := by
  unfold defs₀; rw [Defs.onTc_tc]

/-- Before the last point the three results of the last point are idle, and none of them is written back. -/
theorem idle_inner (t : Fin cfg0.N) (ht : t.val ≠ 7) : ∀ w : Fin 18, 15 ≤ w.val → cfg0.idle w (cfg0.grid.coords t) = true ∧ (cfg0.win w).flush t = false := by
  have h8 : t.val < 8 := lt_of_lt_of_eq t.isLt N_0
  have hc : ¬ k0_cond2 (grid0.coords t) = 1#1 := fun h => ht ((last_iff t).mp h)
  intro w hw
  have hi : (!(k0_cond2 (grid0.coords t) == 1#1)) = true := by simp [hc]
  fin_cases w
  all_goals first
    | exact absurd hw (by decide)
    | exact ⟨hi, by rw [← Bool.not_eq_true]; intro h; first | (have := (flush0_15 t).mp h; omega) | (have := (flush0_16 t).mp h; omega) | (have := (flush0_17 t).mp h; omega)⟩

/-- At the last point they are not idle. -/
theorem idle_last (t : Fin cfg0.N) (ht : t.val = 7) : ∀ w : Fin 18, 15 ≤ w.val → cfg0.idle w (cfg0.grid.coords t) = false := by
  have hc : k0_cond2 (grid0.coords t) = 1#1 := (last_iff t).mpr ht
  intro w hw
  have hi : (!(k0_cond2 (grid0.coords t) == 1#1)) = false := by simp [hc]
  fin_cases w
  all_goals first
    | exact absurd hw (by decide)
    | exact hi

/-- What every point is given: the invariant, the tally, the inputs' blocks and the outputs' buffers. -/
def given (c : Dev nD) (t : Fin cfg0.N) : sProp 𝕄 :=
  iprop(between m c t.val ∗ (dats m ok 0 c).owesAt () t.castSucc
    ∗ owns (c : Thread nD τ) (st0_0 t) fullShare (xae m c t) ∗ owns (c : Thread nD τ) (st0_1 t) fullShare (xw1 m c t) ∗ owns (c : Thread nD τ) (st0_2 t) fullShare (xb1 m c t) ∗ owns (c : Thread nD τ) (st0_3 t) fullShare (xw2 m c t) ∗ owns (c : Thread nD τ) (st0_4 t) fullShare (xb2 m c t) ∗ owns (c : Thread nD τ) (st0_5 t) fullShare (yw1 m c t) ∗ owns (c : Thread nD τ) (st0_6 t) fullShare (yb1 m c t) ∗ owns (c : Thread nD τ) (st0_7 t) fullShare (yw2 m c t) ∗ owns (c : Thread nD τ) (st0_8 t) fullShare (yb2 m c t) ∗ owns (c : Thread nD τ) (st0_9 t) fullShare (xmv m c t) ∗ owns (c : Thread nD τ) (st0_10 t) fullShare (xmask m c t) ∗ owns (c : Thread nD τ) (st0_11 t) fullShare (xnoise m c t) ∗ owns (c : Thread nD τ) (st0_12 t) fullShare (zw m c t) ∗ owns (c : Thread nD τ) (st0_13 t) fullShare (zb m c t)
    ∗ (∃ d, owns (c : Thread nD τ) (st0_14 t) fullShare ((dats m ok 0 c).before 14 t d))
    ∗ (∃ d, owns (c : Thread nD τ) (st0_15 t) fullShare ((dats m ok 0 c).before 15 t d)) ∗ (∃ d, owns (c : Thread nD τ) (st0_16 t) fullShare ((dats m ok 0 c).before 16 t d)) ∗ (∃ d, owns (c : Thread nD τ) (st0_17 t) fullShare ((dats m ok 0 c).before 17 t d)))

/-- What a point before the last leaves. -/
def leftInner (c : Dev nD) (t : Fin cfg0.N) : sProp 𝕄 :=
  iprop(between m c (t.val + 1) ∗ (dats m ok 0 c).owesAt () t.succ
    ∗ owns (c : Thread nD τ) (st0_0 t) fullShare (xae m c t) ∗ owns (c : Thread nD τ) (st0_1 t) fullShare (xw1 m c t) ∗ owns (c : Thread nD τ) (st0_2 t) fullShare (xb1 m c t) ∗ owns (c : Thread nD τ) (st0_3 t) fullShare (xw2 m c t) ∗ owns (c : Thread nD τ) (st0_4 t) fullShare (xb2 m c t) ∗ owns (c : Thread nD τ) (st0_5 t) fullShare (yw1 m c t) ∗ owns (c : Thread nD τ) (st0_6 t) fullShare (yb1 m c t) ∗ owns (c : Thread nD τ) (st0_7 t) fullShare (yw2 m c t) ∗ owns (c : Thread nD τ) (st0_8 t) fullShare (yb2 m c t) ∗ owns (c : Thread nD τ) (st0_9 t) fullShare (xmv m c t) ∗ owns (c : Thread nD τ) (st0_10 t) fullShare (xmask m c t) ∗ owns (c : Thread nD τ) (st0_11 t) fullShare (xnoise m c t) ∗ owns (c : Thread nD τ) (st0_12 t) fullShare (zw m c t) ∗ owns (c : Thread nD τ) (st0_13 t) fullShare (zb m c t)
    ∗ owns (c : Thread nD τ) (st0_14 t) fullShare (outBlock m c t)
    ∗ (∃ d, owns (c : Thread nD τ) (st0_15 t) fullShare ((dats m ok 0 c).before 15 t d)) ∗ (∃ d, owns (c : Thread nD τ) (st0_16 t) fullShare ((dats m ok 0 c).before 16 t d)) ∗ (∃ d, owns (c : Thread nD τ) (st0_17 t) fullShare ((dats m ok 0 c).before 17 t d)))

/-- What the last point leaves. -/
def leftLast (c : Dev nD) (t : Fin cfg0.N) : sProp 𝕄 :=
  iprop(between m c (t.val + 1) ∗ (dats m ok 0 c).owesAt () t.succ
    ∗ owns (c : Thread nD τ) (st0_0 t) fullShare (xae m c t) ∗ owns (c : Thread nD τ) (st0_1 t) fullShare (xw1 m c t) ∗ owns (c : Thread nD τ) (st0_2 t) fullShare (xb1 m c t) ∗ owns (c : Thread nD τ) (st0_3 t) fullShare (xw2 m c t) ∗ owns (c : Thread nD τ) (st0_4 t) fullShare (xb2 m c t) ∗ owns (c : Thread nD τ) (st0_5 t) fullShare (yw1 m c t) ∗ owns (c : Thread nD τ) (st0_6 t) fullShare (yb1 m c t) ∗ owns (c : Thread nD τ) (st0_7 t) fullShare (yw2 m c t) ∗ owns (c : Thread nD τ) (st0_8 t) fullShare (yb2 m c t) ∗ owns (c : Thread nD τ) (st0_9 t) fullShare (xmv m c t) ∗ owns (c : Thread nD τ) (st0_10 t) fullShare (xmask m c t) ∗ owns (c : Thread nD τ) (st0_11 t) fullShare (xnoise m c t) ∗ owns (c : Thread nD τ) (st0_12 t) fullShare (zw m c t) ∗ owns (c : Thread nD τ) (st0_13 t) fullShare (zb m c t)
    ∗ owns (c : Thread nD τ) (st0_14 t) fullShare (outBlock m c t)
    ∗ owns (c : Thread nD τ) (st0_15 t) fullShare (outPolicy m c t)
    ∗ owns (c : Thread nD τ) (st0_16 t) fullShare (outIdx m c t)
    ∗ owns (c : Thread nD τ) (st0_17 t) fullShare (outProj m ok c t))

theorem point_inner (c : Dev nD) (t : Fin cfg0.N) (ht : t.val ≠ 7) :
    given m ok c t ⊢ wp frame (wpE (defs₀ (F := F)) Variants.none c none) Set.univ (bodyAt0 t) (fun _ => leftInner m ok c t) := by
  unfold given leftInner bodyAt0
  unfold between Dat.owesAt Pipeline.owesWithin
  rw [show (dats m ok 0 c).owed t.castSucc = 0 from rfl, show (dats m ok 0 c).owed t.succ = 0 from rfl]
  iintro ⟨⟨%dq, %dl, %hcar, HQ, HL, HR, Hg, Hs, Hh⟩, ⟨%W, %hW, HO⟩, H0, H1, H2, H3, H4, H5, H6, H7, H8, H9, H10, H11, H12, H13, ⟨%d14, H14⟩, H15, H16, H17⟩
  iapply (run_inner c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) qM (Memref.isWhole_whole _) lM (Memref.isWhole_whole _) (fun h => ht ((last_iff t).mp h)) (xae m c t) (xw1 m c t) (xb1 m c t) (xw2 m c t) (xb2 m c t) (xmv m c t) (yw1 m c t) (yb1 m c t) (yw2 m c t) (yb2 m c t) dl dq _)
  isplitl [H0]; · iexact H0
  isplitl [H1]; · iexact H1
  isplitl [H2]; · iexact H2
  isplitl [H3]; · iexact H3
  isplitl [H4]; · iexact H4
  isplitl [H9]; · iexact H9
  isplitl [H5]; · iexact H5
  isplitl [H6]; · iexact H6
  isplitl [H7]; · iexact H7
  isplitl [H8]; · iexact H8
  isplitl [H14]; · iexists _; iexact H14
  isplitl [HQ]; · iexact HQ
  isplitl [HL]; · iexact HL
  rw [query_step m c t dq dl hcar, row_eq]
  iintro ⟨H0, H1, H2, H3, H4, H9, H5, H6, H7, H8, H14, HQ, HL⟩
  isplitl [HQ HL HR Hg Hs Hh]
  · iexists _, _
    isplitr; · ipureintro; exact carried_step m c t dq dl hcar
    isplitl [HQ]; · iexact HQ
    isplitl [HL]; · iexact HL
    isplitl [HR]; · iexact HR
    isplitl [Hg]; · iexact Hg
    isplitl [Hs]; · iexact Hs
    iexact Hh
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem point_last (c : Dev nD) (t : Fin cfg0.N) (ht : t.val = 7) :
    given m ok c t ⊢ wp frame (wpE (defs₀ (F := F)) Variants.none c none) Set.univ (bodyAt0 t) (fun _ => leftLast m ok c t) := by
  unfold given leftLast bodyAt0
  unfold between Dat.owesAt Pipeline.owesWithin
  rw [show (dats m ok 0 c).owed t.castSucc = 0 from rfl, show (dats m ok 0 c).owed t.succ = 0 from rfl]
  iintro ⟨⟨%dq, %dl, %hcar, HQ, HL, HR, Hg, Hs, Hh⟩, ⟨%W, %hW, HO⟩, H0, H1, H2, H3, H4, H5, H6, H7, H8, H9, H10, H11, H12, H13, ⟨%d14, H14⟩, ⟨%d15, H15⟩, ⟨%d16, H16⟩, ⟨%d17, H17⟩⟩
  iapply (run_last c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) qM (Memref.isWhole_whole _) lM (Memref.isWhole_whole _) ((last_iff t).mpr ht)
    (fun P G => fun _ => row_fits _ (ok P G)) (fun a b d G => fun _ => row_fits _ (ok (k0_pay8 a b d) G)) (fun P G => fun _ => row_fits _ (ok P G)) (fun a b d e G => fun _ => row_fits _ (ok (k0_pay14 a b d e) G)) (words_ok ok)
    (xae m c t) (xw1 m c t) (xb1 m c t) (xw2 m c t) (xb2 m c t) (xmv m c t) (yw1 m c t) (yb1 m c t) (yw2 m c t) (yb2 m c t) (xmask m c t) (xnoise m c t) (zw m c t) (zb m c t) dl dq (xtab m c) W _)
  isplitl [H0]; · iexact H0
  isplitl [H1]; · iexact H1
  isplitl [H2]; · iexact H2
  isplitl [H3]; · iexact H3
  isplitl [H4]; · iexact H4
  isplitl [H9]; · iexact H9
  isplitl [H5]; · iexact H5
  isplitl [H6]; · iexact H6
  isplitl [H7]; · iexact H7
  isplitl [H8]; · iexact H8
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [HQ]; · iexact HQ
  isplitl [HL]; · iexact HL
  isplitl [HR]; · iexact HR
  isplitl [Hs]; · iexact Hs
  isplitl [Hh]; · iexact Hh
  isplitl [HO]; · iexact HO
  have hrows := all_rows m c t ht dq dl hcar
  have hcar' : Carried m c (t.val + 1) (queryAt m c t.val) (allRows m c) := hrows ▸ carried_step m c t dq dl hcar
  rw [query_step m c t dq dl hcar, row_eq, hrows]
  iintro ⟨H0, H1, H2, H3, H4, H9, H5, H6, H7, H8, H10, H11, H12, H13, H14, H15, H16, H17, HQ, HL, HR, Hs, Hh, ⟨%W', HO⟩⟩
  isplitl [HQ HL HR Hg Hs Hh]
  · iexists _, _
    isplitr; · ipureintro; exact hcar'
    isplitl [HQ]; · iexact HQ
    isplitl [HL]; · iexact HL
    isplitl [HR]; · iexact HR
    isplitl [Hg]; · iexact Hg
    isplitl [Hs]; · iexact Hs
    iexact Hh
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- A buffer described in two ways. -/
theorem owns_eq {c : Dev nD} {sp : Space} {S : Shape} {e : EltTy} {M : Memref sig .tc sp S e} {X Y : S.Idx → Elt F e}
    (h : X = Y) : (owns (c : Thread nD τ) M fullShare X : sProp 𝕄) ⊢ owns (c : Thread nD τ) M fullShare Y := by
  rw [h]

set_option maxHeartbeats 1000000 in
/-- What the pipeline hands a point is what the point is given: each input's buffer holds its block. -/
theorem handed (c : Dev nD) (t : Fin cfg0.N) :
    iprop(between m c t.val ∗ (dats m ok 0 c).owesAt () t.castSucc ∗ (∃ d, owns (c : Thread nD τ) (st0_0 t) fullShare ((dats m ok 0 c).before 0 t d)) ∗ (∃ d, owns (c : Thread nD τ) (st0_1 t) fullShare ((dats m ok 0 c).before 1 t d)) ∗ (∃ d, owns (c : Thread nD τ) (st0_2 t) fullShare ((dats m ok 0 c).before 2 t d)) ∗ (∃ d, owns (c : Thread nD τ) (st0_3 t) fullShare ((dats m ok 0 c).before 3 t d)) ∗ (∃ d, owns (c : Thread nD τ) (st0_4 t) fullShare ((dats m ok 0 c).before 4 t d)) ∗ (∃ d, owns (c : Thread nD τ) (st0_5 t) fullShare ((dats m ok 0 c).before 5 t d)) ∗ (∃ d, owns (c : Thread nD τ) (st0_6 t) fullShare ((dats m ok 0 c).before 6 t d)) ∗ (∃ d, owns (c : Thread nD τ) (st0_7 t) fullShare ((dats m ok 0 c).before 7 t d)) ∗ (∃ d, owns (c : Thread nD τ) (st0_8 t) fullShare ((dats m ok 0 c).before 8 t d)) ∗ (∃ d, owns (c : Thread nD τ) (st0_9 t) fullShare ((dats m ok 0 c).before 9 t d)) ∗ (∃ d, owns (c : Thread nD τ) (st0_10 t) fullShare ((dats m ok 0 c).before 10 t d)) ∗ (∃ d, owns (c : Thread nD τ) (st0_11 t) fullShare ((dats m ok 0 c).before 11 t d)) ∗ (∃ d, owns (c : Thread nD τ) (st0_12 t) fullShare ((dats m ok 0 c).before 12 t d)) ∗ (∃ d, owns (c : Thread nD τ) (st0_13 t) fullShare ((dats m ok 0 c).before 13 t d)) ∗ (∃ d, owns (c : Thread nD τ) (st0_14 t) fullShare ((dats m ok 0 c).before 14 t d)) ∗ (∃ d, owns (c : Thread nD τ) (st0_15 t) fullShare ((dats m ok 0 c).before 15 t d)) ∗ (∃ d, owns (c : Thread nD τ) (st0_16 t) fullShare ((dats m ok 0 c).before 16 t d)) ∗ (∃ d, owns (c : Thread nD τ) (st0_17 t) fullShare ((dats m ok 0 c).before 17 t d))) ⊢ given m ok c t := by
  unfold given
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14, H15, H16, H17⟩
  isplitl [HΦ]; · iexact HΦ
  isplitl [HO]; · iexact HO
  isplitl [H0]; · iapply (owns_eq (before_0 m ok c t d0)); iexact H0
  isplitl [H1]; · iapply (owns_eq (before_1 m ok c t d1)); iexact H1
  isplitl [H2]; · iapply (owns_eq (before_2 m ok c t d2)); iexact H2
  isplitl [H3]; · iapply (owns_eq (before_3 m ok c t d3)); iexact H3
  isplitl [H4]; · iapply (owns_eq (before_4 m ok c t d4)); iexact H4
  isplitl [H5]; · iapply (owns_eq (before_5 m ok c t d5)); iexact H5
  isplitl [H6]; · iapply (owns_eq (before_6 m ok c t d6)); iexact H6
  isplitl [H7]; · iapply (owns_eq (before_7 m ok c t d7)); iexact H7
  isplitl [H8]; · iapply (owns_eq (before_8 m ok c t d8)); iexact H8
  isplitl [H9]; · iapply (owns_eq (before_9 m ok c t d9)); iexact H9
  isplitl [H10]; · iapply (owns_eq (before_10 m ok c t d10)); iexact H10
  isplitl [H11]; · iapply (owns_eq (before_11 m ok c t d11)); iexact H11
  isplitl [H12]; · iapply (owns_eq (before_12 m ok c t d12)); iexact H12
  isplitl [H13]; · iapply (owns_eq (before_13 m ok c t d13)); iexact H13
  isplitl [H14]; · iexact H14
  isplitl [H15]; · iexact H15
  isplitl [H16]; · iexact H16
  iexact H17

set_option maxHeartbeats 1000000 in
/-- The body at any point, as the pipeline asks it. -/
theorem body_obligation (c : Dev nD) :
    BodyObligation (dats (F := F) m ok 0 c) (defs₀ (F := F)) Variants.none () Set.univ := fun t => by
  rw [bigSep_W0, bigSep_W0, defs₀_row]
  by_cases ht : t.val = 7
  · rw [idle_last t ht 15 (by decide)]
    exact triple_restated (point_last m ok c t ht) rfl (handed m ok c t) fun _ => by
      unfold leftLast; simp only [after_0, after_1, after_2, after_3, after_4, after_5, after_6, after_7, after_8, after_9, after_10, after_11, after_12, after_13, after_14, after_15, after_16, after_17]; exact .rfl
  · rw [(idle_inner t ht 15 (by decide)).1, (idle_inner t ht 15 (by decide)).2, (idle_inner t ht 16 (by decide)).2, (idle_inner t ht 17 (by decide)).2]
    exact triple_restated (point_inner m ok c t ht) rfl (handed m ok c t) fun _ => by
      unfold leftInner; simp only [after_0, after_1, after_2, after_3, after_4, after_5, after_6, after_7, after_8, after_9, after_10, after_11, after_12, after_13, after_14, after_15, after_16, after_17]; exact .rfl

end Cert.KernelIdeal.Hand

end
-- ==== Proof.Run.lean ====
module

public import proofs.«01_k».proof.Proof.Launch
public import Idealize.ShloMosaic.Lib.Claim

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

variable (m : (ℓ : Loc nD τ sig) → Buf (Elt F) ℓ) (ρ : Dev nD → PrngReg)
variable (ok : InRange F)

/-! The run of the whole program: the host lines before the launch, the launch, and the host lines after it. -/

set_option maxHeartbeats 800000 in
/-- The program is its host lines, the launch, and the host lines after it. -/
theorem main_around (𝒱₀ : Variants) :
    Pipeline.HMainK (Ix := Unit) (Name := ℕ) (U := Pipeline.UD sig nD τ) (Lvl := ℕ) cfgs 0 defs₀ 𝒱₀ m (main (F := F)) (V m)
      (fun _ => Pipeline.chain ([hostOps1, hostOps1_1].map StableHlo.seq)) :=
  Pipeline.hmain_around cfgs 0 defs₀ 𝒱₀ m main [hostOps0, hostOps0_1, hostOps0_2] [hostOps1, hostOps1_1]
    (by simp only [List.Forall]; exact ⟨hostOps0_sub, hostOps0_1_sub, hostOps0_2_sub⟩)
    (by simp only [List.Forall]; exact ⟨hostOps0_fresh, hostOps0_1_fresh, hostOps0_2_fresh⟩) main_chain

/-- The table the body's own transfers read is not touched by the host lines after the launch. -/
theorem later_sub : ∀ ops ∈ ([hostOps1, hostOps1_1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl | rfl
  · refine Pipeline.sub_tailRefsBut _ _ _ op ((List.forall_iff_forall_mem.mp hostOps1_sub) op hop) (fun k => k.elim0) ?_
    intro b hb
    obtain rfl := Finset.mem_singleton.mp hb
    revert op
    simp only [hostOps1, List.forall_mem_cons, List.not_mem_nil, false_imp_iff, implies_true, and_true]
    refine ⟨?_, ?_, ?_, ?_, ?_, ?_, ?_, ?_⟩ <;>
      simp only [StableHlo.reshape_bufs, StableHlo.nullary_bufs, StableHlo.unary_bufs, StableHlo.binary_bufs, Finset.mem_insert,
        Finset.mem_singleton, not_or] <;>
      (try constructor) <;> (try constructor) <;> exact StableHlo.devRef_ne_of_ne (by decide)
  · refine Pipeline.sub_tailRefsBut _ _ _ op ((List.forall_iff_forall_mem.mp hostOps1_1_sub) op hop) (fun k => k.elim0) ?_
    intro b hb
    obtain rfl := Finset.mem_singleton.mp hb
    revert op
    simp only [hostOps1_1, List.forall_mem_cons, List.not_mem_nil, false_imp_iff, implies_true, and_true]
    refine ⟨?_, ?_⟩ <;>
      simp only [StableHlo.unary_bufs, StableHlo.ternary_bufs, StableHlo.TRef.unary, StableHlo.TRef.ternary, StableHlo.TRef.of, Finset.mem_insert, Finset.mem_singleton, not_or]
    · exact ⟨StableHlo.devRef_ne_of_ne (by decide), StableHlo.devRef_ne_of_ne (by decide)⟩
    · exact ⟨StableHlo.devRef_ne_of_ne (by decide), StableHlo.devRef_ne_of_ne (by decide), StableHlo.devRef_ne_of_ne (by decide), StableHlo.devRef_ne_of_ne (by decide)⟩

-- the launch theorem's implicit arguments are found by unifying its conclusion with this statement
set_option backward.isDefEq.respectTransparency.types false in
/-- The run: every window's array ends at what the points wrote back, every other buffer at what the later host lines leave. -/
theorem run_main :
    θ_run defs (onTc (τ := τ) (main (F := F))) (s₀ m ρ)
      (fun r => Pipeline.FramePost cfgs (dats m ok) 0 (Pipeline.afterTail₀ cfgs (dats m ok) 0 (V0 m) [hostOps1, hostOps1_1]) r
        ∧ r.2.sem = fun _ => 0) :=
  Pipeline.θ_run_frame_dma_around (Q' := _) cfgs (dats m ok) (0 : Fin 1) launch0 osem0 defs₀ Variants.none ownSemFacts0 H0 H0_sub m ρ main
    (hbody := fun c => (body_obligation m ok c).loose) (hshare := fun c => (dats m ok 0 c).share_full fun _ => rfl)
    (howed := fun _ _ => rfl) (V₀ := V0 m) (opss := [hostOps1, hostOps1_1]) (hsub := later_sub) (hfresh := sfx_fresh) (hkeep := sfx_keeps)
    (hmain := main_around m Variants.none) (hA := A_eq m ok)
    (hin := fun c => between_zero m c) (hout := fun c => between_out m c _)

/-- What the buffer holds after the later host lines. -/
abbrev later (c : Dev nD) (b : Ref sig .tc) := Pipeline.afterTail₀ cfgs (dats m ok) 0 (V0 m) [hostOps1, hostOps1_1] c b

/-- A buffer that is no window's array and that no later host line writes ends as the region found it. -/
theorem later_kept (c : Dev nD) (b : Ref sig .tc)
    (hb : b ∉ [main_v18, main_v19, main_v20, main_c_2, main_v21, main_v22, main_v23, main_v24, main_call1_v0, main_v25])
    (hw : ∀ w, Pipeline.arrRef spec0 w ≠ b) : later m ok c b = V m c b := by
  simp only [List.mem_cons, List.mem_nil_iff, or_false, not_or] at hb
  obtain ⟨h1, h2, h3, h4, h5, h6, h7, h8, h9, h10⟩ := hb
  unfold later Pipeline.afterTail₀
  rw [StableHlo.after_of_forall_not_mem (b := Proc.devRef .tc b) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.reshape_writes, Finset.mem_singleton]
      exact ⟨StableHlo.devRef_ne_of_ne h1, StableHlo.devRef_ne_of_ne h2, StableHlo.devRef_ne_of_ne h3, StableHlo.devRef_ne_of_ne h4,
        StableHlo.devRef_ne_of_ne h5, StableHlo.devRef_ne_of_ne h6, StableHlo.devRef_ne_of_ne h7, StableHlo.devRef_ne_of_ne h8,
        StableHlo.devRef_ne_of_ne h9, StableHlo.devRef_ne_of_ne h10⟩)),
    Pipeline.withArrays_of_ne _ c (V0 m c) _ b hw]

/-- The four arrays the launch writes, as it leaves them. -/
abbrev arr14 (c : Dev nD) : Vec F S4x1x32768 .f32 := (dats m ok 0 c).arrAt 14 cfg0.N
abbrev arr15 (c : Dev nD) : Vec F S8x16384 .f32 := (dats m ok 0 c).arrAt 15 cfg0.N
abbrev arr16 (c : Dev nD) : IVec S1x4 32 := (dats m ok 0 c).arrAt 16 cfg0.N
abbrev arr17 (c : Dev nD) : Vec F S4x512 .f32 := (dats m ok 0 c).arrAt 17 cfg0.N

/-! What the later host lines compute, from any contents before them. -/

section
variable (W : Valuation τ sig (Elt F))

theorem tail_v17 : StableHlo.after [hostOps1, hostOps1_1].flatten W (Proc.devRef .tc main_v17_0) = W (Proc.devRef .tc main_v17_0) := by
  simp only [hostOps1, hostOps1_1, List.flatten_cons, List.flatten_nil, List.append_nil, List.cons_append, List.nil_append]
  after_results

theorem tail_v18 : StableHlo.after [hostOps1, hostOps1_1].flatten W (Proc.devRef .tc main_v18)
    = shapeCast S4x1x32768 (W (Proc.devRef .tc main_v17_1)) shapeCasts_S8x16384_S4x1x32768 := by
  simp only [hostOps1, hostOps1_1, List.flatten_cons, List.flatten_nil, List.append_nil, List.cons_append, List.nil_append]
  after_results
  rfl

theorem tail_v19 : StableHlo.after [hostOps1, hostOps1_1].flatten W (Proc.devRef .tc main_v19)
    = shapeCast S4x1x1 (W (Proc.devRef .tc main_v17_2)) shapeCasts_S1x4_S4x1x1 := by
  simp only [hostOps1, hostOps1_1, List.flatten_cons, List.flatten_nil, List.append_nil, List.cons_append, List.nil_append]
  after_results
  rfl

theorem tail_v20 : StableHlo.after [hostOps1, hostOps1_1].flatten W (Proc.devRef .tc main_v20)
    = shapeCast S4x1x512 (W (Proc.devRef .tc main_v17_3)) shapeCasts_S4x512_S4x1x512 := by
  simp only [hostOps1, hostOps1_1, List.flatten_cons, List.flatten_nil, List.append_nil, List.cons_append, List.nil_append]
  after_results
  rfl

theorem tail_v25 : StableHlo.after [hostOps1, hostOps1_1].flatten W (Proc.devRef .tc main_v25)
    = select (broadcastInDim S4x1x512 ![0, 1, 2] bcast_S4x1x1_S4x1x512_0_1_2 (broadcastInDim S4x1x1 ![0, 1] bcast_S4x1_S4x1x1_0_1
        (cmpi .eq (W (Proc.devRef .tc main_arg0)) (broadcastInDim S4x1 ![] bcast_S_S4x1 (constantI S_ 32 0#32)))))
      (addf (F := F) (s := S4x1x512) (φ := .f32) (W (Proc.devRef .tc main_arg1)) (shapeCast S4x1x512 (W (Proc.devRef .tc main_v17_3)) shapeCasts_S4x512_S4x1x512)) (W (Proc.devRef .tc main_arg1)) := by
  simp only [hostOps1, hostOps1_1, List.flatten_cons, List.flatten_nil, List.append_nil, List.cons_append, List.nil_append]
  after_results
  rfl
end

theorem later_v18 (c : Dev nD) : later m ok c main_v18 = shapeCast S4x1x32768 (arr15 m ok c) shapeCasts_S8x16384_S4x1x32768 := by
  unfold later Pipeline.afterTail₀
  rw [tail_v18]
  exact congrArg (fun X => shapeCast S4x1x32768 X shapeCasts_S8x16384_S4x1x32768) (Pipeline.withArrays_arr spec0 launch0.win.arr_inj c (V0 m c) _ 15)

theorem later_v19 (c : Dev nD) : later m ok c main_v19 = shapeCast S4x1x1 (arr16 m ok c) shapeCasts_S1x4_S4x1x1 := by
  unfold later Pipeline.afterTail₀
  rw [tail_v19]
  exact congrArg (fun X => shapeCast S4x1x1 X shapeCasts_S1x4_S4x1x1) (Pipeline.withArrays_arr spec0 launch0.win.arr_inj c (V0 m c) _ 16)

theorem later_v20 (c : Dev nD) : later m ok c main_v20 = shapeCast S4x1x512 (arr17 m ok c) shapeCasts_S4x512_S4x1x512 := by
  unfold later Pipeline.afterTail₀
  rw [tail_v20]
  exact congrArg (fun X => shapeCast S4x1x512 X shapeCasts_S4x512_S4x1x512) (Pipeline.withArrays_arr spec0 launch0.win.arr_inj c (V0 m c) _ 17)

theorem later_v25 (c : Dev nD) : later m ok c main_v25
    = select (broadcastInDim S4x1x512 ![0, 1, 2] bcast_S4x1x1_S4x1x512_0_1_2 (broadcastInDim S4x1x1 ![0, 1] bcast_S4x1_S4x1x1_0_1
        (cmpi .eq (m ((c : Thread nD τ).loc main_arg0)) (broadcastInDim S4x1 ![] bcast_S_S4x1 (constantI S_ 32 0#32)))))
      (addf (F := F) (s := S4x1x512) (φ := .f32) (m ((c : Thread nD τ).loc main_arg1)) (shapeCast S4x1x512 (arr17 m ok c) shapeCasts_S4x512_S4x1x512))
      (m ((c : Thread nD τ).loc main_arg1)) := by
  unfold later Pipeline.afterTail₀
  rw [tail_v25, Pipeline.withArrays_of_ne spec0 c (V0 m c) _ main_arg0 (by exact (by decide : ∀ w, Pipeline.arrRef spec0 w ≠ main_arg0))]
  have e1 := (Pipeline.withArrays_arr spec0 launch0.win.arr_inj c (V0 m c) (fun w => (dats m ok 0 c).arrAt w cfg0.N) 0).trans
    (((dats m ok 0 c).arrAt_in 0 rfl _).trans ((A_eq m ok c 0).trans (V_main_arg1 m c)))
  have e2 := Pipeline.withArrays_arr spec0 launch0.win.arr_inj c (V0 m c) (fun w => (dats m ok 0 c).arrAt w cfg0.N) 17
  have e0 := V_main_arg0 m c
  exact congrArg₂ (fun X Y => select _ X Y) (congrArg₂ (fun X Y => addf (F := F) (s := S4x1x512) (φ := .f32) X (shapeCast S4x1x512 Y shapeCasts_S4x512_S4x1x512)) e1 e2) e1

/-- The buffers of the arguments end as launched, the results at what the launch and the later lines leave. -/
theorem run_values : θ_run defs (onTc (τ := τ) (main (F := F))) ⟨m, fun _ => 0, ρ⟩ (fun r => (∀ c : Dev nD,
      (r.2.mem ((c : Thread nD τ).loc main_v17_0) = arr14 m ok c
      ∧ r.2.mem ((c : Thread nD τ).loc main_v18) = later m ok c main_v18
      ∧ r.2.mem ((c : Thread nD τ).loc main_v19) = later m ok c main_v19
      ∧ r.2.mem ((c : Thread nD τ).loc main_v25) = later m ok c main_v25
      ∧ r.2.mem ((c : Thread nD τ).loc main_v20) = later m ok c main_v20)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13))
      ∧ r.2.sem = fun _ => 0) := by
  refine (θ_run defs _ _).mono (fun r h => ⟨fun c => ?_, h.2⟩) (run_main m ρ ok)
  have rest (b : Ref sig .tc) (hb) := (h.1 c).2 b hb
  have same (b : Ref sig .tc) (hb) (h1) (h2) := (rest b hb).trans (later_kept m ok c b h1 h2)
  have staged (w : Fin cfg0.W) (hw) := ((h.1 c).1 w).trans (((dats m ok 0 c).arrAt_in w hw _).trans (A_eq m ok c w))
  refine ⟨⟨(h.1 c).1 14, rest main_v18 (Pipeline.mem_restRefs_of _ (by decide) (by decide)), rest main_v19 (Pipeline.mem_restRefs_of _ (by decide) (by decide)),
    rest main_v25 (Pipeline.mem_restRefs_of _ (by decide) (by decide)), rest main_v20 (Pipeline.mem_restRefs_of _ (by decide) (by decide))⟩, ?_⟩
  exact ⟨(same main_arg0 (Pipeline.mem_restRefs_of _ (by decide) (by decide)) (by decide) (by decide)).trans (V_main_arg0 m c),
    (staged 0 rfl).trans (V_main_arg1 m c),
    (same main_arg2 (Pipeline.mem_restRefs_of _ (by decide) (by decide)) (by decide) (by decide)).trans (V_main_arg2 m c),
    (same main_arg3 (Pipeline.mem_restRefs_of _ (by decide) (by decide)) (by decide) (by decide)).trans (V_main_arg3 m c),
    (staged 1 rfl).trans (V_main_arg4 m c),
    (same main_arg5 (Pipeline.mem_restRefs_of _ (by decide) (by decide)) (by decide) (by decide)).trans (V_main_arg5 m c),
    (staged 3 rfl).trans (V_main_arg6 m c),
    (same main_arg7 (Pipeline.mem_restRefs_of _ (by decide) (by decide)) (by decide) (by decide)).trans (V_main_arg7 m c),
    (staged 5 rfl).trans (V_main_arg8 m c),
    (same main_arg9 (Pipeline.mem_restRefs_of _ (by decide) (by decide)) (by decide) (by decide)).trans (V_main_arg9 m c),
    (staged 7 rfl).trans (V_main_arg10 m c),
    (same main_arg11 (Pipeline.mem_restRefs_of _ (by decide) (by decide)) (by decide) (by decide)).trans (V_main_arg11 m c),
    (staged 12 rfl).trans (V_main_arg12 m c),
    (same main_arg13 (Pipeline.mem_restRefs_of _ (by decide) (by decide)) (by decide) (by decide)).trans (V_main_arg13 m c)⟩

end Cert.KernelIdeal.Hand

end
-- ==== Proof.Words.lean ====
module

public import proofs.«01_k».proof.Proof.Launch
public import Idealize.ShloMosaic.PureOps.Ideal.Laws
public import Idealize.ShloMosaic.PureOps.Reduce
public import Idealize.ShloMosaic.Lib.ValueLayout
public import Idealize.ShloMosaic.Lib.Pointwise

@[expose] public section

noncomputable section

namespace Cert.KernelIdeal.Hand

open Cert.KernelIdeal Cert.KernelIdeal.Gen
open Idealize.ShloMosaic

/-! The index word at the ideal values: the least index at which policy-with-noise is largest. -/

/-- `n` is the first place at which `y` is largest. -/
def FirstMax (y : Fin 32768 → EReal) (n : Fin 32768) : Prop := (∀ k, y k ≤ y n) ∧ ∀ k, k < n → y k < y n

theorem exists_firstMax (y : Fin 32768 → EReal) : ∃ n, FirstMax y n := by
  classical
  obtain ⟨a, -, ha⟩ := Finset.exists_max_image Finset.univ y ⟨0, Finset.mem_univ _⟩
  have hs : (Finset.univ.filter fun k => y k = y a).Nonempty := ⟨a, by simp⟩
  obtain ⟨n, hn, hmin⟩ := Finset.exists_min_image (Finset.univ.filter fun k => y k = y a) id hs
  have hn' : y n = y a := by simpa using hn
  refine ⟨n, fun k => hn' ▸ ha k (Finset.mem_univ _), fun k hk => ?_⟩
  refine lt_of_le_of_ne (hn' ▸ ha k (Finset.mem_univ _)) fun e => ?_
  have := hmin k (by simp [e, hn'])
  exact absurd hk (not_lt.mpr this)

/-- The place of lane `(i, j)` in a row of two blocks. -/
def flat (x : S2x16384.Idx) : Fin 32768 := ⟨16384 * (x 0).val + (x 1).val, by
  have h0 : (x 0).val < 2 := (x 0).isLt
  have h1 : (x 1).val < 16384 := (x 1).isLt
  omega⟩

/-- The lane of a place. -/
def lane (n : Fin 32768) : S2x16384.Idx := ValueIdx.ix2 ⟨n.val / 16384, by omega⟩ ⟨n.val % 16384, by omega⟩

theorem flat_lane (n : Fin 32768) : flat (lane n) = n := Fin.ext (by
  show 16384 * (n.val / 16384) + n.val % 16384 = n.val
  omega)

theorem lane_flat (x : S2x16384.Idx) : lane (flat x) = x := by
  have h0 : (x 0).val < 2 := (x 0).isLt
  have h1 : (x 1).val < 16384 := (x 1).isLt
  funext a
  match a with
  | ⟨0, _⟩ => exact Fin.ext (show (16384 * (x 0).val + (x 1).val) / 16384 = (x 0).val by omega)
  | ⟨1, _⟩ => exact Fin.ext (show (16384 * (x 0).val + (x 1).val) % 16384 = (x 1).val by omega)

/-- What the index is chosen by: the logarithm of the policy, a little raised, and the noise. -/
def score (P G : Vec Ideal S2x16384 .f32) : S2x16384.Idx → EReal :=
  fun x => addf (F := Ideal) (s := S2x16384) (φ := .f32) (log (F := Ideal) (s := S2x16384) (φ := .f32) (addf (F := Ideal) (s := S2x16384) (φ := .f32) P
    (broadcast S2x16384 (Scalar.ofBits (F := Ideal) .f32 0x1E3CE508#32)))) G x

/-- The kernel's lane numbers. -/
theorem pay3_val (x : S2x16384.Idx) : k0_pay3 x = BitVec.ofNat 32 (flat x).val := by
  have h0 : (x 0).val < 2 := (x 0).isLt
  have h1 : (x 1).val < 16384 := (x 1).isLt
  show BitVec.ofNat 32 (0 * 2 + (x 0).val) * 16384#32 + BitVec.ofNat 32 (0 * 16384 + (x 1).val) = BitVec.ofNat 32 (16384 * (x 0).val + (x 1).val)
  apply BitVec.eq_of_toNat_eq
  rw [BitVec.toNat_add, BitVec.toNat_mul, BitVec.toNat_ofNat, BitVec.toNat_ofNat, BitVec.toNat_ofNat, BitVec.toNat_ofNat]
  omega

/-- The fold of the signed minimum, read as integers. -/
theorem fold_minsi {ι : Type} (s : Finset ι) (f : ι → BitVec 32) (b : BitVec 32) :
    (s.fold (IKind.op .minsi) b f).toInt = s.fold min b.toInt fun i => (f i).toInt := by
  refine (Finset.fold_hom (op := IKind.op .minsi) (op' := min) (m := BitVec.toInt) (f := f) (b := b) (s := s) fun x y => ?_).symm
  show (if x.slt y then x else y).toInt = min x.toInt y.toInt
  by_cases h : x.slt y
  · rw [if_pos h]; rw [BitVec.slt_iff_toInt_lt] at h; omega
  · rw [if_neg h]; rw [BitVec.slt_iff_toInt_lt] at h; omega

theorem flat_toInt (n : Fin 32768) : (BitVec.ofNat 32 n.val).toInt = (n.val : ℤ) := by
  rw [BitVec.toInt_eq_toNat_of_lt] <;> rw [BitVec.toNat_ofNat] <;> omega

/-- A block cast to a leading unit axis, read at an index. -/
theorem lead_cast {α : Type} (x : S2x16384.Idx → α) (h : S2x16384.ShapeCasts S1x2x16384) (i : S1x2x16384.Idx) :
    shapeCast S1x2x16384 x h i = x (ValueIdx.ix2 (i 1) (i 2)) := by
  have h0 : i 0 = (0 : Fin 1) := Subsingleton.elim (α := Fin 1) _ _
  have e : i = ValueIdx.ix3 (0 : Fin 1) (i 1) (i 2) := by
    funext a; match a with | ⟨0, _⟩ => exact h0 | ⟨1, _⟩ => rfl | ⟨2, _⟩ => rfl
  conv_lhs => rw [e]
  exact ValueIdx.shapeCast_ab_1ab_apply x h 0 (i 1) (i 2)

/-- Reducing a whole block to one number drops every index to the one place. -/
theorem all_drop (i : S1x2x16384.Idx) (j : S1.Idx) : reduces_S1x2x16384_S1.drop i = j :=
  funext fun b => by
    match b with
    | ⟨0, _⟩ => exact Subsingleton.elim (α := Fin 1) _ _

theorem all_filter (j : S1.Idx) : (Finset.univ.filter fun i : S1x2x16384.Idx => reduces_S1x2x16384_S1.drop i = j) = Finset.univ :=
  Finset.filter_true_of_mem fun i _ => all_drop i j

/-- The largest entry of a block, as the kernel reduces it. -/
theorem block_max (v : FVec Ideal S2x16384 .f32) (h : S1x2x16384.Reduces [1, 2] S1) (hφ : FKind.Formats .f32) (hacc) (j : S1.Idx) :
    multiReduction (F := Ideal) (φ := .f32) .maximumf [1, 2] S1 (shapeCast S1x2x16384 v shapeCasts_S2x16384_S1x2x16384) 0xFF800000#32 h hφ hacc j
      = Finset.univ.fold max (⊥ : EReal) fun i : S1x2x16384.Idx => v (ValueIdx.ix2 (i 1) (i 2)) := by
  rw [multiReduction_maximumf_eq_fold, all_filter]
  have e : (FloatOps.ofBits (F := Ideal) .f32 0xFF800000#32 : EReal) = ⊥ := by
    show Ideal.ofBits .f32 0xFF800000#32 = ⊥
    simp [Ideal.ofBits, Ideal.ieee]
  have hv : (shapeCast S1x2x16384 v shapeCasts_S2x16384_S1x2x16384) = fun i => v (ValueIdx.ix2 (i 1) (i 2)) :=
    funext fun i => lead_cast v _ i
  rw [hv]
  exact congrArg (fun b => Finset.univ.fold max b fun i : S1x2x16384.Idx => (v (ValueIdx.ix2 (i 1) (i 2)) : EReal)) e

/-- The least entry of a block of integers, as the kernel reduces it, read as an integer. -/
theorem block_min (v : IVec S2x16384 32) (h : S1x2x16384.Reduces [1, 2] S1) (hacc) (j : S1.Idx) :
    (multiReductionI .minsi [1, 2] S1 (shapeCast S1x2x16384 v shapeCasts_S2x16384_S1x2x16384) 2147483647#32 h hacc j).toInt
      = Finset.univ.fold min (2147483647 : ℤ) fun i : S1x2x16384.Idx => (v (ValueIdx.ix2 (i 1) (i 2))).toInt := by
  rw [multiReductionI_eq_fold, all_filter, fold_minsi]
  have hv : (shapeCast S1x2x16384 v shapeCasts_S2x16384_S1x2x16384) = fun i => v (ValueIdx.ix2 (i 1) (i 2)) :=
    funext fun i => lead_cast v _ i
  rw [hv]
  rfl

/-- The one number a block is reduced to, taken out. -/
theorem pick {α : Type} (r : S1.Idx → α) : extractAt ![0, 0, 0] (shapeCast S1x1x1 r shapeCasts_S1_S1x1x1) inpos_S1x1x1_p0_0_0 = r (fun a => ⟨0, by fin_cases a; decide⟩) := by
  unfold extractAt shapeCast
  refine congrArg r (funext fun a => ?_)
  match a with
  | ⟨0, _⟩ => exact Subsingleton.elim (α := Fin 1) _ _

/-- The index of a place in a block with a leading unit axis. -/
def lane3 (n : Fin 32768) : S1x2x16384.Idx := ValueIdx.ix3 (0 : Fin 1) ⟨n.val / 16384, by omega⟩ ⟨n.val % 16384, by omega⟩

/-- A block cast to its own shape is the block. -/
theorem shapeCast_self_at {α : Type} (x : S2x16384.Idx → α) : shapeCast S2x16384 x shapeCasts_S2x16384_S2x16384 = x :=
  Idealize.ShloMosaic.shapeCast_id x _

/-- The index word is the first place at which the score is largest. -/
theorem word_eq (P G : Vec Ideal S2x16384 .f32) (y : Fin 32768 → EReal) (hy : ∀ x, score P G x = y (flat x)) (n : Fin 32768) (hn : FirstMax y n) :
    extractAt ![0, 0, 0] (k0_pay5 (F := Ideal) k0_pay3 P G) inpos_S1x1x1_p0_0_0 = BitVec.ofNat 32 n.val := by
  have hG : shapeCast S2x16384 G shapeCasts_S2x16384_S2x16384 = G := shapeCast_self_at G
  have hmax (h) (hφ) (hacc) (j) : multiReduction (F := Ideal) (φ := .f32) .maximumf [1, 2] S1
      (shapeCast S1x2x16384 (score P G) shapeCasts_S2x16384_S1x2x16384) 0xFF800000#32 h hφ hacc j = y n := by
    rw [block_max]
    apply le_antisymm
    · rw [Finset.fold_max_le]
      exact ⟨bot_le, fun i _ => (hy _).trans_le (hn.1 _)⟩
    · rw [Finset.le_fold_max]
      refine Or.inr ⟨lane3 n, Finset.mem_univ _, ?_⟩
      rw [hy]
      exact le_of_eq (congrArg y (flat_lane n).symm)
  have hsel (x : S2x16384.Idx) : (Scalar.select (FloatOps.cmpf (F := Ideal) (φ := .f32) .oeq (score P G x) (y n)) (k0_pay3 x) 2147483647#32).toInt
      = if y (flat x) = y n then ((flat x).val : ℤ) else 2147483647 := by
    rw [hy, pay3_val]
    show (if BitVec.ofBool (decide (y (flat x) = y n)) = 1#1 then BitVec.ofNat 32 (flat x).val else 2147483647#32).toInt = _
    by_cases hq : y (flat x) = y n
    · rw [if_pos hq, decide_eq_true hq, if_pos (by decide), flat_toInt]
    · rw [if_neg hq, decide_eq_false hq, if_neg (by decide)]; rfl
  apply BitVec.eq_of_toInt_eq
  rw [flat_toInt]
  unfold k0_pay5
  dsimp only
  rw [hG]
  rw [pick, pick]
  erw [hmax, block_min]
  apply le_antisymm
  · rw [Finset.fold_min_le]
    refine Or.inr ⟨lane3 n, Finset.mem_univ _, ?_⟩
    refine (le_of_eq (hsel _)).trans ?_
    have e : flat (ValueIdx.ix2 ((lane3 n) 1) ((lane3 n) 2)) = n := flat_lane n
    rw [e, if_pos rfl]
  · rw [Finset.le_fold_min]
    refine ⟨by have := n.isLt; omega, fun i _ => ?_⟩
    refine le_of_le_of_eq ?_ (hsel _).symm
    split
    · rename_i hq
      by_contra hlt
      exact absurd hq (hn.2 _ (by rw [Fin.lt_def]; omega)).ne
    · have := n.isLt; omega

theorem inRange : InRange Ideal := fun P G => by
  obtain ⟨n, hn⟩ := exists_firstMax fun n => score P G (lane n)
  rw [word_eq P G (fun n => score P G (lane n)) (fun x => congrArg _ (lane_flat x).symm) n hn, BitVec.toNat_ofNat]
  omega

end Cert.KernelIdeal.Hand

end
-- ==== Proof.RefOps.lean ====
module

public import proofs.«01_k».proof.Proof.Gen.ReferenceIdeal
public import Idealize.ShloMosaic.Lib.StableHlo.RunRead
public import Idealize.ShloMosaic.Lib.StableHlo.ReadAt
public import Idealize.ShloMosaic.Lib.StableHlo.RunHlo
public import Idealize.ShloMosaic.Lib.Pipeline.Regions
public import Idealize.ShloMosaic.Lib.Quiescent

@[expose] public section

noncomputable section

namespace Cert.ReferenceIdeal.Hand

open Cert.ReferenceIdeal Cert.ReferenceIdeal.Gen
open Idealize.ShloMosaic Idealize.ShloMosaic.TcCoe Idealize.ShloMosaic.Tactic
open Idealize.SL.Sem

variable {F : FTy → Type} [FloatOps F] [∀ e, Nonempty (Elt F e)]

/-! The reference's lines, cut into the stages of the computation: the scores, the policy, the generator's key, the noise,
the choice of a move, and the projection. -/

/-- The lines that compute the scores of all moves. -/
abbrev logitOps : List (HloOp τ sig (Elt F)) :=
  [ StableHlo.binary main_arg1 main_arg4 main_v0 ((fun l r => Host.dotGeneral dot_S4x1x512_S512x256_S4x1x256_2_0_01_1_n_n none l r) : (⟨S4x1x512, .f32⟩ : BufTy).Contents (Elt F) → (⟨S512x256, .f32⟩ : BufTy).Contents (Elt F) → (⟨S4x1x256, .f32⟩ : BufTy).Contents (Elt F)),
    StableHlo.unary main_arg5 main_v1 (broadcastInDim S1x1x256 ![2] bcast_S256_S1x1x256_2 : (⟨S256, .f32⟩ : BufTy).Contents (Elt F) → (⟨S1x1x256, .f32⟩ : BufTy).Contents (Elt F)),
    StableHlo.unary main_v1 main_v2 (broadcastInDim S4x1x256 ![0, 1, 2] bcast_S1x1x256_S4x1x256_0_1_2 : (⟨S1x1x256, .f32⟩ : BufTy).Contents (Elt F) → (⟨S4x1x256, .f32⟩ : BufTy).Contents (Elt F)),
    StableHlo.binary main_v0 main_v2 main_v3 (addf : (⟨S4x1x256, .f32⟩ : BufTy).Contents (Elt F) → (⟨S4x1x256, .f32⟩ : BufTy).Contents (Elt F) → (⟨S4x1x256, .f32⟩ : BufTy).Contents (Elt F)),
    StableHlo.nullary main_cst (constant S_ .f32 0x00000000#32),
    StableHlo.unary main_cst main_v4 (broadcastInDim S4x1x256 ![] bcast_S_S4x1x256 : (⟨S_, .f32⟩ : BufTy).Contents (Elt F) → (⟨S4x1x256, .f32⟩ : BufTy).Contents (Elt F)),
    StableHlo.binary main_v3 main_v4 main_v5 (maximumf : (⟨S4x1x256, .f32⟩ : BufTy).Contents (Elt F) → (⟨S4x1x256, .f32⟩ : BufTy).Contents (Elt F) → (⟨S4x1x256, .f32⟩ : BufTy).Contents (Elt F)),
    StableHlo.binary main_v5 main_arg6 main_v6 ((fun l r => Host.dotGeneral dot_S4x1x256_S256x128_S4x1x128_2_0_01_1_n_n none l r) : (⟨S4x1x256, .f32⟩ : BufTy).Contents (Elt F) → (⟨S256x128, .f32⟩ : BufTy).Contents (Elt F) → (⟨S4x1x128, .f32⟩ : BufTy).Contents (Elt F)),
    StableHlo.unary main_arg7 main_v7 (broadcastInDim S1x1x128 ![2] bcast_S128_S1x1x128_2 : (⟨S128, .f32⟩ : BufTy).Contents (Elt F) → (⟨S1x1x128, .f32⟩ : BufTy).Contents (Elt F)),
    StableHlo.unary main_v7 main_v8 (broadcastInDim S4x1x128 ![0, 1, 2] bcast_S1x1x128_S4x1x128_0_1_2 : (⟨S1x1x128, .f32⟩ : BufTy).Contents (Elt F) → (⟨S4x1x128, .f32⟩ : BufTy).Contents (Elt F)),
    StableHlo.binary main_v6 main_v8 main_v9 (addf : (⟨S4x1x128, .f32⟩ : BufTy).Contents (Elt F) → (⟨S4x1x128, .f32⟩ : BufTy).Contents (Elt F) → (⟨S4x1x128, .f32⟩ : BufTy).Contents (Elt F)),
    StableHlo.reshape main_v9 main_v10 (rfl : (.f32 : EltTy) = .f32) shapeCasts_S4x1x128_S4x1x1x1x128,
    StableHlo.binary main_arg2 main_arg8 main_v11 ((fun l r => Host.dotGeneral dot_S4x1x16x2048x256_S256x256_S4x1x16x2048x256_4_0_0123_1_n_n none l r) : (⟨S4x1x16x2048x256, .f32⟩ : BufTy).Contents (Elt F) → (⟨S256x256, .f32⟩ : BufTy).Contents (Elt F) → (⟨S4x1x16x2048x256, .f32⟩ : BufTy).Contents (Elt F)),
    StableHlo.unary main_arg9 main_v12 (broadcastInDim S1x1x1x1x256 ![4] bcast_S256_S1x1x1x1x256_4 : (⟨S256, .f32⟩ : BufTy).Contents (Elt F) → (⟨S1x1x1x1x256, .f32⟩ : BufTy).Contents (Elt F)),
    StableHlo.unary main_v12 main_v13 (broadcastInDim S4x1x16x2048x256 ![0, 1, 2, 3, 4] bcast_S1x1x1x1x256_S4x1x16x2048x256_0_1_2_3_4 : (⟨S1x1x1x1x256, .f32⟩ : BufTy).Contents (Elt F) → (⟨S4x1x16x2048x256, .f32⟩ : BufTy).Contents (Elt F)),
    StableHlo.binary main_v11 main_v13 main_v14 (addf : (⟨S4x1x16x2048x256, .f32⟩ : BufTy).Contents (Elt F) → (⟨S4x1x16x2048x256, .f32⟩ : BufTy).Contents (Elt F) → (⟨S4x1x16x2048x256, .f32⟩ : BufTy).Contents (Elt F)),
    StableHlo.nullary main_cst_0 (constant S_ .f32 0x00000000#32),
    StableHlo.unary main_cst_0 main_v15 (broadcastInDim S4x1x16x2048x256 ![] bcast_S_S4x1x16x2048x256 : (⟨S_, .f32⟩ : BufTy).Contents (Elt F) → (⟨S4x1x16x2048x256, .f32⟩ : BufTy).Contents (Elt F)),
    StableHlo.binary main_v14 main_v15 main_v16 (maximumf : (⟨S4x1x16x2048x256, .f32⟩ : BufTy).Contents (Elt F) → (⟨S4x1x16x2048x256, .f32⟩ : BufTy).Contents (Elt F) → (⟨S4x1x16x2048x256, .f32⟩ : BufTy).Contents (Elt F)),
    StableHlo.binary main_v16 main_arg10 main_v17 ((fun l r => Host.dotGeneral dot_S4x1x16x2048x256_S256x128_S4x1x16x2048x128_4_0_0123_1_n_n none l r) : (⟨S4x1x16x2048x256, .f32⟩ : BufTy).Contents (Elt F) → (⟨S256x128, .f32⟩ : BufTy).Contents (Elt F) → (⟨S4x1x16x2048x128, .f32⟩ : BufTy).Contents (Elt F)),
    StableHlo.unary main_arg11 main_v18 (broadcastInDim S1x1x1x1x128 ![4] bcast_S128_S1x1x1x1x128_4 : (⟨S128, .f32⟩ : BufTy).Contents (Elt F) → (⟨S1x1x1x1x128, .f32⟩ : BufTy).Contents (Elt F)),
    StableHlo.unary main_v18 main_v19 (broadcastInDim S4x1x16x2048x128 ![0, 1, 2, 3, 4] bcast_S1x1x1x1x128_S4x1x16x2048x128_0_1_2_3_4 : (⟨S1x1x1x1x128, .f32⟩ : BufTy).Contents (Elt F) → (⟨S4x1x16x2048x128, .f32⟩ : BufTy).Contents (Elt F)),
    StableHlo.binary main_v17 main_v19 main_v20 (addf : (⟨S4x1x16x2048x128, .f32⟩ : BufTy).Contents (Elt F) → (⟨S4x1x16x2048x128, .f32⟩ : BufTy).Contents (Elt F) → (⟨S4x1x16x2048x128, .f32⟩ : BufTy).Contents (Elt F)),
    StableHlo.unary main_v20 main_v21 ((transpose S4x1x16x128x2048 [0, 1, 2, 4, 3] · transposes_S4x1x16x2048x128_S4x1x16x128x2048_0_1_2_4_3) : (⟨S4x1x16x2048x128, .f32⟩ : BufTy).Contents (Elt F) → (⟨S4x1x16x128x2048, .f32⟩ : BufTy).Contents (Elt F)),
    StableHlo.reshape main_v10 main_v22 (rfl : (.f32 : EltTy) = .f32) shapeCasts_S4x1x1x1x128_S4x1x128,
    StableHlo.reshape main_v21 main_v23 (rfl : (.f32 : EltTy) = .f32) shapeCasts_S4x1x16x128x2048_S4x16x128x2048,
    StableHlo.binary main_v22 main_v23 main_v24 ((fun l r => Host.dotGeneral dot_S4x1x128_S4x16x128x2048_S4x1x16x2048_2_2_1_13_0_0 none l r) : (⟨S4x1x128, .f32⟩ : BufTy).Contents (Elt F) → (⟨S4x16x128x2048, .f32⟩ : BufTy).Contents (Elt F) → (⟨S4x1x16x2048, .f32⟩ : BufTy).Contents (Elt F)),
    StableHlo.unary main_v24 main_v25 ((transpose S4x16x1x2048 [0, 2, 1, 3] · transposes_S4x1x16x2048_S4x16x1x2048_0_2_1_3) : (⟨S4x1x16x2048, .f32⟩ : BufTy).Contents (Elt F) → (⟨S4x16x1x2048, .f32⟩ : BufTy).Contents (Elt F)),
    StableHlo.unary main_v25 main_v26 (broadcastInDim S4x1x16x1x2048 ![0, 2, 3, 4] bcast_S4x16x1x2048_S4x1x16x1x2048_0_2_3_4 : (⟨S4x16x1x2048, .f32⟩ : BufTy).Contents (Elt F) → (⟨S4x1x16x1x2048, .f32⟩ : BufTy).Contents (Elt F)),
    StableHlo.reshape main_v26 main_v27 (rfl : (.f32 : EltTy) = .f32) shapeCasts_S4x1x16x1x2048_S4x1x32768 ]

/-- The lines that compute the legal moves and the policy. -/
abbrev policyOps : List (HloOp τ sig (Elt F)) :=
  [ StableHlo.reshape main_arg3 main_v28 (rfl : (.i1 : EltTy) = .i1) shapeCasts_S4x1x16x2048_S4x32768,
    StableHlo.unary main_v28 main_v29 ((extui 32 · natLt_1_32) : (⟨S4x32768, .i1⟩ : BufTy).Contents (Elt F) → (⟨S4x32768, .i32⟩ : BufTy).Contents (Elt F)),
    StableHlo.nullary main_c (constantI S_ 32 0#32),
    StableHlo.binary main_v29 main_c main_v30 ((fun x v => Host.reduce IntOp.addi x v reducesTo_S4x32768_S_d0_1 h_S_) : (⟨S4x32768, .i32⟩ : BufTy).Contents (Elt F) → (⟨S_, .i32⟩ : BufTy).Contents (Elt F) → (⟨S_, .i32⟩ : BufTy).Contents (Elt F)),
    StableHlo.nullary main_c_1 (constantI S_ 32 0#32),
    StableHlo.binary main_v30 main_c_1 main_v31 (cmpi .eq : (⟨S_, .i32⟩ : BufTy).Contents (Elt F) → (⟨S_, .i32⟩ : BufTy).Contents (Elt F) → (⟨S_, .i1⟩ : BufTy).Contents (Elt F)),
    StableHlo.nullary main_c_2 (constantI S_ 1 1#1),
    StableHlo.unary main_c_2 main_v32 (broadcastInDim S4x32768 ![] bcast_S_S4x32768 : (⟨S_, .i1⟩ : BufTy).Contents (Elt F) → (⟨S4x32768, .i1⟩ : BufTy).Contents (Elt F)),
    StableHlo.TRef.ternary (.of main_v31 : StableHlo.TRef sig ⟨S_, .i1⟩) (.of main_v32 : StableHlo.TRef sig ⟨S4x32768, .i1⟩) (.of main_v28 : StableHlo.TRef sig ⟨S4x32768, .i1⟩) (.of main_v33 : StableHlo.TRef sig ⟨S4x32768, .i1⟩) (fun p a b => select (broadcastInDim S4x32768 ![] bcast_S_S4x32768 p) a b),
    StableHlo.reshape main_v33 main_v34 (rfl : (.i1 : EltTy) = .i1) shapeCasts_S4x32768_S4x1x32768,
    StableHlo.nullary main_cst_3 (constant S_ .f32 0x7F800000#32),
    StableHlo.binary main_v27 main_cst_3 main_v35 ((fun x v => Host.reduce FloatOps.minimumf x v reducesTo_S4x1x32768_S4x1_d2 h_S_) : (⟨S4x1x32768, .f32⟩ : BufTy).Contents (Elt F) → (⟨S_, .f32⟩ : BufTy).Contents (Elt F) → (⟨S4x1, .f32⟩ : BufTy).Contents (Elt F)),
    StableHlo.unary main_v35 main_v36 (broadcastInDim S4x1x1 ![0, 1] bcast_S4x1_S4x1x1_0_1 : (⟨S4x1, .f32⟩ : BufTy).Contents (Elt F) → (⟨S4x1x1, .f32⟩ : BufTy).Contents (Elt F)),
    StableHlo.TRef.unary (.of main_v36 : StableHlo.TRef sig ⟨S4x1x1, .f32⟩) (.of main_call1_v0 : StableHlo.TRef sig ⟨S4x1x32768, .f32⟩) (broadcastInDim S4x1x32768 ![0, 1, 2] bcast_S4x1x1_S4x1x32768_0_1_2),
    StableHlo.TRef.ternary (.of main_v34 : StableHlo.TRef sig ⟨S4x1x32768, .i1⟩) (.of main_v27 : StableHlo.TRef sig ⟨S4x1x32768, .f32⟩) (.of main_call1_v0 : StableHlo.TRef sig ⟨S4x1x32768, .f32⟩) (.of main_v37 : StableHlo.TRef sig ⟨S4x1x32768, .f32⟩) select,
    StableHlo.nullary main_cst_4 (constant S_ .f32 0xFF800000#32),
    StableHlo.binary main_v37 main_cst_4 main_v38 ((fun x v => Host.reduce FloatOps.maximumf x v reducesTo_S4x1x32768_S4x1_d2 h_S_) : (⟨S4x1x32768, .f32⟩ : BufTy).Contents (Elt F) → (⟨S_, .f32⟩ : BufTy).Contents (Elt F) → (⟨S4x1, .f32⟩ : BufTy).Contents (Elt F)),
    StableHlo.unary main_v38 main_v39 (broadcastInDim S4x1x1 ![0, 1] bcast_S4x1_S4x1x1_0_1 : (⟨S4x1, .f32⟩ : BufTy).Contents (Elt F) → (⟨S4x1x1, .f32⟩ : BufTy).Contents (Elt F)),
    StableHlo.unary main_v39 main_v40 (broadcastInDim S4x1x32768 ![0, 1, 2] bcast_S4x1x1_S4x1x32768_0_1_2 : (⟨S4x1x1, .f32⟩ : BufTy).Contents (Elt F) → (⟨S4x1x32768, .f32⟩ : BufTy).Contents (Elt F)),
    StableHlo.binary main_v37 main_v40 main_v41 (subf : (⟨S4x1x32768, .f32⟩ : BufTy).Contents (Elt F) → (⟨S4x1x32768, .f32⟩ : BufTy).Contents (Elt F) → (⟨S4x1x32768, .f32⟩ : BufTy).Contents (Elt F)),
    StableHlo.unary main_v34 main_v42 (uitofp .f32 : (⟨S4x1x32768, .i1⟩ : BufTy).Contents (Elt F) → (⟨S4x1x32768, .f32⟩ : BufTy).Contents (Elt F)),
    StableHlo.binary main_v41 main_v42 main_v43 (mulf : (⟨S4x1x32768, .f32⟩ : BufTy).Contents (Elt F) → (⟨S4x1x32768, .f32⟩ : BufTy).Contents (Elt F) → (⟨S4x1x32768, .f32⟩ : BufTy).Contents (Elt F)),
    StableHlo.unary main_v43 main_v44 (Host.exp : (⟨S4x1x32768, .f32⟩ : BufTy).Contents (Elt F) → (⟨S4x1x32768, .f32⟩ : BufTy).Contents (Elt F)),
    StableHlo.nullary main_cst_5 (constant S_ .f32 0x00000000#32),
    StableHlo.TRef.unary (.of main_cst_5 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S4x1x32768, .f32⟩) (broadcastInDim S4x1x32768 ![] bcast_S_S4x1x32768),
    StableHlo.TRef.ternary (.of main_v34 : StableHlo.TRef sig ⟨S4x1x32768, .i1⟩) (.of main_v44 : StableHlo.TRef sig ⟨S4x1x32768, .f32⟩) (.of main_call2_v1 : StableHlo.TRef sig ⟨S4x1x32768, .f32⟩) (.of main_v45 : StableHlo.TRef sig ⟨S4x1x32768, .f32⟩) select,
    StableHlo.nullary main_cst_6 (constant S_ .f32 0x00000000#32),
    StableHlo.binary main_v45 main_cst_6 main_v46 ((fun x v => Host.reduceAdd x v reducesTo_S4x1x32768_S4x1_d2 h_S_) : (⟨S4x1x32768, .f32⟩ : BufTy).Contents (Elt F) → (⟨S_, .f32⟩ : BufTy).Contents (Elt F) → (⟨S4x1, .f32⟩ : BufTy).Contents (Elt F)),
    StableHlo.unary main_v46 main_v47 (broadcastInDim S4x1x1 ![0, 1] bcast_S4x1_S4x1x1_0_1 : (⟨S4x1, .f32⟩ : BufTy).Contents (Elt F) → (⟨S4x1x1, .f32⟩ : BufTy).Contents (Elt F)),
    StableHlo.unary main_v47 main_v48 (broadcastInDim S4x1x32768 ![0, 1, 2] bcast_S4x1x1_S4x1x32768_0_1_2 : (⟨S4x1x1, .f32⟩ : BufTy).Contents (Elt F) → (⟨S4x1x32768, .f32⟩ : BufTy).Contents (Elt F)),
    StableHlo.binary main_v45 main_v48 main_v49 (Host.divf : (⟨S4x1x32768, .f32⟩ : BufTy).Contents (Elt F) → (⟨S4x1x32768, .f32⟩ : BufTy).Contents (Elt F) → (⟨S4x1x32768, .f32⟩ : BufTy).Contents (Elt F)),
    StableHlo.reshape main_v49 main_v50 (rfl : (.f32 : EltTy) = .f32) shapeCasts_S4x1x32768_S4x32768 ]

/-- The lines that build the generator's key and the logarithms of the policy. -/
abbrev keyOps : List (HloOp τ sig (Elt F)) :=
  [ StableHlo.nullary main_c_7 (constantI S_ 32 42#32),
    StableHlo.nullary main_c_8 (constantI S_ 32 32#32),
    StableHlo.binary main_c_7 main_c_8 main_v51 (Host.shrui : (⟨S_, .i32⟩ : BufTy).Contents (Elt F) → (⟨S_, .i32⟩ : BufTy).Contents (Elt F) → (⟨S_, .i32⟩ : BufTy).Contents (Elt F)),
    StableHlo.unary main_v51 main_v52 (id : (⟨S_, .i32⟩ : BufTy).Contents (Elt F) → (⟨S_, .i32⟩ : BufTy).Contents (Elt F)),
    StableHlo.unary main_v52 main_v53 (broadcastInDim S1 ![] bcast_S_S1 : (⟨S_, .i32⟩ : BufTy).Contents (Elt F) → (⟨S1, .i32⟩ : BufTy).Contents (Elt F)),
    StableHlo.nullary main_c_9 (constantI S_ 32 4294967295#32),
    StableHlo.binary main_c_7 main_c_9 main_v54 (andi : (⟨S_, .i32⟩ : BufTy).Contents (Elt F) → (⟨S_, .i32⟩ : BufTy).Contents (Elt F) → (⟨S_, .i32⟩ : BufTy).Contents (Elt F)),
    StableHlo.unary main_v54 main_v55 (id : (⟨S_, .i32⟩ : BufTy).Contents (Elt F) → (⟨S_, .i32⟩ : BufTy).Contents (Elt F)),
    StableHlo.unary main_v55 main_v56 (broadcastInDim S1 ![] bcast_S_S1 : (⟨S_, .i32⟩ : BufTy).Contents (Elt F) → (⟨S1, .i32⟩ : BufTy).Contents (Elt F)),
    StableHlo.binary main_v53 main_v56 main_v57 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_10 (constant S_ .f32 0x1E3CE508#32),
    StableHlo.unary main_cst_10 main_v58 (broadcastInDim S4x32768 ![] bcast_S_S4x32768 : (⟨S_, .f32⟩ : BufTy).Contents (Elt F) → (⟨S4x32768, .f32⟩ : BufTy).Contents (Elt F)),
    StableHlo.binary main_v50 main_v58 main_v59 (addf : (⟨S4x32768, .f32⟩ : BufTy).Contents (Elt F) → (⟨S4x32768, .f32⟩ : BufTy).Contents (Elt F) → (⟨S4x32768, .f32⟩ : BufTy).Contents (Elt F)),
    StableHlo.unary main_v59 main_v60 (Host.log : (⟨S4x32768, .f32⟩ : BufTy).Contents (Elt F) → (⟨S4x32768, .f32⟩ : BufTy).Contents (Elt F)) ]

/-- The lines that draw the noise. -/
abbrev noiseOps : List (HloOp τ sig (Elt F)) :=
  ( StableHlo.TRef.nullary (.of main_call3_cst : StableHlo.TRef sig ⟨S_, .f32⟩) (constant S_ .f32 0x3F800000#32)
  :: StableHlo.TRef.nullary (.of main_call3_cst_0 : StableHlo.TRef sig ⟨S_, .f32⟩) (constant S_ .f32 0x00800000#32)
  :: StableHlo.TRef.unary (.of main_call3_cst : StableHlo.TRef sig ⟨S_, .f32⟩) (.of main_call3_call0_v0 : StableHlo.TRef sig ⟨S_, .f32⟩) id
  :: StableHlo.TRef.unary (.of main_call3_cst_0 : StableHlo.TRef sig ⟨S_, .f32⟩) (.of main_call3_call0_v1 : StableHlo.TRef sig ⟨S1x1, .f32⟩) (broadcastInDim S1x1 ![] bcast_S_S1x1)
  :: StableHlo.TRef.unary (.of main_call3_call0_v0 : StableHlo.TRef sig ⟨S_, .f32⟩) (.of main_call3_call0_v2 : StableHlo.TRef sig ⟨S1x1, .f32⟩) (broadcastInDim S1x1 ![] bcast_S_S1x1)
  :: StableHlo.TRef.unary (.of main_v57 : StableHlo.TRef sig ⟨S2, .i32⟩) (.of main_call3_call0_v3 : StableHlo.TRef sig ⟨S1, .i32⟩) (extractStridedSlice S1 ![0] · slices_S2_S1_0)
  :: StableHlo.TRef.reshape (.of main_call3_call0_v3 : StableHlo.TRef sig ⟨S1, .i32⟩) (.of main_call3_call0_v4 : StableHlo.TRef sig ⟨S_, .i32⟩) (rfl : (.i32 : EltTy) = .i32) shapeCasts_S1_S_
  :: StableHlo.TRef.unary (.of main_v57 : StableHlo.TRef sig ⟨S2, .i32⟩) (.of main_call3_call0_v5 : StableHlo.TRef sig ⟨S1, .i32⟩) (extractStridedSlice S1 ![1] · slices_S2_S1_1)
  :: StableHlo.TRef.reshape (.of main_call3_call0_v5 : StableHlo.TRef sig ⟨S1, .i32⟩) (.of main_call3_call0_v6 : StableHlo.TRef sig ⟨S_, .i32⟩) (rfl : (.i32 : EltTy) = .i32) shapeCasts_S1_S_
  :: StableHlo.TRef.nullary (.of main_call3_call0_v7 : StableHlo.TRef sig ⟨S4x32768, .i64⟩) (iotaInDim S4x32768 64 0)
  :: StableHlo.TRef.nullary (.of main_call3_call0_v8 : StableHlo.TRef sig ⟨S4x32768, .i64⟩) (iotaInDim S4x32768 64 1)
  :: StableHlo.TRef.nullary (.of main_call3_call0_c : StableHlo.TRef sig ⟨S_, .i64⟩) (constantI S_ 64 32768#64)
  :: StableHlo.TRef.unary (.of main_call3_call0_c : StableHlo.TRef sig ⟨S_, .i64⟩) (.of main_call3_call0_v9 : StableHlo.TRef sig ⟨S4x32768, .i64⟩) (broadcastInDim S4x32768 ![] bcast_S_S4x32768)
  :: StableHlo.TRef.binary (.of main_call3_call0_v9 : StableHlo.TRef sig ⟨S4x32768, .i64⟩) (.of main_call3_call0_v7 : StableHlo.TRef sig ⟨S4x32768, .i64⟩) (.of main_call3_call0_v10 : StableHlo.TRef sig ⟨S4x32768, .i64⟩) muli
  :: StableHlo.TRef.nullary (.of main_call3_call0_c_0 : StableHlo.TRef sig ⟨S_, .i64⟩) (constantI S_ 64 1#64)
  :: StableHlo.TRef.unary (.of main_call3_call0_c_0 : StableHlo.TRef sig ⟨S_, .i64⟩) (.of main_call3_call0_v11 : StableHlo.TRef sig ⟨S4x32768, .i64⟩) (broadcastInDim S4x32768 ![] bcast_S_S4x32768)
  :: StableHlo.TRef.binary (.of main_call3_call0_v11 : StableHlo.TRef sig ⟨S4x32768, .i64⟩) (.of main_call3_call0_v8 : StableHlo.TRef sig ⟨S4x32768, .i64⟩) (.of main_call3_call0_v12 : StableHlo.TRef sig ⟨S4x32768, .i64⟩) muli
  :: StableHlo.TRef.binary (.of main_call3_call0_v10 : StableHlo.TRef sig ⟨S4x32768, .i64⟩) (.of main_call3_call0_v12 : StableHlo.TRef sig ⟨S4x32768, .i64⟩) (.of main_call3_call0_v13 : StableHlo.TRef sig ⟨S4x32768, .i64⟩) addi
  :: StableHlo.TRef.nullary (.of main_call3_call0_c_1 : StableHlo.TRef sig ⟨S_, .i64⟩) (constantI S_ 64 32#64)
  :: StableHlo.TRef.unary (.of main_call3_call0_c_1 : StableHlo.TRef sig ⟨S_, .i64⟩) (.of main_call3_call0_v14 : StableHlo.TRef sig ⟨S4x32768, .i64⟩) (broadcastInDim S4x32768 ![] bcast_S_S4x32768)
  :: StableHlo.TRef.binary (.of main_call3_call0_v13 : StableHlo.TRef sig ⟨S4x32768, .i64⟩) (.of main_call3_call0_v14 : StableHlo.TRef sig ⟨S4x32768, .i64⟩) (.of main_call3_call0_v15 : StableHlo.TRef sig ⟨S4x32768, .i64⟩) Host.shrui
  :: StableHlo.TRef.unary (.of main_call3_call0_v13 : StableHlo.TRef sig ⟨S4x32768, .i64⟩) (.of main_call3_call0_v16 : StableHlo.TRef sig ⟨S4x32768, .i32⟩) (trunci 32 · natLt_32_64)
  :: StableHlo.TRef.unary (.of main_call3_call0_v15 : StableHlo.TRef sig ⟨S4x32768, .i64⟩) (.of main_call3_call0_v17 : StableHlo.TRef sig ⟨S4x32768, .i32⟩) (trunci 32 · natLt_32_64)
  :: StableHlo.TRef.binary (.of main_call3_call0_v4 : StableHlo.TRef sig ⟨S_, .i32⟩) (.of main_call3_call0_v6 : StableHlo.TRef sig ⟨S_, .i32⟩) (.of main_call3_call0_call0_v0 : StableHlo.TRef sig ⟨S_, .i32⟩) xori
  :: StableHlo.TRef.nullary (.of main_call3_call0_call0_c : StableHlo.TRef sig ⟨S_, .i32⟩) (constantI S_ 32 466688986#32)
  :: StableHlo.TRef.binary (.of main_call3_call0_call0_v0 : StableHlo.TRef sig ⟨S_, .i32⟩) (.of main_call3_call0_call0_c : StableHlo.TRef sig ⟨S_, .i32⟩) (.of main_call3_call0_call0_v1 : StableHlo.TRef sig ⟨S_, .i32⟩) xori
  :: StableHlo.TRef.unary (.of main_call3_call0_v4 : StableHlo.TRef sig ⟨S_, .i32⟩) (.of main_call3_call0_call0_v2 : StableHlo.TRef sig ⟨S4x32768, .i32⟩) (broadcastInDim S4x32768 ![] bcast_S_S4x32768)
  :: StableHlo.TRef.binary (.of main_call3_call0_v17 : StableHlo.TRef sig ⟨S4x32768, .i32⟩) (.of main_call3_call0_call0_v2 : StableHlo.TRef sig ⟨S4x32768, .i32⟩) (.of main_call3_call0_call0_v3 : StableHlo.TRef sig ⟨S4x32768, .i32⟩) addi
  :: StableHlo.TRef.unary (.of main_call3_call0_v6 : StableHlo.TRef sig ⟨S_, .i32⟩) (.of main_call3_call0_call0_v4 : StableHlo.TRef sig ⟨S4x32768, .i32⟩) (broadcastInDim S4x32768 ![] bcast_S_S4x32768)
  :: StableHlo.TRef.binary (.of main_call3_call0_v16 : StableHlo.TRef sig ⟨S4x32768, .i32⟩) (.of main_call3_call0_call0_v4 : StableHlo.TRef sig ⟨S4x32768, .i32⟩) (.of main_call3_call0_call0_v5 : StableHlo.TRef sig ⟨S4x32768, .i32⟩) addi
  :: StableHlo.TRef.binary (.of main_call3_call0_call0_v3 : StableHlo.TRef sig ⟨S4x32768, .i32⟩) (.of main_call3_call0_call0_v5 : StableHlo.TRef sig ⟨S4x32768, .i32⟩) (.of main_call3_call0_call0_v6 : StableHlo.TRef sig ⟨S4x32768, .i32⟩) addi
  :: StableHlo.TRef.nullary (.of main_call3_call0_call0_c_0 : StableHlo.TRef sig ⟨S_, .i32⟩) (constantI S_ 32 13#32)
  :: StableHlo.TRef.unary (.of main_call3_call0_call0_c_0 : StableHlo.TRef sig ⟨S_, .i32⟩) (.of main_call3_call0_call0_v7 : StableHlo.TRef sig ⟨S4x32768, .i32⟩) (broadcastInDim S4x32768 ![] bcast_S_S4x32768)
  :: StableHlo.TRef.binary (.of main_call3_call0_call0_v5 : StableHlo.TRef sig ⟨S4x32768, .i32⟩) (.of main_call3_call0_call0_v7 : StableHlo.TRef sig ⟨S4x32768, .i32⟩) (.of main_call3_call0_call0_v8 : StableHlo.TRef sig ⟨S4x32768, .i32⟩) Host.shli
  :: StableHlo.TRef.nullary (.of main_call3_call0_call0_c_1 : StableHlo.TRef sig ⟨S_, .i32⟩) (constantI S_ 32 19#32)
  :: StableHlo.TRef.unary (.of main_call3_call0_call0_c_1 : StableHlo.TRef sig ⟨S_, .i32⟩) (.of main_call3_call0_call0_v9 : StableHlo.TRef sig ⟨S4x32768, .i32⟩) (broadcastInDim S4x32768 ![] bcast_S_S4x32768)
  :: StableHlo.TRef.binary (.of main_call3_call0_call0_v5 : StableHlo.TRef sig ⟨S4x32768, .i32⟩) (.of main_call3_call0_call0_v9 : StableHlo.TRef sig ⟨S4x32768, .i32⟩) (.of main_call3_call0_call0_v10 : StableHlo.TRef sig ⟨S4x32768, .i32⟩) Host.shrui
  :: StableHlo.TRef.binary (.of main_call3_call0_call0_v8 : StableHlo.TRef sig ⟨S4x32768, .i32⟩) (.of main_call3_call0_call0_v10 : StableHlo.TRef sig ⟨S4x32768, .i32⟩) (.of main_call3_call0_call0_v11 : StableHlo.TRef sig ⟨S4x32768, .i32⟩) ori
  :: StableHlo.TRef.binary (.of main_call3_call0_call0_v6 : StableHlo.TRef sig ⟨S4x32768, .i32⟩) (.of main_call3_call0_call0_v11 : StableHlo.TRef sig ⟨S4x32768, .i32⟩) (.of main_call3_call0_call0_v12 : StableHlo.TRef sig ⟨S4x32768, .i32⟩) xori
  :: StableHlo.TRef.binary (.of main_call3_call0_call0_v6 : StableHlo.TRef sig ⟨S4x32768, .i32⟩) (.of main_call3_call0_call0_v12 : StableHlo.TRef sig ⟨S4x32768, .i32⟩) (.of main_call3_call0_call0_v13 : StableHlo.TRef sig ⟨S4x32768, .i32⟩) addi
  :: StableHlo.TRef.nullary (.of main_call3_call0_call0_c_2 : StableHlo.TRef sig ⟨S_, .i32⟩) (constantI S_ 32 15#32)
  :: StableHlo.TRef.unary (.of main_call3_call0_call0_c_2 : StableHlo.TRef sig ⟨S_, .i32⟩) (.of main_call3_call0_call0_v14 : StableHlo.TRef sig ⟨S4x32768, .i32⟩) (broadcastInDim S4x32768 ![] bcast_S_S4x32768)
  :: StableHlo.TRef.binary (.of main_call3_call0_call0_v12 : StableHlo.TRef sig ⟨S4x32768, .i32⟩) (.of main_call3_call0_call0_v14 : StableHlo.TRef sig ⟨S4x32768, .i32⟩) (.of main_call3_call0_call0_v15 : StableHlo.TRef sig ⟨S4x32768, .i32⟩) Host.shli
  :: StableHlo.TRef.nullary (.of main_call3_call0_call0_c_3 : StableHlo.TRef sig ⟨S_, .i32⟩) (constantI S_ 32 17#32)
  :: StableHlo.TRef.unary (.of main_call3_call0_call0_c_3 : StableHlo.TRef sig ⟨S_, .i32⟩) (.of main_call3_call0_call0_v16 : StableHlo.TRef sig ⟨S4x32768, .i32⟩) (broadcastInDim S4x32768 ![] bcast_S_S4x32768)
  :: StableHlo.TRef.binary (.of main_call3_call0_call0_v12 : StableHlo.TRef sig ⟨S4x32768, .i32⟩) (.of main_call3_call0_call0_v16 : StableHlo.TRef sig ⟨S4x32768, .i32⟩) (.of main_call3_call0_call0_v17 : StableHlo.TRef sig ⟨S4x32768, .i32⟩) Host.shrui
  :: StableHlo.TRef.binary (.of main_call3_call0_call0_v15 : StableHlo.TRef sig ⟨S4x32768, .i32⟩) (.of main_call3_call0_call0_v17 : StableHlo.TRef sig ⟨S4x32768, .i32⟩) (.of main_call3_call0_call0_v18 : StableHlo.TRef sig ⟨S4x32768, .i32⟩) ori
  :: StableHlo.TRef.binary (.of main_call3_call0_call0_v13 : StableHlo.TRef sig ⟨S4x32768, .i32⟩) (.of main_call3_call0_call0_v18 : StableHlo.TRef sig ⟨S4x32768, .i32⟩) (.of main_call3_call0_call0_v19 : StableHlo.TRef sig ⟨S4x32768, .i32⟩) xori
  :: StableHlo.TRef.binary (.of main_call3_call0_call0_v13 : StableHlo.TRef sig ⟨S4x32768, .i32⟩) (.of main_call3_call0_call0_v19 : StableHlo.TRef sig ⟨S4x32768, .i32⟩) (.of main_call3_call0_call0_v20 : StableHlo.TRef sig ⟨S4x32768, .i32⟩) addi
  :: StableHlo.TRef.nullary (.of main_call3_call0_call0_c_4 : StableHlo.TRef sig ⟨S_, .i32⟩) (constantI S_ 32 26#32)
  :: StableHlo.TRef.unary (.of main_call3_call0_call0_c_4 : StableHlo.TRef sig ⟨S_, .i32⟩) (.of main_call3_call0_call0_v21 : StableHlo.TRef sig ⟨S4x32768, .i32⟩) (broadcastInDim S4x32768 ![] bcast_S_S4x32768)
  :: StableHlo.TRef.binary (.of main_call3_call0_call0_v19 : StableHlo.TRef sig ⟨S4x32768, .i32⟩) (.of main_call3_call0_call0_v21 : StableHlo.TRef sig ⟨S4x32768, .i32⟩) (.of main_call3_call0_call0_v22 : StableHlo.TRef sig ⟨S4x32768, .i32⟩) Host.shli
  :: StableHlo.TRef.nullary (.of main_call3_call0_call0_c_5 : StableHlo.TRef sig ⟨S_, .i32⟩) (constantI S_ 32 6#32)
  :: StableHlo.TRef.unary (.of main_call3_call0_call0_c_5 : StableHlo.TRef sig ⟨S_, .i32⟩) (.of main_call3_call0_call0_v23 : StableHlo.TRef sig ⟨S4x32768, .i32⟩) (broadcastInDim S4x32768 ![] bcast_S_S4x32768)
  :: StableHlo.TRef.binary (.of main_call3_call0_call0_v19 : StableHlo.TRef sig ⟨S4x32768, .i32⟩) (.of main_call3_call0_call0_v23 : StableHlo.TRef sig ⟨S4x32768, .i32⟩) (.of main_call3_call0_call0_v24 : StableHlo.TRef sig ⟨S4x32768, .i32⟩) Host.shrui
  :: StableHlo.TRef.binary (.of main_call3_call0_call0_v22 : StableHlo.TRef sig ⟨S4x32768, .i32⟩) (.of main_call3_call0_call0_v24 : StableHlo.TRef sig ⟨S4x32768, .i32⟩) (.of main_call3_call0_call0_v25 : StableHlo.TRef sig ⟨S4x32768, .i32⟩) ori
  :: StableHlo.TRef.binary (.of main_call3_call0_call0_v20 : StableHlo.TRef sig ⟨S4x32768, .i32⟩) (.of main_call3_call0_call0_v25 : StableHlo.TRef sig ⟨S4x32768, .i32⟩) (.of main_call3_call0_call0_v26 : StableHlo.TRef sig ⟨S4x32768, .i32⟩) xori
  :: StableHlo.TRef.binary (.of main_call3_call0_call0_v20 : StableHlo.TRef sig ⟨S4x32768, .i32⟩) (.of main_call3_call0_call0_v26 : StableHlo.TRef sig ⟨S4x32768, .i32⟩) (.of main_call3_call0_call0_v27 : StableHlo.TRef sig ⟨S4x32768, .i32⟩) addi
  :: StableHlo.TRef.nullary (.of main_call3_call0_call0_c_6 : StableHlo.TRef sig ⟨S_, .i32⟩) (constantI S_ 32 6#32)
  :: StableHlo.TRef.unary (.of main_call3_call0_call0_c_6 : StableHlo.TRef sig ⟨S_, .i32⟩) (.of main_call3_call0_call0_v28 : StableHlo.TRef sig ⟨S4x32768, .i32⟩) (broadcastInDim S4x32768 ![] bcast_S_S4x32768)
  :: StableHlo.TRef.binary (.of main_call3_call0_call0_v26 : StableHlo.TRef sig ⟨S4x32768, .i32⟩) (.of main_call3_call0_call0_v28 : StableHlo.TRef sig ⟨S4x32768, .i32⟩) (.of main_call3_call0_call0_v29 : StableHlo.TRef sig ⟨S4x32768, .i32⟩) Host.shli
  :: StableHlo.TRef.nullary (.of main_call3_call0_call0_c_7 : StableHlo.TRef sig ⟨S_, .i32⟩) (constantI S_ 32 26#32)
  :: StableHlo.TRef.unary (.of main_call3_call0_call0_c_7 : StableHlo.TRef sig ⟨S_, .i32⟩) (.of main_call3_call0_call0_v30 : StableHlo.TRef sig ⟨S4x32768, .i32⟩) (broadcastInDim S4x32768 ![] bcast_S_S4x32768)
  :: StableHlo.TRef.binary (.of main_call3_call0_call0_v26 : StableHlo.TRef sig ⟨S4x32768, .i32⟩) (.of main_call3_call0_call0_v30 : StableHlo.TRef sig ⟨S4x32768, .i32⟩) (.of main_call3_call0_call0_v31 : StableHlo.TRef sig ⟨S4x32768, .i32⟩) Host.shrui
  :: StableHlo.TRef.binary (.of main_call3_call0_call0_v29 : StableHlo.TRef sig ⟨S4x32768, .i32⟩) (.of main_call3_call0_call0_v31 : StableHlo.TRef sig ⟨S4x32768, .i32⟩) (.of main_call3_call0_call0_v32 : StableHlo.TRef sig ⟨S4x32768, .i32⟩) ori
  :: StableHlo.TRef.binary (.of main_call3_call0_call0_v27 : StableHlo.TRef sig ⟨S4x32768, .i32⟩) (.of main_call3_call0_call0_v32 : StableHlo.TRef sig ⟨S4x32768, .i32⟩) (.of main_call3_call0_call0_v33 : StableHlo.TRef sig ⟨S4x32768, .i32⟩) xori
  :: StableHlo.TRef.unary (.of main_call3_call0_v6 : StableHlo.TRef sig ⟨S_, .i32⟩) (.of main_call3_call0_call0_v34 : StableHlo.TRef sig ⟨S4x32768, .i32⟩) (broadcastInDim S4x32768 ![] bcast_S_S4x32768)
  :: StableHlo.TRef.binary (.of main_call3_call0_call0_v27 : StableHlo.TRef sig ⟨S4x32768, .i32⟩) (.of main_call3_call0_call0_v34 : StableHlo.TRef sig ⟨S4x32768, .i32⟩) (.of main_call3_call0_call0_v35 : StableHlo.TRef sig ⟨S4x32768, .i32⟩) addi
  :: StableHlo.TRef.unary (.of main_call3_call0_call0_v1 : StableHlo.TRef sig ⟨S_, .i32⟩) (.of main_call3_call0_call0_v36 : StableHlo.TRef sig ⟨S4x32768, .i32⟩) (broadcastInDim S4x32768 ![] bcast_S_S4x32768)
  :: StableHlo.TRef.binary (.of main_call3_call0_call0_v33 : StableHlo.TRef sig ⟨S4x32768, .i32⟩) (.of main_call3_call0_call0_v36 : StableHlo.TRef sig ⟨S4x32768, .i32⟩) (.of main_call3_call0_call0_v37 : StableHlo.TRef sig ⟨S4x32768, .i32⟩) addi
  :: StableHlo.TRef.nullary (.of main_call3_call0_call0_c_8 : StableHlo.TRef sig ⟨S_, .i32⟩) (constantI S_ 32 1#32)
  :: StableHlo.TRef.unary (.of main_call3_call0_call0_c_8 : StableHlo.TRef sig ⟨S_, .i32⟩) (.of main_call3_call0_call0_v38 : StableHlo.TRef sig ⟨S4x32768, .i32⟩) (broadcastInDim S4x32768 ![] bcast_S_S4x32768)
  :: StableHlo.TRef.binary (.of main_call3_call0_call0_v37 : StableHlo.TRef sig ⟨S4x32768, .i32⟩) (.of main_call3_call0_call0_v38 : StableHlo.TRef sig ⟨S4x32768, .i32⟩) (.of main_call3_call0_call0_v39 : StableHlo.TRef sig ⟨S4x32768, .i32⟩) addi
  :: StableHlo.TRef.binary (.of main_call3_call0_call0_v35 : StableHlo.TRef sig ⟨S4x32768, .i32⟩) (.of main_call3_call0_call0_v39 : StableHlo.TRef sig ⟨S4x32768, .i32⟩) (.of main_call3_call0_call0_v40 : StableHlo.TRef sig ⟨S4x32768, .i32⟩) addi
  :: StableHlo.TRef.nullary (.of main_call3_call0_call0_c_9 : StableHlo.TRef sig ⟨S_, .i32⟩) (constantI S_ 32 17#32)
  :: StableHlo.TRef.unary (.of main_call3_call0_call0_c_9 : StableHlo.TRef sig ⟨S_, .i32⟩) (.of main_call3_call0_call0_v41 : StableHlo.TRef sig ⟨S4x32768, .i32⟩) (broadcastInDim S4x32768 ![] bcast_S_S4x32768)
  :: StableHlo.TRef.binary (.of main_call3_call0_call0_v39 : StableHlo.TRef sig ⟨S4x32768, .i32⟩) (.of main_call3_call0_call0_v41 : StableHlo.TRef sig ⟨S4x32768, .i32⟩) (.of main_call3_call0_call0_v42 : StableHlo.TRef sig ⟨S4x32768, .i32⟩) Host.shli
  :: StableHlo.TRef.nullary (.of main_call3_call0_call0_c_10 : StableHlo.TRef sig ⟨S_, .i32⟩) (constantI S_ 32 15#32)
  :: StableHlo.TRef.unary (.of main_call3_call0_call0_c_10 : StableHlo.TRef sig ⟨S_, .i32⟩) (.of main_call3_call0_call0_v43 : StableHlo.TRef sig ⟨S4x32768, .i32⟩) (broadcastInDim S4x32768 ![] bcast_S_S4x32768)
  :: StableHlo.TRef.binary (.of main_call3_call0_call0_v39 : StableHlo.TRef sig ⟨S4x32768, .i32⟩) (.of main_call3_call0_call0_v43 : StableHlo.TRef sig ⟨S4x32768, .i32⟩) (.of main_call3_call0_call0_v44 : StableHlo.TRef sig ⟨S4x32768, .i32⟩) Host.shrui
  :: StableHlo.TRef.binary (.of main_call3_call0_call0_v42 : StableHlo.TRef sig ⟨S4x32768, .i32⟩) (.of main_call3_call0_call0_v44 : StableHlo.TRef sig ⟨S4x32768, .i32⟩) (.of main_call3_call0_call0_v45 : StableHlo.TRef sig ⟨S4x32768, .i32⟩) ori
  :: StableHlo.TRef.binary (.of main_call3_call0_call0_v40 : StableHlo.TRef sig ⟨S4x32768, .i32⟩) (.of main_call3_call0_call0_v45 : StableHlo.TRef sig ⟨S4x32768, .i32⟩) (.of main_call3_call0_call0_v46 : StableHlo.TRef sig ⟨S4x32768, .i32⟩) xori
  :: StableHlo.TRef.binary (.of main_call3_call0_call0_v40 : StableHlo.TRef sig ⟨S4x32768, .i32⟩) (.of main_call3_call0_call0_v46 : StableHlo.TRef sig ⟨S4x32768, .i32⟩) (.of main_call3_call0_call0_v47 : StableHlo.TRef sig ⟨S4x32768, .i32⟩) addi
  :: StableHlo.TRef.nullary (.of main_call3_call0_call0_c_11 : StableHlo.TRef sig ⟨S_, .i32⟩) (constantI S_ 32 29#32)
  :: StableHlo.TRef.unary (.of main_call3_call0_call0_c_11 : StableHlo.TRef sig ⟨S_, .i32⟩) (.of main_call3_call0_call0_v48 : StableHlo.TRef sig ⟨S4x32768, .i32⟩) (broadcastInDim S4x32768 ![] bcast_S_S4x32768)
  :: StableHlo.TRef.binary (.of main_call3_call0_call0_v46 : StableHlo.TRef sig ⟨S4x32768, .i32⟩) (.of main_call3_call0_call0_v48 : StableHlo.TRef sig ⟨S4x32768, .i32⟩) (.of main_call3_call0_call0_v49 : StableHlo.TRef sig ⟨S4x32768, .i32⟩) Host.shli
  :: StableHlo.TRef.nullary (.of main_call3_call0_call0_c_12 : StableHlo.TRef sig ⟨S_, .i32⟩) (constantI S_ 32 3#32)
  :: StableHlo.TRef.unary (.of main_call3_call0_call0_c_12 : StableHlo.TRef sig ⟨S_, .i32⟩) (.of main_call3_call0_call0_v50 : StableHlo.TRef sig ⟨S4x32768, .i32⟩) (broadcastInDim S4x32768 ![] bcast_S_S4x32768)
  :: StableHlo.TRef.binary (.of main_call3_call0_call0_v46 : StableHlo.TRef sig ⟨S4x32768, .i32⟩) (.of main_call3_call0_call0_v50 : StableHlo.TRef sig ⟨S4x32768, .i32⟩) (.of main_call3_call0_call0_v51 : StableHlo.TRef sig ⟨S4x32768, .i32⟩) Host.shrui
  :: StableHlo.TRef.binary (.of main_call3_call0_call0_v49 : StableHlo.TRef sig ⟨S4x32768, .i32⟩) (.of main_call3_call0_call0_v51 : StableHlo.TRef sig ⟨S4x32768, .i32⟩) (.of main_call3_call0_call0_v52 : StableHlo.TRef sig ⟨S4x32768, .i32⟩) ori
  :: StableHlo.TRef.binary (.of main_call3_call0_call0_v47 : StableHlo.TRef sig ⟨S4x32768, .i32⟩) (.of main_call3_call0_call0_v52 : StableHlo.TRef sig ⟨S4x32768, .i32⟩) (.of main_call3_call0_call0_v53 : StableHlo.TRef sig ⟨S4x32768, .i32⟩) xori
  :: StableHlo.TRef.binary (.of main_call3_call0_call0_v47 : StableHlo.TRef sig ⟨S4x32768, .i32⟩) (.of main_call3_call0_call0_v53 : StableHlo.TRef sig ⟨S4x32768, .i32⟩) (.of main_call3_call0_call0_v54 : StableHlo.TRef sig ⟨S4x32768, .i32⟩) addi
  :: StableHlo.TRef.nullary (.of main_call3_call0_call0_c_13 : StableHlo.TRef sig ⟨S_, .i32⟩) (constantI S_ 32 16#32)
  :: StableHlo.TRef.unary (.of main_call3_call0_call0_c_13 : StableHlo.TRef sig ⟨S_, .i32⟩) (.of main_call3_call0_call0_v55 : StableHlo.TRef sig ⟨S4x32768, .i32⟩) (broadcastInDim S4x32768 ![] bcast_S_S4x32768)
  :: StableHlo.TRef.binary (.of main_call3_call0_call0_v53 : StableHlo.TRef sig ⟨S4x32768, .i32⟩) (.of main_call3_call0_call0_v55 : StableHlo.TRef sig ⟨S4x32768, .i32⟩) (.of main_call3_call0_call0_v56 : StableHlo.TRef sig ⟨S4x32768, .i32⟩) Host.shli
  :: StableHlo.TRef.nullary (.of main_call3_call0_call0_c_14 : StableHlo.TRef sig ⟨S_, .i32⟩) (constantI S_ 32 16#32)
  :: StableHlo.TRef.unary (.of main_call3_call0_call0_c_14 : StableHlo.TRef sig ⟨S_, .i32⟩) (.of main_call3_call0_call0_v57 : StableHlo.TRef sig ⟨S4x32768, .i32⟩) (broadcastInDim S4x32768 ![] bcast_S_S4x32768)
  :: StableHlo.TRef.binary (.of main_call3_call0_call0_v53 : StableHlo.TRef sig ⟨S4x32768, .i32⟩) (.of main_call3_call0_call0_v57 : StableHlo.TRef sig ⟨S4x32768, .i32⟩) (.of main_call3_call0_call0_v58 : StableHlo.TRef sig ⟨S4x32768, .i32⟩) Host.shrui
  :: StableHlo.TRef.binary (.of main_call3_call0_call0_v56 : StableHlo.TRef sig ⟨S4x32768, .i32⟩) (.of main_call3_call0_call0_v58 : StableHlo.TRef sig ⟨S4x32768, .i32⟩) (.of main_call3_call0_call0_v59 : StableHlo.TRef sig ⟨S4x32768, .i32⟩) ori
  :: StableHlo.TRef.binary (.of main_call3_call0_call0_v54 : StableHlo.TRef sig ⟨S4x32768, .i32⟩) (.of main_call3_call0_call0_v59 : StableHlo.TRef sig ⟨S4x32768, .i32⟩) (.of main_call3_call0_call0_v60 : StableHlo.TRef sig ⟨S4x32768, .i32⟩) xori
  :: StableHlo.TRef.binary (.of main_call3_call0_call0_v54 : StableHlo.TRef sig ⟨S4x32768, .i32⟩) (.of main_call3_call0_call0_v60 : StableHlo.TRef sig ⟨S4x32768, .i32⟩) (.of main_call3_call0_call0_v61 : StableHlo.TRef sig ⟨S4x32768, .i32⟩) addi
  :: StableHlo.TRef.nullary (.of main_call3_call0_call0_c_15 : StableHlo.TRef sig ⟨S_, .i32⟩) (constantI S_ 32 24#32)
  :: StableHlo.TRef.unary (.of main_call3_call0_call0_c_15 : StableHlo.TRef sig ⟨S_, .i32⟩) (.of main_call3_call0_call0_v62 : StableHlo.TRef sig ⟨S4x32768, .i32⟩) (broadcastInDim S4x32768 ![] bcast_S_S4x32768)
  :: StableHlo.TRef.binary (.of main_call3_call0_call0_v60 : StableHlo.TRef sig ⟨S4x32768, .i32⟩) (.of main_call3_call0_call0_v62 : StableHlo.TRef sig ⟨S4x32768, .i32⟩) (.of main_call3_call0_call0_v63 : StableHlo.TRef sig ⟨S4x32768, .i32⟩) Host.shli
  :: StableHlo.TRef.nullary (.of main_call3_call0_call0_c_16 : StableHlo.TRef sig ⟨S_, .i32⟩) (constantI S_ 32 8#32)
  :: StableHlo.TRef.unary (.of main_call3_call0_call0_c_16 : StableHlo.TRef sig ⟨S_, .i32⟩) (.of main_call3_call0_call0_v64 : StableHlo.TRef sig ⟨S4x32768, .i32⟩) (broadcastInDim S4x32768 ![] bcast_S_S4x32768)
  :: StableHlo.TRef.binary (.of main_call3_call0_call0_v60 : StableHlo.TRef sig ⟨S4x32768, .i32⟩) (.of main_call3_call0_call0_v64 : StableHlo.TRef sig ⟨S4x32768, .i32⟩) (.of main_call3_call0_call0_v65 : StableHlo.TRef sig ⟨S4x32768, .i32⟩) Host.shrui
  :: StableHlo.TRef.binary (.of main_call3_call0_call0_v63 : StableHlo.TRef sig ⟨S4x32768, .i32⟩) (.of main_call3_call0_call0_v65 : StableHlo.TRef sig ⟨S4x32768, .i32⟩) (.of main_call3_call0_call0_v66 : StableHlo.TRef sig ⟨S4x32768, .i32⟩) ori
  :: StableHlo.TRef.binary (.of main_call3_call0_call0_v61 : StableHlo.TRef sig ⟨S4x32768, .i32⟩) (.of main_call3_call0_call0_v66 : StableHlo.TRef sig ⟨S4x32768, .i32⟩) (.of main_call3_call0_call0_v67 : StableHlo.TRef sig ⟨S4x32768, .i32⟩) xori
  :: StableHlo.TRef.unary (.of main_call3_call0_call0_v1 : StableHlo.TRef sig ⟨S_, .i32⟩) (.of main_call3_call0_call0_v68 : StableHlo.TRef sig ⟨S4x32768, .i32⟩) (broadcastInDim S4x32768 ![] bcast_S_S4x32768)
  :: StableHlo.TRef.binary (.of main_call3_call0_call0_v61 : StableHlo.TRef sig ⟨S4x32768, .i32⟩) (.of main_call3_call0_call0_v68 : StableHlo.TRef sig ⟨S4x32768, .i32⟩) (.of main_call3_call0_call0_v69 : StableHlo.TRef sig ⟨S4x32768, .i32⟩) addi
  :: StableHlo.TRef.unary (.of main_call3_call0_v4 : StableHlo.TRef sig ⟨S_, .i32⟩) (.of main_call3_call0_call0_v70 : StableHlo.TRef sig ⟨S4x32768, .i32⟩) (broadcastInDim S4x32768 ![] bcast_S_S4x32768)
  :: StableHlo.TRef.binary (.of main_call3_call0_call0_v67 : StableHlo.TRef sig ⟨S4x32768, .i32⟩) (.of main_call3_call0_call0_v70 : StableHlo.TRef sig ⟨S4x32768, .i32⟩) (.of main_call3_call0_call0_v71 : StableHlo.TRef sig ⟨S4x32768, .i32⟩) addi
  :: StableHlo.TRef.nullary (.of main_call3_call0_call0_c_17 : StableHlo.TRef sig ⟨S_, .i32⟩) (constantI S_ 32 2#32)
  :: StableHlo.TRef.unary (.of main_call3_call0_call0_c_17 : StableHlo.TRef sig ⟨S_, .i32⟩) (.of main_call3_call0_call0_v72 : StableHlo.TRef sig ⟨S4x32768, .i32⟩) (broadcastInDim S4x32768 ![] bcast_S_S4x32768)
  :: StableHlo.TRef.binary (.of main_call3_call0_call0_v71 : StableHlo.TRef sig ⟨S4x32768, .i32⟩) (.of main_call3_call0_call0_v72 : StableHlo.TRef sig ⟨S4x32768, .i32⟩) (.of main_call3_call0_call0_v73 : StableHlo.TRef sig ⟨S4x32768, .i32⟩) addi
  :: StableHlo.TRef.binary (.of main_call3_call0_call0_v69 : StableHlo.TRef sig ⟨S4x32768, .i32⟩) (.of main_call3_call0_call0_v73 : StableHlo.TRef sig ⟨S4x32768, .i32⟩) (.of main_call3_call0_call0_v74 : StableHlo.TRef sig ⟨S4x32768, .i32⟩) addi
  :: StableHlo.TRef.nullary (.of main_call3_call0_call0_c_18 : StableHlo.TRef sig ⟨S_, .i32⟩) (constantI S_ 32 13#32)
  :: StableHlo.TRef.unary (.of main_call3_call0_call0_c_18 : StableHlo.TRef sig ⟨S_, .i32⟩) (.of main_call3_call0_call0_v75 : StableHlo.TRef sig ⟨S4x32768, .i32⟩) (broadcastInDim S4x32768 ![] bcast_S_S4x32768)
  :: StableHlo.TRef.binary (.of main_call3_call0_call0_v73 : StableHlo.TRef sig ⟨S4x32768, .i32⟩) (.of main_call3_call0_call0_v75 : StableHlo.TRef sig ⟨S4x32768, .i32⟩) (.of main_call3_call0_call0_v76 : StableHlo.TRef sig ⟨S4x32768, .i32⟩) Host.shli
  :: StableHlo.TRef.nullary (.of main_call3_call0_call0_c_19 : StableHlo.TRef sig ⟨S_, .i32⟩) (constantI S_ 32 19#32)
  :: StableHlo.TRef.unary (.of main_call3_call0_call0_c_19 : StableHlo.TRef sig ⟨S_, .i32⟩) (.of main_call3_call0_call0_v77 : StableHlo.TRef sig ⟨S4x32768, .i32⟩) (broadcastInDim S4x32768 ![] bcast_S_S4x32768)
  :: StableHlo.TRef.binary (.of main_call3_call0_call0_v73 : StableHlo.TRef sig ⟨S4x32768, .i32⟩) (.of main_call3_call0_call0_v77 : StableHlo.TRef sig ⟨S4x32768, .i32⟩) (.of main_call3_call0_call0_v78 : StableHlo.TRef sig ⟨S4x32768, .i32⟩) Host.shrui
  :: StableHlo.TRef.binary (.of main_call3_call0_call0_v76 : StableHlo.TRef sig ⟨S4x32768, .i32⟩) (.of main_call3_call0_call0_v78 : StableHlo.TRef sig ⟨S4x32768, .i32⟩) (.of main_call3_call0_call0_v79 : StableHlo.TRef sig ⟨S4x32768, .i32⟩) ori
  :: StableHlo.TRef.binary (.of main_call3_call0_call0_v74 : StableHlo.TRef sig ⟨S4x32768, .i32⟩) (.of main_call3_call0_call0_v79 : StableHlo.TRef sig ⟨S4x32768, .i32⟩) (.of main_call3_call0_call0_v80 : StableHlo.TRef sig ⟨S4x32768, .i32⟩) xori
  :: StableHlo.TRef.binary (.of main_call3_call0_call0_v74 : StableHlo.TRef sig ⟨S4x32768, .i32⟩) (.of main_call3_call0_call0_v80 : StableHlo.TRef sig ⟨S4x32768, .i32⟩) (.of main_call3_call0_call0_v81 : StableHlo.TRef sig ⟨S4x32768, .i32⟩) addi
  :: StableHlo.TRef.nullary (.of main_call3_call0_call0_c_20 : StableHlo.TRef sig ⟨S_, .i32⟩) (constantI S_ 32 15#32)
  :: StableHlo.TRef.unary (.of main_call3_call0_call0_c_20 : StableHlo.TRef sig ⟨S_, .i32⟩) (.of main_call3_call0_call0_v82 : StableHlo.TRef sig ⟨S4x32768, .i32⟩) (broadcastInDim S4x32768 ![] bcast_S_S4x32768)
  :: StableHlo.TRef.binary (.of main_call3_call0_call0_v80 : StableHlo.TRef sig ⟨S4x32768, .i32⟩) (.of main_call3_call0_call0_v82 : StableHlo.TRef sig ⟨S4x32768, .i32⟩) (.of main_call3_call0_call0_v83 : StableHlo.TRef sig ⟨S4x32768, .i32⟩) Host.shli
  :: StableHlo.TRef.nullary (.of main_call3_call0_call0_c_21 : StableHlo.TRef sig ⟨S_, .i32⟩) (constantI S_ 32 17#32)
  :: StableHlo.TRef.unary (.of main_call3_call0_call0_c_21 : StableHlo.TRef sig ⟨S_, .i32⟩) (.of main_call3_call0_call0_v84 : StableHlo.TRef sig ⟨S4x32768, .i32⟩) (broadcastInDim S4x32768 ![] bcast_S_S4x32768)
  :: StableHlo.TRef.binary (.of main_call3_call0_call0_v80 : StableHlo.TRef sig ⟨S4x32768, .i32⟩) (.of main_call3_call0_call0_v84 : StableHlo.TRef sig ⟨S4x32768, .i32⟩) (.of main_call3_call0_call0_v85 : StableHlo.TRef sig ⟨S4x32768, .i32⟩) Host.shrui
  :: StableHlo.TRef.binary (.of main_call3_call0_call0_v83 : StableHlo.TRef sig ⟨S4x32768, .i32⟩) (.of main_call3_call0_call0_v85 : StableHlo.TRef sig ⟨S4x32768, .i32⟩) (.of main_call3_call0_call0_v86 : StableHlo.TRef sig ⟨S4x32768, .i32⟩) ori
  :: StableHlo.TRef.binary (.of main_call3_call0_call0_v81 : StableHlo.TRef sig ⟨S4x32768, .i32⟩) (.of main_call3_call0_call0_v86 : StableHlo.TRef sig ⟨S4x32768, .i32⟩) (.of main_call3_call0_call0_v87 : StableHlo.TRef sig ⟨S4x32768, .i32⟩) xori
  :: StableHlo.TRef.binary (.of main_call3_call0_call0_v81 : StableHlo.TRef sig ⟨S4x32768, .i32⟩) (.of main_call3_call0_call0_v87 : StableHlo.TRef sig ⟨S4x32768, .i32⟩) (.of main_call3_call0_call0_v88 : StableHlo.TRef sig ⟨S4x32768, .i32⟩) addi
  :: StableHlo.TRef.nullary (.of main_call3_call0_call0_c_22 : StableHlo.TRef sig ⟨S_, .i32⟩) (constantI S_ 32 26#32)
  :: StableHlo.TRef.unary (.of main_call3_call0_call0_c_22 : StableHlo.TRef sig ⟨S_, .i32⟩) (.of main_call3_call0_call0_v89 : StableHlo.TRef sig ⟨S4x32768, .i32⟩) (broadcastInDim S4x32768 ![] bcast_S_S4x32768)
  :: StableHlo.TRef.binary (.of main_call3_call0_call0_v87 : StableHlo.TRef sig ⟨S4x32768, .i32⟩) (.of main_call3_call0_call0_v89 : StableHlo.TRef sig ⟨S4x32768, .i32⟩) (.of main_call3_call0_call0_v90 : StableHlo.TRef sig ⟨S4x32768, .i32⟩) Host.shli
  :: StableHlo.TRef.nullary (.of main_call3_call0_call0_c_23 : StableHlo.TRef sig ⟨S_, .i32⟩) (constantI S_ 32 6#32)
  :: StableHlo.TRef.unary (.of main_call3_call0_call0_c_23 : StableHlo.TRef sig ⟨S_, .i32⟩) (.of main_call3_call0_call0_v91 : StableHlo.TRef sig ⟨S4x32768, .i32⟩) (broadcastInDim S4x32768 ![] bcast_S_S4x32768)
  :: StableHlo.TRef.binary (.of main_call3_call0_call0_v87 : StableHlo.TRef sig ⟨S4x32768, .i32⟩) (.of main_call3_call0_call0_v91 : StableHlo.TRef sig ⟨S4x32768, .i32⟩) (.of main_call3_call0_call0_v92 : StableHlo.TRef sig ⟨S4x32768, .i32⟩) Host.shrui
  :: StableHlo.TRef.binary (.of main_call3_call0_call0_v90 : StableHlo.TRef sig ⟨S4x32768, .i32⟩) (.of main_call3_call0_call0_v92 : StableHlo.TRef sig ⟨S4x32768, .i32⟩) (.of main_call3_call0_call0_v93 : StableHlo.TRef sig ⟨S4x32768, .i32⟩) ori
  :: StableHlo.TRef.binary (.of main_call3_call0_call0_v88 : StableHlo.TRef sig ⟨S4x32768, .i32⟩) (.of main_call3_call0_call0_v93 : StableHlo.TRef sig ⟨S4x32768, .i32⟩) (.of main_call3_call0_call0_v94 : StableHlo.TRef sig ⟨S4x32768, .i32⟩) xori
  :: StableHlo.TRef.binary (.of main_call3_call0_call0_v88 : StableHlo.TRef sig ⟨S4x32768, .i32⟩) (.of main_call3_call0_call0_v94 : StableHlo.TRef sig ⟨S4x32768, .i32⟩) (.of main_call3_call0_call0_v95 : StableHlo.TRef sig ⟨S4x32768, .i32⟩) addi
  :: StableHlo.TRef.nullary (.of main_call3_call0_call0_c_24 : StableHlo.TRef sig ⟨S_, .i32⟩) (constantI S_ 32 6#32)
  :: StableHlo.TRef.unary (.of main_call3_call0_call0_c_24 : StableHlo.TRef sig ⟨S_, .i32⟩) (.of main_call3_call0_call0_v96 : StableHlo.TRef sig ⟨S4x32768, .i32⟩) (broadcastInDim S4x32768 ![] bcast_S_S4x32768)
  :: StableHlo.TRef.binary (.of main_call3_call0_call0_v94 : StableHlo.TRef sig ⟨S4x32768, .i32⟩) (.of main_call3_call0_call0_v96 : StableHlo.TRef sig ⟨S4x32768, .i32⟩) (.of main_call3_call0_call0_v97 : StableHlo.TRef sig ⟨S4x32768, .i32⟩) Host.shli
  :: StableHlo.TRef.nullary (.of main_call3_call0_call0_c_25 : StableHlo.TRef sig ⟨S_, .i32⟩) (constantI S_ 32 26#32)
  :: StableHlo.TRef.unary (.of main_call3_call0_call0_c_25 : StableHlo.TRef sig ⟨S_, .i32⟩) (.of main_call3_call0_call0_v98 : StableHlo.TRef sig ⟨S4x32768, .i32⟩) (broadcastInDim S4x32768 ![] bcast_S_S4x32768)
  :: StableHlo.TRef.binary (.of main_call3_call0_call0_v94 : StableHlo.TRef sig ⟨S4x32768, .i32⟩) (.of main_call3_call0_call0_v98 : StableHlo.TRef sig ⟨S4x32768, .i32⟩) (.of main_call3_call0_call0_v99 : StableHlo.TRef sig ⟨S4x32768, .i32⟩) Host.shrui
  :: StableHlo.TRef.binary (.of main_call3_call0_call0_v97 : StableHlo.TRef sig ⟨S4x32768, .i32⟩) (.of main_call3_call0_call0_v99 : StableHlo.TRef sig ⟨S4x32768, .i32⟩) (.of main_call3_call0_call0_v100 : StableHlo.TRef sig ⟨S4x32768, .i32⟩) ori
  :: StableHlo.TRef.binary (.of main_call3_call0_call0_v95 : StableHlo.TRef sig ⟨S4x32768, .i32⟩) (.of main_call3_call0_call0_v100 : StableHlo.TRef sig ⟨S4x32768, .i32⟩) (.of main_call3_call0_call0_v101 : StableHlo.TRef sig ⟨S4x32768, .i32⟩) xori
  :: StableHlo.TRef.unary (.of main_call3_call0_v4 : StableHlo.TRef sig ⟨S_, .i32⟩) (.of main_call3_call0_call0_v102 : StableHlo.TRef sig ⟨S4x32768, .i32⟩) (broadcastInDim S4x32768 ![] bcast_S_S4x32768)
  :: StableHlo.TRef.binary (.of main_call3_call0_call0_v95 : StableHlo.TRef sig ⟨S4x32768, .i32⟩) (.of main_call3_call0_call0_v102 : StableHlo.TRef sig ⟨S4x32768, .i32⟩) (.of main_call3_call0_call0_v103 : StableHlo.TRef sig ⟨S4x32768, .i32⟩) addi
  :: StableHlo.TRef.unary (.of main_call3_call0_v6 : StableHlo.TRef sig ⟨S_, .i32⟩) (.of main_call3_call0_call0_v104 : StableHlo.TRef sig ⟨S4x32768, .i32⟩) (broadcastInDim S4x32768 ![] bcast_S_S4x32768)
  :: StableHlo.TRef.binary (.of main_call3_call0_call0_v101 : StableHlo.TRef sig ⟨S4x32768, .i32⟩) (.of main_call3_call0_call0_v104 : StableHlo.TRef sig ⟨S4x32768, .i32⟩) (.of main_call3_call0_call0_v105 : StableHlo.TRef sig ⟨S4x32768, .i32⟩) addi
  :: StableHlo.TRef.nullary (.of main_call3_call0_call0_c_26 : StableHlo.TRef sig ⟨S_, .i32⟩) (constantI S_ 32 3#32)
  :: StableHlo.TRef.unary (.of main_call3_call0_call0_c_26 : StableHlo.TRef sig ⟨S_, .i32⟩) (.of main_call3_call0_call0_v106 : StableHlo.TRef sig ⟨S4x32768, .i32⟩) (broadcastInDim S4x32768 ![] bcast_S_S4x32768)
  :: StableHlo.TRef.binary (.of main_call3_call0_call0_v105 : StableHlo.TRef sig ⟨S4x32768, .i32⟩) (.of main_call3_call0_call0_v106 : StableHlo.TRef sig ⟨S4x32768, .i32⟩) (.of main_call3_call0_call0_v107 : StableHlo.TRef sig ⟨S4x32768, .i32⟩) addi
  :: StableHlo.TRef.binary (.of main_call3_call0_call0_v103 : StableHlo.TRef sig ⟨S4x32768, .i32⟩) (.of main_call3_call0_call0_v107 : StableHlo.TRef sig ⟨S4x32768, .i32⟩) (.of main_call3_call0_call0_v108 : StableHlo.TRef sig ⟨S4x32768, .i32⟩) addi
  :: StableHlo.TRef.nullary (.of main_call3_call0_call0_c_27 : StableHlo.TRef sig ⟨S_, .i32⟩) (constantI S_ 32 17#32)
  :: StableHlo.TRef.unary (.of main_call3_call0_call0_c_27 : StableHlo.TRef sig ⟨S_, .i32⟩) (.of main_call3_call0_call0_v109 : StableHlo.TRef sig ⟨S4x32768, .i32⟩) (broadcastInDim S4x32768 ![] bcast_S_S4x32768)
  :: StableHlo.TRef.binary (.of main_call3_call0_call0_v107 : StableHlo.TRef sig ⟨S4x32768, .i32⟩) (.of main_call3_call0_call0_v109 : StableHlo.TRef sig ⟨S4x32768, .i32⟩) (.of main_call3_call0_call0_v110 : StableHlo.TRef sig ⟨S4x32768, .i32⟩) Host.shli
  :: StableHlo.TRef.nullary (.of main_call3_call0_call0_c_28 : StableHlo.TRef sig ⟨S_, .i32⟩) (constantI S_ 32 15#32)
  :: StableHlo.TRef.unary (.of main_call3_call0_call0_c_28 : StableHlo.TRef sig ⟨S_, .i32⟩) (.of main_call3_call0_call0_v111 : StableHlo.TRef sig ⟨S4x32768, .i32⟩) (broadcastInDim S4x32768 ![] bcast_S_S4x32768)
  :: StableHlo.TRef.binary (.of main_call3_call0_call0_v107 : StableHlo.TRef sig ⟨S4x32768, .i32⟩) (.of main_call3_call0_call0_v111 : StableHlo.TRef sig ⟨S4x32768, .i32⟩) (.of main_call3_call0_call0_v112 : StableHlo.TRef sig ⟨S4x32768, .i32⟩) Host.shrui
  :: StableHlo.TRef.binary (.of main_call3_call0_call0_v110 : StableHlo.TRef sig ⟨S4x32768, .i32⟩) (.of main_call3_call0_call0_v112 : StableHlo.TRef sig ⟨S4x32768, .i32⟩) (.of main_call3_call0_call0_v113 : StableHlo.TRef sig ⟨S4x32768, .i32⟩) ori
  :: StableHlo.TRef.binary (.of main_call3_call0_call0_v108 : StableHlo.TRef sig ⟨S4x32768, .i32⟩) (.of main_call3_call0_call0_v113 : StableHlo.TRef sig ⟨S4x32768, .i32⟩) (.of main_call3_call0_call0_v114 : StableHlo.TRef sig ⟨S4x32768, .i32⟩) xori
  :: StableHlo.TRef.binary (.of main_call3_call0_call0_v108 : StableHlo.TRef sig ⟨S4x32768, .i32⟩) (.of main_call3_call0_call0_v114 : StableHlo.TRef sig ⟨S4x32768, .i32⟩) (.of main_call3_call0_call0_v115 : StableHlo.TRef sig ⟨S4x32768, .i32⟩) addi
  :: StableHlo.TRef.nullary (.of main_call3_call0_call0_c_29 : StableHlo.TRef sig ⟨S_, .i32⟩) (constantI S_ 32 29#32)
  :: StableHlo.TRef.unary (.of main_call3_call0_call0_c_29 : StableHlo.TRef sig ⟨S_, .i32⟩) (.of main_call3_call0_call0_v116 : StableHlo.TRef sig ⟨S4x32768, .i32⟩) (broadcastInDim S4x32768 ![] bcast_S_S4x32768)
  :: StableHlo.TRef.binary (.of main_call3_call0_call0_v114 : StableHlo.TRef sig ⟨S4x32768, .i32⟩) (.of main_call3_call0_call0_v116 : StableHlo.TRef sig ⟨S4x32768, .i32⟩) (.of main_call3_call0_call0_v117 : StableHlo.TRef sig ⟨S4x32768, .i32⟩) Host.shli
  :: StableHlo.TRef.nullary (.of main_call3_call0_call0_c_30 : StableHlo.TRef sig ⟨S_, .i32⟩) (constantI S_ 32 3#32)
  :: StableHlo.TRef.unary (.of main_call3_call0_call0_c_30 : StableHlo.TRef sig ⟨S_, .i32⟩) (.of main_call3_call0_call0_v118 : StableHlo.TRef sig ⟨S4x32768, .i32⟩) (broadcastInDim S4x32768 ![] bcast_S_S4x32768)
  :: StableHlo.TRef.binary (.of main_call3_call0_call0_v114 : StableHlo.TRef sig ⟨S4x32768, .i32⟩) (.of main_call3_call0_call0_v118 : StableHlo.TRef sig ⟨S4x32768, .i32⟩) (.of main_call3_call0_call0_v119 : StableHlo.TRef sig ⟨S4x32768, .i32⟩) Host.shrui
  :: StableHlo.TRef.binary (.of main_call3_call0_call0_v117 : StableHlo.TRef sig ⟨S4x32768, .i32⟩) (.of main_call3_call0_call0_v119 : StableHlo.TRef sig ⟨S4x32768, .i32⟩) (.of main_call3_call0_call0_v120 : StableHlo.TRef sig ⟨S4x32768, .i32⟩) ori
  :: StableHlo.TRef.binary (.of main_call3_call0_call0_v115 : StableHlo.TRef sig ⟨S4x32768, .i32⟩) (.of main_call3_call0_call0_v120 : StableHlo.TRef sig ⟨S4x32768, .i32⟩) (.of main_call3_call0_call0_v121 : StableHlo.TRef sig ⟨S4x32768, .i32⟩) xori
  :: StableHlo.TRef.binary (.of main_call3_call0_call0_v115 : StableHlo.TRef sig ⟨S4x32768, .i32⟩) (.of main_call3_call0_call0_v121 : StableHlo.TRef sig ⟨S4x32768, .i32⟩) (.of main_call3_call0_call0_v122 : StableHlo.TRef sig ⟨S4x32768, .i32⟩) addi
  :: StableHlo.TRef.nullary (.of main_call3_call0_call0_c_31 : StableHlo.TRef sig ⟨S_, .i32⟩) (constantI S_ 32 16#32)
  :: StableHlo.TRef.unary (.of main_call3_call0_call0_c_31 : StableHlo.TRef sig ⟨S_, .i32⟩) (.of main_call3_call0_call0_v123 : StableHlo.TRef sig ⟨S4x32768, .i32⟩) (broadcastInDim S4x32768 ![] bcast_S_S4x32768)
  :: StableHlo.TRef.binary (.of main_call3_call0_call0_v121 : StableHlo.TRef sig ⟨S4x32768, .i32⟩) (.of main_call3_call0_call0_v123 : StableHlo.TRef sig ⟨S4x32768, .i32⟩) (.of main_call3_call0_call0_v124 : StableHlo.TRef sig ⟨S4x32768, .i32⟩) Host.shli
  :: StableHlo.TRef.nullary (.of main_call3_call0_call0_c_32 : StableHlo.TRef sig ⟨S_, .i32⟩) (constantI S_ 32 16#32)
  :: StableHlo.TRef.unary (.of main_call3_call0_call0_c_32 : StableHlo.TRef sig ⟨S_, .i32⟩) (.of main_call3_call0_call0_v125 : StableHlo.TRef sig ⟨S4x32768, .i32⟩) (broadcastInDim S4x32768 ![] bcast_S_S4x32768)
  :: StableHlo.TRef.binary (.of main_call3_call0_call0_v121 : StableHlo.TRef sig ⟨S4x32768, .i32⟩) (.of main_call3_call0_call0_v125 : StableHlo.TRef sig ⟨S4x32768, .i32⟩) (.of main_call3_call0_call0_v126 : StableHlo.TRef sig ⟨S4x32768, .i32⟩) Host.shrui
  :: StableHlo.TRef.binary (.of main_call3_call0_call0_v124 : StableHlo.TRef sig ⟨S4x32768, .i32⟩) (.of main_call3_call0_call0_v126 : StableHlo.TRef sig ⟨S4x32768, .i32⟩) (.of main_call3_call0_call0_v127 : StableHlo.TRef sig ⟨S4x32768, .i32⟩) ori
  :: StableHlo.TRef.binary (.of main_call3_call0_call0_v122 : StableHlo.TRef sig ⟨S4x32768, .i32⟩) (.of main_call3_call0_call0_v127 : StableHlo.TRef sig ⟨S4x32768, .i32⟩) (.of main_call3_call0_call0_v128 : StableHlo.TRef sig ⟨S4x32768, .i32⟩) xori
  :: StableHlo.TRef.binary (.of main_call3_call0_call0_v122 : StableHlo.TRef sig ⟨S4x32768, .i32⟩) (.of main_call3_call0_call0_v128 : StableHlo.TRef sig ⟨S4x32768, .i32⟩) (.of main_call3_call0_call0_v129 : StableHlo.TRef sig ⟨S4x32768, .i32⟩) addi
  :: StableHlo.TRef.nullary (.of main_call3_call0_call0_c_33 : StableHlo.TRef sig ⟨S_, .i32⟩) (constantI S_ 32 24#32)
  :: StableHlo.TRef.unary (.of main_call3_call0_call0_c_33 : StableHlo.TRef sig ⟨S_, .i32⟩) (.of main_call3_call0_call0_v130 : StableHlo.TRef sig ⟨S4x32768, .i32⟩) (broadcastInDim S4x32768 ![] bcast_S_S4x32768)
  :: StableHlo.TRef.binary (.of main_call3_call0_call0_v128 : StableHlo.TRef sig ⟨S4x32768, .i32⟩) (.of main_call3_call0_call0_v130 : StableHlo.TRef sig ⟨S4x32768, .i32⟩) (.of main_call3_call0_call0_v131 : StableHlo.TRef sig ⟨S4x32768, .i32⟩) Host.shli
  :: StableHlo.TRef.nullary (.of main_call3_call0_call0_c_34 : StableHlo.TRef sig ⟨S_, .i32⟩) (constantI S_ 32 8#32)
  :: StableHlo.TRef.unary (.of main_call3_call0_call0_c_34 : StableHlo.TRef sig ⟨S_, .i32⟩) (.of main_call3_call0_call0_v132 : StableHlo.TRef sig ⟨S4x32768, .i32⟩) (broadcastInDim S4x32768 ![] bcast_S_S4x32768)
  :: StableHlo.TRef.binary (.of main_call3_call0_call0_v128 : StableHlo.TRef sig ⟨S4x32768, .i32⟩) (.of main_call3_call0_call0_v132 : StableHlo.TRef sig ⟨S4x32768, .i32⟩) (.of main_call3_call0_call0_v133 : StableHlo.TRef sig ⟨S4x32768, .i32⟩) Host.shrui
  :: StableHlo.TRef.binary (.of main_call3_call0_call0_v131 : StableHlo.TRef sig ⟨S4x32768, .i32⟩) (.of main_call3_call0_call0_v133 : StableHlo.TRef sig ⟨S4x32768, .i32⟩) (.of main_call3_call0_call0_v134 : StableHlo.TRef sig ⟨S4x32768, .i32⟩) ori
  :: StableHlo.TRef.binary (.of main_call3_call0_call0_v129 : StableHlo.TRef sig ⟨S4x32768, .i32⟩) (.of main_call3_call0_call0_v134 : StableHlo.TRef sig ⟨S4x32768, .i32⟩) (.of main_call3_call0_call0_v135 : StableHlo.TRef sig ⟨S4x32768, .i32⟩) xori
  :: StableHlo.TRef.unary (.of main_call3_call0_v6 : StableHlo.TRef sig ⟨S_, .i32⟩) (.of main_call3_call0_call0_v136 : StableHlo.TRef sig ⟨S4x32768, .i32⟩) (broadcastInDim S4x32768 ![] bcast_S_S4x32768)
  :: StableHlo.TRef.binary (.of main_call3_call0_call0_v129 : StableHlo.TRef sig ⟨S4x32768, .i32⟩) (.of main_call3_call0_call0_v136 : StableHlo.TRef sig ⟨S4x32768, .i32⟩) (.of main_call3_call0_call0_v137 : StableHlo.TRef sig ⟨S4x32768, .i32⟩) addi
  :: StableHlo.TRef.unary (.of main_call3_call0_call0_v1 : StableHlo.TRef sig ⟨S_, .i32⟩) (.of main_call3_call0_call0_v138 : StableHlo.TRef sig ⟨S4x32768, .i32⟩) (broadcastInDim S4x32768 ![] bcast_S_S4x32768)
  :: StableHlo.TRef.binary (.of main_call3_call0_call0_v135 : StableHlo.TRef sig ⟨S4x32768, .i32⟩) (.of main_call3_call0_call0_v138 : StableHlo.TRef sig ⟨S4x32768, .i32⟩) (.of main_call3_call0_call0_v139 : StableHlo.TRef sig ⟨S4x32768, .i32⟩) addi
  :: StableHlo.TRef.nullary (.of main_call3_call0_call0_c_35 : StableHlo.TRef sig ⟨S_, .i32⟩) (constantI S_ 32 4#32)
  :: StableHlo.TRef.unary (.of main_call3_call0_call0_c_35 : StableHlo.TRef sig ⟨S_, .i32⟩) (.of main_call3_call0_call0_v140 : StableHlo.TRef sig ⟨S4x32768, .i32⟩) (broadcastInDim S4x32768 ![] bcast_S_S4x32768)
  :: StableHlo.TRef.binary (.of main_call3_call0_call0_v139 : StableHlo.TRef sig ⟨S4x32768, .i32⟩) (.of main_call3_call0_call0_v140 : StableHlo.TRef sig ⟨S4x32768, .i32⟩) (.of main_call3_call0_call0_v141 : StableHlo.TRef sig ⟨S4x32768, .i32⟩) addi
  :: StableHlo.TRef.binary (.of main_call3_call0_call0_v137 : StableHlo.TRef sig ⟨S4x32768, .i32⟩) (.of main_call3_call0_call0_v141 : StableHlo.TRef sig ⟨S4x32768, .i32⟩) (.of main_call3_call0_call0_v142 : StableHlo.TRef sig ⟨S4x32768, .i32⟩) addi
  :: StableHlo.TRef.nullary (.of main_call3_call0_call0_c_36 : StableHlo.TRef sig ⟨S_, .i32⟩) (constantI S_ 32 13#32)
  :: StableHlo.TRef.unary (.of main_call3_call0_call0_c_36 : StableHlo.TRef sig ⟨S_, .i32⟩) (.of main_call3_call0_call0_v143 : StableHlo.TRef sig ⟨S4x32768, .i32⟩) (broadcastInDim S4x32768 ![] bcast_S_S4x32768)
  :: StableHlo.TRef.binary (.of main_call3_call0_call0_v141 : StableHlo.TRef sig ⟨S4x32768, .i32⟩) (.of main_call3_call0_call0_v143 : StableHlo.TRef sig ⟨S4x32768, .i32⟩) (.of main_call3_call0_call0_v144 : StableHlo.TRef sig ⟨S4x32768, .i32⟩) Host.shli
  :: StableHlo.TRef.nullary (.of main_call3_call0_call0_c_37 : StableHlo.TRef sig ⟨S_, .i32⟩) (constantI S_ 32 19#32)
  :: StableHlo.TRef.unary (.of main_call3_call0_call0_c_37 : StableHlo.TRef sig ⟨S_, .i32⟩) (.of main_call3_call0_call0_v145 : StableHlo.TRef sig ⟨S4x32768, .i32⟩) (broadcastInDim S4x32768 ![] bcast_S_S4x32768)
  :: StableHlo.TRef.binary (.of main_call3_call0_call0_v141 : StableHlo.TRef sig ⟨S4x32768, .i32⟩) (.of main_call3_call0_call0_v145 : StableHlo.TRef sig ⟨S4x32768, .i32⟩) (.of main_call3_call0_call0_v146 : StableHlo.TRef sig ⟨S4x32768, .i32⟩) Host.shrui
  :: StableHlo.TRef.binary (.of main_call3_call0_call0_v144 : StableHlo.TRef sig ⟨S4x32768, .i32⟩) (.of main_call3_call0_call0_v146 : StableHlo.TRef sig ⟨S4x32768, .i32⟩) (.of main_call3_call0_call0_v147 : StableHlo.TRef sig ⟨S4x32768, .i32⟩) ori
  :: StableHlo.TRef.binary (.of main_call3_call0_call0_v142 : StableHlo.TRef sig ⟨S4x32768, .i32⟩) (.of main_call3_call0_call0_v147 : StableHlo.TRef sig ⟨S4x32768, .i32⟩) (.of main_call3_call0_call0_v148 : StableHlo.TRef sig ⟨S4x32768, .i32⟩) xori
  :: StableHlo.TRef.binary (.of main_call3_call0_call0_v142 : StableHlo.TRef sig ⟨S4x32768, .i32⟩) (.of main_call3_call0_call0_v148 : StableHlo.TRef sig ⟨S4x32768, .i32⟩) (.of main_call3_call0_call0_v149 : StableHlo.TRef sig ⟨S4x32768, .i32⟩) addi
  :: StableHlo.TRef.nullary (.of main_call3_call0_call0_c_38 : StableHlo.TRef sig ⟨S_, .i32⟩) (constantI S_ 32 15#32)
  :: StableHlo.TRef.unary (.of main_call3_call0_call0_c_38 : StableHlo.TRef sig ⟨S_, .i32⟩) (.of main_call3_call0_call0_v150 : StableHlo.TRef sig ⟨S4x32768, .i32⟩) (broadcastInDim S4x32768 ![] bcast_S_S4x32768)
  :: StableHlo.TRef.binary (.of main_call3_call0_call0_v148 : StableHlo.TRef sig ⟨S4x32768, .i32⟩) (.of main_call3_call0_call0_v150 : StableHlo.TRef sig ⟨S4x32768, .i32⟩) (.of main_call3_call0_call0_v151 : StableHlo.TRef sig ⟨S4x32768, .i32⟩) Host.shli
  :: StableHlo.TRef.nullary (.of main_call3_call0_call0_c_39 : StableHlo.TRef sig ⟨S_, .i32⟩) (constantI S_ 32 17#32)
  :: StableHlo.TRef.unary (.of main_call3_call0_call0_c_39 : StableHlo.TRef sig ⟨S_, .i32⟩) (.of main_call3_call0_call0_v152 : StableHlo.TRef sig ⟨S4x32768, .i32⟩) (broadcastInDim S4x32768 ![] bcast_S_S4x32768)
  :: StableHlo.TRef.binary (.of main_call3_call0_call0_v148 : StableHlo.TRef sig ⟨S4x32768, .i32⟩) (.of main_call3_call0_call0_v152 : StableHlo.TRef sig ⟨S4x32768, .i32⟩) (.of main_call3_call0_call0_v153 : StableHlo.TRef sig ⟨S4x32768, .i32⟩) Host.shrui
  :: StableHlo.TRef.binary (.of main_call3_call0_call0_v151 : StableHlo.TRef sig ⟨S4x32768, .i32⟩) (.of main_call3_call0_call0_v153 : StableHlo.TRef sig ⟨S4x32768, .i32⟩) (.of main_call3_call0_call0_v154 : StableHlo.TRef sig ⟨S4x32768, .i32⟩) ori
  :: StableHlo.TRef.binary (.of main_call3_call0_call0_v149 : StableHlo.TRef sig ⟨S4x32768, .i32⟩) (.of main_call3_call0_call0_v154 : StableHlo.TRef sig ⟨S4x32768, .i32⟩) (.of main_call3_call0_call0_v155 : StableHlo.TRef sig ⟨S4x32768, .i32⟩) xori
  :: StableHlo.TRef.binary (.of main_call3_call0_call0_v149 : StableHlo.TRef sig ⟨S4x32768, .i32⟩) (.of main_call3_call0_call0_v155 : StableHlo.TRef sig ⟨S4x32768, .i32⟩) (.of main_call3_call0_call0_v156 : StableHlo.TRef sig ⟨S4x32768, .i32⟩) addi
  :: StableHlo.TRef.nullary (.of main_call3_call0_call0_c_40 : StableHlo.TRef sig ⟨S_, .i32⟩) (constantI S_ 32 26#32)
  :: StableHlo.TRef.unary (.of main_call3_call0_call0_c_40 : StableHlo.TRef sig ⟨S_, .i32⟩) (.of main_call3_call0_call0_v157 : StableHlo.TRef sig ⟨S4x32768, .i32⟩) (broadcastInDim S4x32768 ![] bcast_S_S4x32768)
  :: StableHlo.TRef.binary (.of main_call3_call0_call0_v155 : StableHlo.TRef sig ⟨S4x32768, .i32⟩) (.of main_call3_call0_call0_v157 : StableHlo.TRef sig ⟨S4x32768, .i32⟩) (.of main_call3_call0_call0_v158 : StableHlo.TRef sig ⟨S4x32768, .i32⟩) Host.shli
  :: StableHlo.TRef.nullary (.of main_call3_call0_call0_c_41 : StableHlo.TRef sig ⟨S_, .i32⟩) (constantI S_ 32 6#32)
  :: StableHlo.TRef.unary (.of main_call3_call0_call0_c_41 : StableHlo.TRef sig ⟨S_, .i32⟩) (.of main_call3_call0_call0_v159 : StableHlo.TRef sig ⟨S4x32768, .i32⟩) (broadcastInDim S4x32768 ![] bcast_S_S4x32768)
  :: StableHlo.TRef.binary (.of main_call3_call0_call0_v155 : StableHlo.TRef sig ⟨S4x32768, .i32⟩) (.of main_call3_call0_call0_v159 : StableHlo.TRef sig ⟨S4x32768, .i32⟩) (.of main_call3_call0_call0_v160 : StableHlo.TRef sig ⟨S4x32768, .i32⟩) Host.shrui
  :: StableHlo.TRef.binary (.of main_call3_call0_call0_v158 : StableHlo.TRef sig ⟨S4x32768, .i32⟩) (.of main_call3_call0_call0_v160 : StableHlo.TRef sig ⟨S4x32768, .i32⟩) (.of main_call3_call0_call0_v161 : StableHlo.TRef sig ⟨S4x32768, .i32⟩) ori
  :: StableHlo.TRef.binary (.of main_call3_call0_call0_v156 : StableHlo.TRef sig ⟨S4x32768, .i32⟩) (.of main_call3_call0_call0_v161 : StableHlo.TRef sig ⟨S4x32768, .i32⟩) (.of main_call3_call0_call0_v162 : StableHlo.TRef sig ⟨S4x32768, .i32⟩) xori
  :: StableHlo.TRef.binary (.of main_call3_call0_call0_v156 : StableHlo.TRef sig ⟨S4x32768, .i32⟩) (.of main_call3_call0_call0_v162 : StableHlo.TRef sig ⟨S4x32768, .i32⟩) (.of main_call3_call0_call0_v163 : StableHlo.TRef sig ⟨S4x32768, .i32⟩) addi
  :: StableHlo.TRef.nullary (.of main_call3_call0_call0_c_42 : StableHlo.TRef sig ⟨S_, .i32⟩) (constantI S_ 32 6#32)
  :: StableHlo.TRef.unary (.of main_call3_call0_call0_c_42 : StableHlo.TRef sig ⟨S_, .i32⟩) (.of main_call3_call0_call0_v164 : StableHlo.TRef sig ⟨S4x32768, .i32⟩) (broadcastInDim S4x32768 ![] bcast_S_S4x32768)
  :: StableHlo.TRef.binary (.of main_call3_call0_call0_v162 : StableHlo.TRef sig ⟨S4x32768, .i32⟩) (.of main_call3_call0_call0_v164 : StableHlo.TRef sig ⟨S4x32768, .i32⟩) (.of main_call3_call0_call0_v165 : StableHlo.TRef sig ⟨S4x32768, .i32⟩) Host.shli
  :: StableHlo.TRef.nullary (.of main_call3_call0_call0_c_43 : StableHlo.TRef sig ⟨S_, .i32⟩) (constantI S_ 32 26#32)
  :: StableHlo.TRef.unary (.of main_call3_call0_call0_c_43 : StableHlo.TRef sig ⟨S_, .i32⟩) (.of main_call3_call0_call0_v166 : StableHlo.TRef sig ⟨S4x32768, .i32⟩) (broadcastInDim S4x32768 ![] bcast_S_S4x32768)
  :: StableHlo.TRef.binary (.of main_call3_call0_call0_v162 : StableHlo.TRef sig ⟨S4x32768, .i32⟩) (.of main_call3_call0_call0_v166 : StableHlo.TRef sig ⟨S4x32768, .i32⟩) (.of main_call3_call0_call0_v167 : StableHlo.TRef sig ⟨S4x32768, .i32⟩) Host.shrui
  :: StableHlo.TRef.binary (.of main_call3_call0_call0_v165 : StableHlo.TRef sig ⟨S4x32768, .i32⟩) (.of main_call3_call0_call0_v167 : StableHlo.TRef sig ⟨S4x32768, .i32⟩) (.of main_call3_call0_call0_v168 : StableHlo.TRef sig ⟨S4x32768, .i32⟩) ori
  :: StableHlo.TRef.binary (.of main_call3_call0_call0_v163 : StableHlo.TRef sig ⟨S4x32768, .i32⟩) (.of main_call3_call0_call0_v168 : StableHlo.TRef sig ⟨S4x32768, .i32⟩) (.of main_call3_call0_call0_v169 : StableHlo.TRef sig ⟨S4x32768, .i32⟩) xori
  :: StableHlo.TRef.unary (.of main_call3_call0_call0_v1 : StableHlo.TRef sig ⟨S_, .i32⟩) (.of main_call3_call0_call0_v170 : StableHlo.TRef sig ⟨S4x32768, .i32⟩) (broadcastInDim S4x32768 ![] bcast_S_S4x32768)
  :: StableHlo.TRef.binary (.of main_call3_call0_call0_v163 : StableHlo.TRef sig ⟨S4x32768, .i32⟩) (.of main_call3_call0_call0_v170 : StableHlo.TRef sig ⟨S4x32768, .i32⟩) (.of main_call3_call0_v18_0 : StableHlo.TRef sig ⟨S4x32768, .i32⟩) addi
  :: StableHlo.TRef.unary (.of main_call3_call0_v4 : StableHlo.TRef sig ⟨S_, .i32⟩) (.of main_call3_call0_call0_v172 : StableHlo.TRef sig ⟨S4x32768, .i32⟩) (broadcastInDim S4x32768 ![] bcast_S_S4x32768)
  :: StableHlo.TRef.binary (.of main_call3_call0_call0_v169 : StableHlo.TRef sig ⟨S4x32768, .i32⟩) (.of main_call3_call0_call0_v172 : StableHlo.TRef sig ⟨S4x32768, .i32⟩) (.of main_call3_call0_call0_v173 : StableHlo.TRef sig ⟨S4x32768, .i32⟩) addi
  :: StableHlo.TRef.nullary (.of main_call3_call0_call0_c_44 : StableHlo.TRef sig ⟨S_, .i32⟩) (constantI S_ 32 5#32)
  :: StableHlo.TRef.unary (.of main_call3_call0_call0_c_44 : StableHlo.TRef sig ⟨S_, .i32⟩) (.of main_call3_call0_call0_v174 : StableHlo.TRef sig ⟨S4x32768, .i32⟩) (broadcastInDim S4x32768 ![] bcast_S_S4x32768)
  :: StableHlo.TRef.binary (.of main_call3_call0_call0_v173 : StableHlo.TRef sig ⟨S4x32768, .i32⟩) (.of main_call3_call0_call0_v174 : StableHlo.TRef sig ⟨S4x32768, .i32⟩) (.of main_call3_call0_v18_1 : StableHlo.TRef sig ⟨S4x32768, .i32⟩) addi
  :: StableHlo.TRef.binary (.of main_call3_call0_v18_0 : StableHlo.TRef sig ⟨S4x32768, .i32⟩) (.of main_call3_call0_v18_1 : StableHlo.TRef sig ⟨S4x32768, .i32⟩) (.of main_call3_call0_v19 : StableHlo.TRef sig ⟨S4x32768, .i32⟩) xori
  :: StableHlo.TRef.nullary (.of main_call3_call0_c_2 : StableHlo.TRef sig ⟨S_, .i32⟩) (constantI S_ 32 9#32)
  :: StableHlo.TRef.unary (.of main_call3_call0_c_2 : StableHlo.TRef sig ⟨S_, .i32⟩) (.of main_call3_call0_v20 : StableHlo.TRef sig ⟨S4x32768, .i32⟩) (broadcastInDim S4x32768 ![] bcast_S_S4x32768)
  :: StableHlo.TRef.binary (.of main_call3_call0_v19 : StableHlo.TRef sig ⟨S4x32768, .i32⟩) (.of main_call3_call0_v20 : StableHlo.TRef sig ⟨S4x32768, .i32⟩) (.of main_call3_call0_v21 : StableHlo.TRef sig ⟨S4x32768, .i32⟩) Host.shrui
  :: StableHlo.TRef.nullary (.of main_call3_call0_c_3 : StableHlo.TRef sig ⟨S_, .i32⟩) (constantI S_ 32 1065353216#32)
  :: StableHlo.TRef.unary (.of main_call3_call0_c_3 : StableHlo.TRef sig ⟨S_, .i32⟩) (.of main_call3_call0_v22 : StableHlo.TRef sig ⟨S4x32768, .i32⟩) (broadcastInDim S4x32768 ![] bcast_S_S4x32768)
  :: StableHlo.TRef.binary (.of main_call3_call0_v21 : StableHlo.TRef sig ⟨S4x32768, .i32⟩) (.of main_call3_call0_v22 : StableHlo.TRef sig ⟨S4x32768, .i32⟩) (.of main_call3_call0_v23 : StableHlo.TRef sig ⟨S4x32768, .i32⟩) ori
  :: StableHlo.TRef.unary (.of main_call3_call0_v23 : StableHlo.TRef sig ⟨S4x32768, .i32⟩) (.of main_call3_call0_v24 : StableHlo.TRef sig ⟨S4x32768, .f32⟩) (bitcastToFloat .f32)
  :: StableHlo.TRef.nullary (.of main_call3_call0_cst : StableHlo.TRef sig ⟨S_, .f32⟩) (constant S_ .f32 0x3F800000#32)
  :: StableHlo.TRef.unary (.of main_call3_call0_cst : StableHlo.TRef sig ⟨S_, .f32⟩) (.of main_call3_call0_v25 : StableHlo.TRef sig ⟨S4x32768, .f32⟩) (broadcastInDim S4x32768 ![] bcast_S_S4x32768)
  :: StableHlo.TRef.binary (.of main_call3_call0_v24 : StableHlo.TRef sig ⟨S4x32768, .f32⟩) (.of main_call3_call0_v25 : StableHlo.TRef sig ⟨S4x32768, .f32⟩) (.of main_call3_call0_v26 : StableHlo.TRef sig ⟨S4x32768, .f32⟩) subf
  :: StableHlo.TRef.binary (.of main_call3_call0_v2 : StableHlo.TRef sig ⟨S1x1, .f32⟩) (.of main_call3_call0_v1 : StableHlo.TRef sig ⟨S1x1, .f32⟩) (.of main_call3_call0_v27 : StableHlo.TRef sig ⟨S1x1, .f32⟩) subf
  :: StableHlo.TRef.unary (.of main_call3_call0_v27 : StableHlo.TRef sig ⟨S1x1, .f32⟩) (.of main_call3_call0_v28 : StableHlo.TRef sig ⟨S4x32768, .f32⟩) (broadcastInDim S4x32768 ![0, 1] bcast_S1x1_S4x32768_0_1)
  :: StableHlo.TRef.binary (.of main_call3_call0_v26 : StableHlo.TRef sig ⟨S4x32768, .f32⟩) (.of main_call3_call0_v28 : StableHlo.TRef sig ⟨S4x32768, .f32⟩) (.of main_call3_call0_v29 : StableHlo.TRef sig ⟨S4x32768, .f32⟩) mulf
  :: StableHlo.TRef.unary (.of main_call3_call0_v1 : StableHlo.TRef sig ⟨S1x1, .f32⟩) (.of main_call3_call0_v30 : StableHlo.TRef sig ⟨S4x32768, .f32⟩) (broadcastInDim S4x32768 ![0, 1] bcast_S1x1_S4x32768_0_1)
  :: StableHlo.TRef.binary (.of main_call3_call0_v29 : StableHlo.TRef sig ⟨S4x32768, .f32⟩) (.of main_call3_call0_v30 : StableHlo.TRef sig ⟨S4x32768, .f32⟩) (.of main_call3_call0_v31 : StableHlo.TRef sig ⟨S4x32768, .f32⟩) addf
  :: StableHlo.TRef.unary (.of main_call3_call0_v1 : StableHlo.TRef sig ⟨S1x1, .f32⟩) (.of main_call3_call0_v32 : StableHlo.TRef sig ⟨S4x32768, .f32⟩) (broadcastInDim S4x32768 ![0, 1] bcast_S1x1_S4x32768_0_1)
  :: StableHlo.TRef.binary (.of main_call3_call0_v32 : StableHlo.TRef sig ⟨S4x32768, .f32⟩) (.of main_call3_call0_v31 : StableHlo.TRef sig ⟨S4x32768, .f32⟩) (.of main_call3_v0 : StableHlo.TRef sig ⟨S4x32768, .f32⟩) maximumf
  :: StableHlo.TRef.unary (.of main_call3_v0 : StableHlo.TRef sig ⟨S4x32768, .f32⟩) (.of main_call3_v1 : StableHlo.TRef sig ⟨S4x32768, .f32⟩) Host.log
  :: StableHlo.TRef.unary (.of main_call3_v1 : StableHlo.TRef sig ⟨S4x32768, .f32⟩) (.of main_call3_v2 : StableHlo.TRef sig ⟨S4x32768, .f32⟩) Host.negf
  :: StableHlo.TRef.unary (.of main_call3_v2 : StableHlo.TRef sig ⟨S4x32768, .f32⟩) (.of main_call3_v3 : StableHlo.TRef sig ⟨S4x32768, .f32⟩) Host.log
  :: StableHlo.TRef.unary (.of main_call3_v3 : StableHlo.TRef sig ⟨S4x32768, .f32⟩) (.of main_v61 : StableHlo.TRef sig ⟨S4x32768, .f32⟩) Host.negf
  :: [] )

/-- The lines that pick a move for each batch element and read its row. -/
abbrev pickOps : List (HloOp τ sig (Elt F)) :=
  [ StableHlo.binary main_v61 main_v60 main_v62 (addf : (⟨S4x32768, .f32⟩ : BufTy).Contents (Elt F) → (⟨S4x32768, .f32⟩ : BufTy).Contents (Elt F) → (⟨S4x32768, .f32⟩ : BufTy).Contents (Elt F)),
    StableHlo.TRef.nullary (.of main_call4_v0 : StableHlo.TRef sig ⟨S4x32768, .i32⟩) (iotaInDim S4x32768 32 1),
    StableHlo.TRef.nullary (.of main_call4_cst : StableHlo.TRef sig ⟨S_, .f32⟩) (constant S_ .f32 0xFF800000#32),
    StableHlo.TRef.nullary (.of main_call4_c : StableHlo.TRef sig ⟨S_, .i32⟩) (constantI S_ 32 0#32),
    StableHlo.TRef.quaternary (.of main_v62 : StableHlo.TRef sig ⟨S4x32768, .f32⟩) (.of main_call4_v0 : StableHlo.TRef sig ⟨S4x32768, .i32⟩) (.of main_call4_cst : StableHlo.TRef sig ⟨S_, .f32⟩) (.of main_call4_c : StableHlo.TRef sig ⟨S_, .i32⟩) (.of main_call4_v1_0 : StableHlo.TRef sig ⟨S4, .f32⟩) (fun x y u v j => (Host.argReduce reducer_argmax_f32_i32 x y u v reducesTo_S4x32768_S4_d1 h_S_ j).1),
    StableHlo.TRef.quaternary (.of main_v62 : StableHlo.TRef sig ⟨S4x32768, .f32⟩) (.of main_call4_v0 : StableHlo.TRef sig ⟨S4x32768, .i32⟩) (.of main_call4_cst : StableHlo.TRef sig ⟨S_, .f32⟩) (.of main_call4_c : StableHlo.TRef sig ⟨S_, .i32⟩) (.of main_v63 : StableHlo.TRef sig ⟨S4, .i32⟩) (fun x y u v j => (Host.argReduce reducer_argmax_f32_i32 x y u v reducesTo_S4x32768_S4_d1 h_S_ j).2),
    StableHlo.unary main_v63 main_v64 (broadcastInDim S4x1 ![0] bcast_S4_S4x1_0 : (⟨S4, .i32⟩ : BufTy).Contents (Elt F) → (⟨S4x1, .i32⟩ : BufTy).Contents (Elt F)),
    StableHlo.reshape main_v64 main_v65 (rfl : (.i32 : EltTy) = .i32) shapeCasts_S4x1_S4x1x1,
    StableHlo.nullary main_v66 (iotaInDim S1 32 0),
    StableHlo.nullary main_c_11 (constantI S_ 32 4#32),
    StableHlo.unary main_c_11 main_v67 (broadcastInDim S1 ![] bcast_S_S1 : (⟨S_, .i32⟩ : BufTy).Contents (Elt F) → (⟨S1, .i32⟩ : BufTy).Contents (Elt F)),
    StableHlo.binary main_v67 main_v66 main_v68 (muli : (⟨S1, .i32⟩ : BufTy).Contents (Elt F) → (⟨S1, .i32⟩ : BufTy).Contents (Elt F) → (⟨S1, .i32⟩ : BufTy).Contents (Elt F)),
    StableHlo.nullary main_c_12 (constantI S_ 32 0#32),
    StableHlo.unary main_c_12 main_v69 (broadcastInDim S1 ![] bcast_S_S1 : (⟨S_, .i32⟩ : BufTy).Contents (Elt F) → (⟨S1, .i32⟩ : BufTy).Contents (Elt F)),
    StableHlo.binary main_v69 main_v68 main_v70 (addi : (⟨S1, .i32⟩ : BufTy).Contents (Elt F) → (⟨S1, .i32⟩ : BufTy).Contents (Elt F) → (⟨S1, .i32⟩ : BufTy).Contents (Elt F)),
    StableHlo.unary main_v70 main_v71 (broadcastInDim S1x1 ![1] bcast_S1_S1x1_1 : (⟨S1, .i32⟩ : BufTy).Contents (Elt F) → (⟨S1x1, .i32⟩ : BufTy).Contents (Elt F)),
    StableHlo.unary main_v71 main_v72 (broadcastInDim S4x1 ![0, 1] bcast_S1x1_S4x1_0_1 : (⟨S1x1, .i32⟩ : BufTy).Contents (Elt F) → (⟨S4x1, .i32⟩ : BufTy).Contents (Elt F)),
    StableHlo.binary main_v64 main_v72 main_v73 (addi : (⟨S4x1, .i32⟩ : BufTy).Contents (Elt F) → (⟨S4x1, .i32⟩ : BufTy).Contents (Elt F) → (⟨S4x1, .i32⟩ : BufTy).Contents (Elt F)),
    StableHlo.reshape main_arg2 main_v74 (rfl : (.f32 : EltTy) = .f32) shapeCasts_S4x1x16x2048x256_S131072x256,
    StableHlo.nullary main_c_13 (constantI S_ 32 0#32),
    StableHlo.unary main_c_13 main_v75 (broadcastInDim S4x1 ![] bcast_S_S4x1 : (⟨S_, .i32⟩ : BufTy).Contents (Elt F) → (⟨S4x1, .i32⟩ : BufTy).Contents (Elt F)),
    StableHlo.binary main_v73 main_v75 main_v76 (cmpi .slt : (⟨S4x1, .i32⟩ : BufTy).Contents (Elt F) → (⟨S4x1, .i32⟩ : BufTy).Contents (Elt F) → (⟨S4x1, .i1⟩ : BufTy).Contents (Elt F)),
    StableHlo.nullary main_c_14 (constantI S_ 32 131072#32),
    StableHlo.unary main_c_14 main_v77 (broadcastInDim S4x1 ![] bcast_S_S4x1 : (⟨S_, .i32⟩ : BufTy).Contents (Elt F) → (⟨S4x1, .i32⟩ : BufTy).Contents (Elt F)),
    StableHlo.binary main_v73 main_v77 main_v78 (addi : (⟨S4x1, .i32⟩ : BufTy).Contents (Elt F) → (⟨S4x1, .i32⟩ : BufTy).Contents (Elt F) → (⟨S4x1, .i32⟩ : BufTy).Contents (Elt F)),
    StableHlo.ternary main_v76 main_v78 main_v73 main_v79 (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F)),
    StableHlo.unary main_v79 main_v80 (broadcastInDim S4x1x1 ![0, 1] bcast_S4x1_S4x1x1_0_1 : (⟨S4x1, .i32⟩ : BufTy).Contents (Elt F) → (⟨S4x1x1, .i32⟩ : BufTy).Contents (Elt F)),
    StableHlo.binary main_v74 main_v80 main_v81 ((fun x i => Host.gather gather_S131072x256_S4x1x1_S4x1x256_2_0_n_n_0_2_1256 x i) : (⟨S131072x256, .f32⟩ : BufTy).Contents (Elt F) → (⟨S4x1x1, .i32⟩ : BufTy).Contents (Elt F) → (⟨S4x1x256, .f32⟩ : BufTy).Contents (Elt F)) ]

/-- The lines that project the chosen rows and choose what to return. -/
abbrev projOps : List (HloOp τ sig (Elt F)) :=
  [ StableHlo.binary main_v81 main_arg12 main_v82 ((fun l r => Host.dotGeneral dot_S4x1x256_S256x512_S4x1x512_2_0_01_1_n_n none l r) : (⟨S4x1x256, .f32⟩ : BufTy).Contents (Elt F) → (⟨S256x512, .f32⟩ : BufTy).Contents (Elt F) → (⟨S4x1x512, .f32⟩ : BufTy).Contents (Elt F)),
    StableHlo.unary main_arg13 main_v83 (broadcastInDim S1x1x512 ![2] bcast_S512_S1x1x512_2 : (⟨S512, .f32⟩ : BufTy).Contents (Elt F) → (⟨S1x1x512, .f32⟩ : BufTy).Contents (Elt F)),
    StableHlo.unary main_v83 main_v84 (broadcastInDim S4x1x512 ![0, 1, 2] bcast_S1x1x512_S4x1x512_0_1_2 : (⟨S1x1x512, .f32⟩ : BufTy).Contents (Elt F) → (⟨S4x1x512, .f32⟩ : BufTy).Contents (Elt F)),
    StableHlo.binary main_v82 main_v84 main_v85 (addf : (⟨S4x1x512, .f32⟩ : BufTy).Contents (Elt F) → (⟨S4x1x512, .f32⟩ : BufTy).Contents (Elt F) → (⟨S4x1x512, .f32⟩ : BufTy).Contents (Elt F)),
    StableHlo.nullary main_c_15 (constantI S_ 32 0#32),
    StableHlo.unary main_c_15 main_v86 (broadcastInDim S4x1 ![] bcast_S_S4x1 : (⟨S_, .i32⟩ : BufTy).Contents (Elt F) → (⟨S4x1, .i32⟩ : BufTy).Contents (Elt F)),
    StableHlo.binary main_arg0 main_v86 main_v87 (cmpi .eq : (⟨S4x1, .i32⟩ : BufTy).Contents (Elt F) → (⟨S4x1, .i32⟩ : BufTy).Contents (Elt F) → (⟨S4x1, .i1⟩ : BufTy).Contents (Elt F)),
    StableHlo.unary main_v87 main_v88 (broadcastInDim S4x1x1 ![0, 1] bcast_S4x1_S4x1x1_0_1 : (⟨S4x1, .i1⟩ : BufTy).Contents (Elt F) → (⟨S4x1x1, .i1⟩ : BufTy).Contents (Elt F)),
    StableHlo.binary main_arg1 main_v85 main_v89 (addf : (⟨S4x1x512, .f32⟩ : BufTy).Contents (Elt F) → (⟨S4x1x512, .f32⟩ : BufTy).Contents (Elt F) → (⟨S4x1x512, .f32⟩ : BufTy).Contents (Elt F)),
    StableHlo.TRef.unary (.of main_v88 : StableHlo.TRef sig ⟨S4x1x1, .i1⟩) (.of main_call5_v0 : StableHlo.TRef sig ⟨S4x1x512, .i1⟩) (broadcastInDim S4x1x512 ![0, 1, 2] bcast_S4x1x1_S4x1x512_0_1_2),
    StableHlo.TRef.ternary (.of main_call5_v0 : StableHlo.TRef sig ⟨S4x1x512, .i1⟩) (.of main_v89 : StableHlo.TRef sig ⟨S4x1x512, .f32⟩) (.of main_arg1 : StableHlo.TRef sig ⟨S4x1x512, .f32⟩) (.of main_v90 : StableHlo.TRef sig ⟨S4x1x512, .f32⟩) select ]

theorem logitOps_sub : (logitOps : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.reshape_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.reshape_bufs_sub .., StableHlo.reshape_bufs_sub .., StableHlo.binary_bufs_sub .., StableHlo.unary_bufs_sub .., StableHlo.unary_bufs_sub .., StableHlo.reshape_bufs_sub ..⟩

theorem logitOps_fresh : (logitOps : List (HloOp τ sig (Elt F))).Forall fun op => op.fresh = ∅ := by
  simp only [List.Forall]; repeat' constructor

theorem policyOps_sub : (policyOps : List (HloOp τ sig (Elt F))).Forall fun op => op.bufs ⊆ StableHlo.tcRefs τ sig :=
  ⟨StableHlo.reshape_bufs_sub .., StableHlo.unary_bufs_sub .., StableHlo.nullary_bufs_sub .., StableHlo.binary_bufs_sub .., StableHlo.nullary_bufs_sub .., StableHlo.binary_bufs_sub .., StableHlo.nullary_bufs_sub .., StableHlo.unary_bufs_sub .., StableHlo.ternary_bufs_sub .., StableHlo.reshape_bufs_sub .., StableHlo.nullary_bufs_sub .., StableHlo.binary_bufs_sub .., StableHlo.unary_bufs_sub .., StableHlo.unary_bufs_sub .., StableHlo.ternary_bufs_sub .., StableHlo.nullary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.binary_bufs_sub .., StableHlo.unary_bufs_sub .., StableHlo.unary_bufs_sub .., StableHlo.binary_bufs_sub .., StableHlo.reshape_bufs_sub ..⟩

theorem policyOps_fresh : (policyOps : List (HloOp τ sig (Elt F))).Forall fun op => op.fresh = ∅ := by
  simp only [List.Forall]; repeat' constructor

theorem keyOps_sub : (keyOps : List (HloOp τ sig (Elt F))).Forall fun op => op.bufs ⊆ StableHlo.tcRefs τ sig :=
  ⟨StableHlo.nullary_bufs_sub .., StableHlo.nullary_bufs_sub .., StableHlo.binary_bufs_sub .., StableHlo.unary_bufs_sub .., StableHlo.unary_bufs_sub .., StableHlo.nullary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub ..⟩

theorem keyOps_fresh : (keyOps : List (HloOp τ sig (Elt F))).Forall fun op => op.fresh = ∅ := by
  simp only [List.Forall]; repeat' constructor

theorem noiseOps_sub : (noiseOps : List (HloOp τ sig (Elt F))).Forall fun op => op.bufs ⊆ StableHlo.tcRefs τ sig :=
  ⟨StableHlo.nullary_bufs_sub .., StableHlo.nullary_bufs_sub .., StableHlo.unary_bufs_sub .., StableHlo.unary_bufs_sub .., StableHlo.unary_bufs_sub .., StableHlo.unary_bufs_sub .., StableHlo.reshape_bufs_sub .., StableHlo.unary_bufs_sub .., StableHlo.reshape_bufs_sub .., StableHlo.nullary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub ..⟩

theorem noiseOps_fresh : (noiseOps : List (HloOp τ sig (Elt F))).Forall fun op => op.fresh = ∅ := by
  simp only [List.Forall]; repeat' constructor

theorem pickOps_sub : (pickOps : List (HloOp τ sig (Elt F))).Forall fun op => op.bufs ⊆ StableHlo.tcRefs τ sig :=
  ⟨StableHlo.binary_bufs_sub .., StableHlo.nullary_bufs_sub .., StableHlo.nullary_bufs_sub .., StableHlo.nullary_bufs_sub .., StableHlo.quaternary_bufs_sub .., StableHlo.quaternary_bufs_sub .., StableHlo.unary_bufs_sub .., StableHlo.reshape_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩

theorem pickOps_fresh : (pickOps : List (HloOp τ sig (Elt F))).Forall fun op => op.fresh = ∅ := by
  simp only [List.Forall]; repeat' constructor

theorem projOps_sub : (projOps : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.ternary_bufs_sub ..⟩

theorem projOps_fresh : (projOps : List (HloOp τ sig (Elt F))).Forall fun op => op.fresh = ∅ := by
  simp only [List.Forall]; repeat' constructor

/-- The program is its stages. -/
theorem main_chain (d : Dev nD) : main (F := F) d = (Pipeline.chain
    [StableHlo.seq logitOps, StableHlo.seq policyOps, StableHlo.seq keyOps, StableHlo.seq noiseOps, StableHlo.seq pickOps, StableHlo.seq projOps]
    : Prog (TpuEff nD τ sig (Elt F) (Pipeline.Sig Λ₀ (Fin 0) fun p => (pcfgs (F := F) p).Adm) .tc) PUnit) := by
  rewrite [StableHlo.chain_seq_cons, StableHlo.chain_seq_cons, StableHlo.chain_seq_cons, StableHlo.chain_seq_cons, StableHlo.chain_seq_cons, StableHlo.chain_seq_cons]
  chain_rfl

/-- All lines of the reference. -/
abbrev allOps : List (HloOp τ sig (Elt F)) := ([logitOps, policyOps, keyOps, noiseOps, pickOps, projOps] : List (List (HloOp τ sig (Elt F)))).flatten

theorem main_seq (d : Dev nD) : main (F := F) d = StableHlo.seq allOps := by
  rw [main_chain]
  have h := StableHlo.chain_map_seq_append (nD := nD) (τ := τ) (sig := sig) (Val := Elt F) (Λ := (Pipeline.Sig Λ₀ (Fin 0) fun p => (pcfgs (F := F) p).Adm))
    [logitOps, policyOps, keyOps, noiseOps, pickOps, projOps] []
  refine Eq.trans h ?_
  exact bind_pure (StableHlo.seq _)

theorem allOps_forall {P : HloOp τ sig (Elt F) → Prop} (h1 : logitOps.Forall P) (h2 : policyOps.Forall P) (h3 : keyOps.Forall P)
    (h4 : noiseOps.Forall P) (h5 : pickOps.Forall P) (h6 : projOps.Forall P) : ∀ op ∈ (allOps : List (HloOp τ sig (Elt F))), P op := by
  intro op hop
  obtain ⟨l, hl, hop⟩ := List.mem_flatten.mp hop
  simp only [List.mem_cons, List.mem_nil_iff, or_false] at hl
  rcases hl with rfl | rfl | rfl | rfl | rfl | rfl
  · exact List.forall_iff_forall_mem.mp h1 op hop
  · exact List.forall_iff_forall_mem.mp h2 op hop
  · exact List.forall_iff_forall_mem.mp h3 op hop
  · exact List.forall_iff_forall_mem.mp h4 op hop
  · exact List.forall_iff_forall_mem.mp h5 op hop
  · exact List.forall_iff_forall_mem.mp h6 op hop

end Cert.ReferenceIdeal.Hand

end
-- ==== Proof.RefRun.lean ====
module

public import proofs.«01_k».proof.Proof.RefOps

@[expose] public section

noncomputable section

namespace Cert.ReferenceIdeal.Hand

open Cert.ReferenceIdeal Cert.ReferenceIdeal.Gen
open Idealize.ShloMosaic Idealize.ShloMosaic.TcCoe Idealize.ShloMosaic.Tactic
open Idealize.SL.Sem

variable {F : FTy → Type} [FloatOps F] [∀ e, Nonempty (Elt F e)]
variable (m : (ℓ : Loc nD τ sig) → Buf (Elt F) ℓ) (ρ : Dev nD → PrngReg)

/-! The run of the reference. -/

/-- The reference ends with every buffer as its lines leave it, and every counter at zero. -/
theorem run_all : θ_run defs (onTc (τ := τ) (main (F := F))) ⟨m, fun _ => 0, ρ⟩ (fun r =>
    (∀ (d : Dev nD) (b : Ref sig .tc), r.2.mem ((d.tc : Thread nD τ).loc b) = StableHlo.after allOps (StableHlo.launchContents m d) (Proc.devRef .tc b))
      ∧ r.2.sem = fun _ => 0) := by
  refine θ_run_mono (StableHlo.run_seq (by decide) (by decide) defs main (fun _ => allOps) main_seq
    (fun _ => List.forall_iff_forall_mem.mpr (allOps_forall logitOps_sub policyOps_sub keyOps_sub noiseOps_sub pickOps_sub projOps_sub)) m ρ
    (fun _ => allOps_forall logitOps_fresh policyOps_fresh keyOps_fresh noiseOps_fresh pickOps_fresh projOps_fresh)) ?_
  exact fun r h => ⟨h, sem_eq_zero_of_no_sems (by decide) _⟩

/-- The buffers that hold the arguments. -/
abbrev argRefs : List (Ref sig .tc) := [main_arg0, main_arg1, main_arg2, main_arg3, main_arg4, main_arg5, main_arg6, main_arg7, main_arg8, main_arg9, main_arg10, main_arg11, main_arg12, main_arg13]

/-- No line writes an argument. -/
theorem kept (W : Valuation τ sig (Elt F)) (b : Ref sig .tc) (hb : b ∈ argRefs) : StableHlo.after allOps W (Proc.devRef .tc b) = W (Proc.devRef .tc b) := by
  refine StableHlo.after_of_forall_not_mem _ _ (allOps_forall ?_ ?_ ?_ ?_ ?_ ?_)
  all_goals
    simp only [List.Forall, StableHlo.nullary_writes, StableHlo.unary_writes, StableHlo.binary_writes, StableHlo.ternary_writes, StableHlo.quaternary_writes, StableHlo.reshape_writes, Finset.mem_singleton]
    repeat' apply And.intro
    all_goals exact StableHlo.devRef_ne_of_ne (fun e => absurd (e ▸ hb) (by decide))

end Cert.ReferenceIdeal.Hand

end
-- ==== Proof.Noise.lean ====
module

public import Idealize.ShloMosaic.PureOps.Ideal
public import Idealize.ShloMosaic.PureOps.Reduce
public import Idealize.ShloMosaic.Lib.StableHlo.Run

@[expose] public section

noncomputable section

namespace Cert.Noise

open Idealize.ShloMosaic

/-! The noise both programs draw: a counter-based generator (twenty rounds of additions, rotations and exclusive ors, with the
key fed in every four rounds), read as a number in [0, 1), and taken through `-log(-log ·)`. Stated over any array shape; an
entry depends on the key and on the entry's own counter words alone (`gumbel_at`). -/

/-- The shape of a scalar, of a two-word key, and of a one-entry matrix. -/
abbrev Z : Shape := ⟨0, ![]⟩
abbrev One : Shape := ⟨1, ![1]⟩
abbrev Two : Shape := ⟨1, ![2]⟩
abbrev OneOne : Shape := ⟨2, ![1, 1]⟩

variable {F : FTy → Type} [FloatOps F]
variable {S : Shape} (hb : Z.BroadcastsInDim S ![]) {d : Fin 2 → Fin S.rank} (hc : OneOne.BroadcastsInDim S d)

/-- A word in every entry. -/
def all (x : IVec Z 32) : IVec S 32 := broadcastInDim S ![] hb x
/-- A literal word in every entry. -/
def lit (w : BitVec 32) : IVec S 32 := all hb (constantI Z 32 w)

/-- One round: the sum of the two halves, and the second half rotated by `r` bits (`s = 32 - r`) against the sum. -/
def turn (r s : BitVec 32) (p : IVec S 32 × IVec S 32) : IVec S 32 × IVec S 32 :=
  (addi p.1 p.2, xori (addi p.1 p.2) (ori (Host.shli p.2 (lit hb r)) (Host.shrui p.2 (lit hb s))))

/-- Four rounds of the first kind. -/
def foursA (p : IVec S 32 × IVec S 32) : IVec S 32 × IVec S 32 :=
  turn hb 6 26 (turn hb 26 6 (turn hb 15 17 (turn hb 13 19 p)))
/-- Four rounds of the second kind. -/
def foursB (p : IVec S 32 × IVec S 32) : IVec S 32 × IVec S 32 :=
  turn hb 24 8 (turn hb 16 16 (turn hb 29 3 (turn hb 17 15 p)))

/-- Two key words and a count are fed in. -/
def feed (x y : IVec Z 32) (c : BitVec 32) (p : IVec S 32 × IVec S 32) : IVec S 32 × IVec S 32 :=
  (addi p.1 (all hb x), addi (addi p.2 (all hb y)) (lit hb c))

/-- The twenty rounds, from the key words `k0`, `k1` and the counter words. -/
def rounds (k0 k1 : IVec Z 32) (hi lo : IVec S 32) : IVec S 32 × IVec S 32 :=
  let k2 : IVec Z 32 := xori (xori k0 k1) (constantI Z 32 466688986#32)
  let p0 : IVec S 32 × IVec S 32 := (addi hi (all hb k0), addi lo (all hb k1))
  let p1 := feed hb k1 k2 1 (foursA hb p0)
  let p2 := feed hb k2 k0 2 (foursB hb p1)
  let p3 := feed hb k0 k1 3 (foursA hb p2)
  let p4 := feed hb k1 k2 4 (foursB hb p3)
  feed hb k2 k0 5 (foursA hb p4)

/-- The one-entry matrix of a literal. -/
def unit1 (hz : Z.BroadcastsInDim OneOne ![]) (w : BitVec 32) : Vec F OneOne .f32 := broadcastInDim OneOne ![] hz (constant Z .f32 w)

/-- The generator's words as numbers in [0, 1), no less than the least normal number. -/
def uniform (hz : Z.BroadcastsInDim OneOne ![]) (p : IVec S 32 × IVec S 32) : Vec F S .f32 :=
  maximumf (broadcastInDim S d hc (unit1 hz 0x00800000#32))
    (addf (mulf (subf (bitcastToFloat .f32 (ori (Host.shrui (xori p.1 p.2) (lit hb 9)) (lit hb 1065353216)))
        (broadcastInDim S ![] hb (constant Z .f32 0x3F800000#32)))
      (broadcastInDim S d hc (subf (unit1 hz 0x3F800000#32) (unit1 hz 0x00800000#32))))
      (broadcastInDim S d hc (unit1 hz 0x00800000#32)))

/-- The noise. -/
def gumbel (hz : Z.BroadcastsInDim OneOne ![]) (k0 k1 : IVec Z 32) (hi lo : IVec S 32) : Vec F S .f32 :=
  Host.negf (Host.log (Host.negf (Host.log (uniform (F := F) hb hc hz (rounds hb k0 k1 hi lo)))))

/-- The counter of an entry: its row-major place as a 64-bit word, from the length `n` of a row. -/
def count {A B : Nat} (n : BitVec 64) (hb : Z.BroadcastsInDim ⟨2, ![A, B]⟩ ![]) : IVec ⟨2, ![A, B]⟩ 64 :=
  addi (muli (broadcastInDim ⟨2, ![A, B]⟩ ![] hb (constantI Z 64 n)) (iotaInDim ⟨2, ![A, B]⟩ 64 0))
    (muli (broadcastInDim ⟨2, ![A, B]⟩ ![] hb (constantI Z 64 1#64)) (iotaInDim ⟨2, ![A, B]⟩ 64 1))

/-- The counter's high word. -/
def high (hb : Z.BroadcastsInDim S ![]) (x : IVec S 64) (h : 32 < 64) : IVec S 32 :=
  trunci 32 (Host.shrui x (broadcastInDim S ![] hb (constantI Z 64 32#64))) h

/-! ## An entry depends on its own counter words alone -/

/-- A pair of arrays agrees at one entry with another pair at another entry. -/
def Agree {S S' : Shape} (i : S.Idx) (i' : S'.Idx) (p : IVec S 32 × IVec S 32) (p' : IVec S' 32 × IVec S' 32) : Prop :=
  p.1 i = p'.1 i' ∧ p.2 i = p'.2 i'

section
variable {S' : Shape} (hb' : Z.BroadcastsInDim S' ![]) {d' : Fin 2 → Fin S'.rank} (hc' : OneOne.BroadcastsInDim S' d')
variable {i : S.Idx} {i' : S'.Idx} {p : IVec S 32 × IVec S 32} {p' : IVec S' 32 × IVec S' 32}

theorem all_at (x : IVec Z 32) : all hb x i = all hb' x i' := congrArg x (funext fun a => a.elim0)

theorem turn_at (r s : BitVec 32) (h : Agree i i' p p') : Agree i i' (turn hb r s p) (turn hb' r s p') := by
  have e1 : lit hb r i = lit hb' r i' := all_at hb hb' _
  have e2 : lit hb s i = lit hb' s i' := all_at hb hb' _
  have e : (addi p.1 p.2) i = (addi p'.1 p'.2) i' := congrArg₂ (· + ·) h.1 h.2
  refine ⟨e, congrArg₂ IntOp.xori e (congrArg₂ IntOp.ori ?_ ?_)⟩
  · show IntOp.shli .host (p.2 i) (lit hb r i) = IntOp.shli .host (p'.2 i') (lit hb' r i')
    rw [h.2, e1]
  · show IntOp.shrui .host (p.2 i) (lit hb s i) = IntOp.shrui .host (p'.2 i') (lit hb' s i')
    rw [h.2, e2]

theorem foursA_at (h : Agree i i' p p') : Agree i i' (foursA hb p) (foursA hb' p') :=
  turn_at hb hb' _ _ (turn_at hb hb' _ _ (turn_at hb hb' _ _ (turn_at hb hb' _ _ h)))

theorem foursB_at (h : Agree i i' p p') : Agree i i' (foursB hb p) (foursB hb' p') :=
  turn_at hb hb' _ _ (turn_at hb hb' _ _ (turn_at hb hb' _ _ (turn_at hb hb' _ _ h)))

theorem feed_at (x y : IVec Z 32) (c : BitVec 32) (h : Agree i i' p p') : Agree i i' (feed hb x y c p) (feed hb' x y c p') :=
  ⟨congrArg₂ (· + ·) h.1 (all_at hb hb' x), congrArg₂ (· + ·) (congrArg₂ (· + ·) h.2 (all_at hb hb' y)) (all_at hb hb' _)⟩

theorem rounds_at (k0 k1 : IVec Z 32) {hi lo : IVec S 32} {hi' lo' : IVec S' 32} (h1 : hi i = hi' i') (h2 : lo i = lo' i') :
    Agree i i' (rounds hb k0 k1 hi lo) (rounds hb' k0 k1 hi' lo') :=
  feed_at hb hb' _ _ _ (foursA_at hb hb' (feed_at hb hb' _ _ _ (foursB_at hb hb' (feed_at hb hb' _ _ _ (foursA_at hb hb'
    (feed_at hb hb' _ _ _ (foursB_at hb hb' (feed_at hb hb' _ _ _ (foursA_at hb hb'
      ⟨congrArg₂ (· + ·) h1 (all_at hb hb' k0), congrArg₂ (· + ·) h2 (all_at hb hb' k1)⟩)))))))))

theorem one_at (x : Vec F OneOne .f32) : broadcastInDim S d hc x i = broadcastInDim S' d' hc' x i' := by
  refine congrArg x (funext fun a => ?_)
  match a with
  | ⟨0, _⟩ => exact Subsingleton.elim (α := Fin 1) _ _
  | ⟨1, _⟩ => exact Subsingleton.elim (α := Fin 1) _ _

theorem uniform_at (hz : Z.BroadcastsInDim OneOne ![]) (h : Agree i i' p p') :
    uniform (F := F) hb hc hz p i = uniform (F := F) hb' hc' hz p' i' := by
  have e1 := one_at (F := F) hc hc' (i := i) (i' := i') (unit1 hz 0x00800000#32)
  have e2 := one_at (F := F) hc hc' (i := i) (i' := i') (subf (unit1 hz 0x3F800000#32) (unit1 hz 0x00800000#32))
  have e3 : lit hb 9 i = lit hb' 9 i' := all_at hb hb' _
  have e4 : lit hb 1065353216 i = lit hb' 1065353216 i' := all_at hb hb' _
  have e5 : (bitcastToFloat (F := F) .f32 (ori (Host.shrui (xori p.1 p.2) (lit hb 9)) (lit hb 1065353216))) i
      = (bitcastToFloat (F := F) .f32 (ori (Host.shrui (xori p'.1 p'.2) (lit hb' 9)) (lit hb' 1065353216))) i' := by
    show FloatOps.ofBits .f32 (IntOp.ori (IntOp.shrui .host (IntOp.xori (p.1 i) (p.2 i)) (lit hb 9 i)) (lit hb 1065353216 i)) = _
    rw [h.1, h.2, e3, e4]
    rfl
  unfold uniform
  exact congrArg₂ FloatOps.maximumf e1 (congrArg₂ FloatOps.addf (congrArg₂ FloatOps.mulf (congrArg₂ FloatOps.subf e5 rfl) e2) e1)

/-- An entry of the noise depends on the key and on the entry's counter words alone. -/
theorem gumbel_at (hz : Z.BroadcastsInDim OneOne ![]) (k0 k1 : IVec Z 32) {hi lo : IVec S 32} {hi' lo' : IVec S' 32} (h1 : hi i = hi' i') (h2 : lo i = lo' i') :
    gumbel (F := F) hb hc hz k0 k1 hi lo i = gumbel (F := F) hb' hc' hz k0 k1 hi' lo' i' := by
  have e := uniform_at (F := F) hb hc hb' hc' hz (rounds_at hb hb' k0 k1 h1 h2)
  unfold gumbel
  have lg (x : Vec F S .f32) (x' : Vec F S' .f32) (h : x i = x' i') : Host.log x i = Host.log x' i' := congrArg (FloatOps.hostUnary (F := F) (φ := .f32) .log) h
  have ng (x : Vec F S .f32) (x' : Vec F S' .f32) (h : x i = x' i') : Host.negf x i = Host.negf x' i' := congrArg (FloatOps.hostNegf (F := F) (φ := .f32)) h
  exact ng _ _ (lg _ _ (ng _ _ (lg _ _ e)))
end

end Cert.Noise

end
-- ==== Proof.NoiseKernel.lean ====
module

public import proofs.«01_k».proof.Proof.Noise
public import proofs.«01_k».proof.Proof.Launch
public import Idealize.ShloMosaic.Lib.StableHlo.RunRead

@[expose] public section

noncomputable section

namespace Cert.KernelIdeal.Hand

open Cert.KernelIdeal Cert.KernelIdeal.Gen
open Idealize.ShloMosaic Idealize.ShloMosaic.TcCoe
variable {F : FTy → Type} [FloatOps F] [∀ e, Nonempty (Elt F e)]

/-! The noise the kernel draws, read off its lines four rounds at a time. -/

/-- The lines `a`, …, `a + b - 1` of those that draw the noise. -/
abbrev cut (a b : ℕ) : List (HloOp τ sig (Elt F)) := (hostOps0_1.drop a).take b

theorem after_two (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => exact ih _

theorem after_cut (a b : ℕ) (W : Valuation τ sig (Elt F)) :
    StableHlo.after (hostOps0_1.drop a) W = StableHlo.after (hostOps0_1.drop (a + b)) (StableHlo.after (cut a b) W) := by
  have h := List.take_append_drop b (hostOps0_1.drop a : List (HloOp τ sig (Elt F)))
  rw [List.drop_drop] at h
  rw [← after_two, h]

/-- The key's two words. -/
abbrev keyWord0 (K : IVec S2 32) : IVec S_ 32 := shapeCast S_ (extractStridedSlice S1 ![0] K slices_S2_S1_0) shapeCasts_S1_S_
abbrev keyWord1 (K : IVec S2 32) : IVec S_ 32 := shapeCast S_ (extractStridedSlice S1 ![1] K slices_S2_S1_1) shapeCasts_S1_S_

/-- The buffers of the key's words and of the two literals, which no line after the first thirty writes. -/
abbrev keyRefs : List (Ref sig .tc) := [main_call0_call0_v4, main_call0_call0_v6, main_call0_call0_call0_v1, main_call0_call0_v1, main_call0_call0_v2]

theorem cut_kept (W : Valuation τ sig (Elt F)) (a b : ℕ) (ha : 30 ≤ a) (r : Ref sig .tc) (hr : r ∈ keyRefs) :
    StableHlo.after (cut a b) W (Proc.devRef .tc r) = W (Proc.devRef .tc r) := by
  refine StableHlo.after_of_forall_not_mem _ _ fun op hop => ?_
  have h : op ∈ (hostOps0_1 : List (HloOp τ sig (Elt F))).drop 30 := by
    have h1 := List.mem_of_mem_take hop
    obtain ⟨k, rfl⟩ := Nat.exists_eq_add_of_le ha
    rw [← List.drop_drop] at h1
    exact List.mem_of_mem_drop h1
  revert op
  suffices (List.drop 30 (hostOps0_1 : List (HloOp τ sig (Elt F)))).Forall fun op => Proc.devRef .tc r ∉ op.writes from
    fun op _ h => List.forall_iff_forall_mem.mp this op h
  simp only [hostOps0_1, List.drop_succ_cons, List.drop_zero, List.Forall, StableHlo.nullary_writes, StableHlo.unary_writes, StableHlo.binary_writes, StableHlo.ternary_writes, StableHlo.reshape_writes, Finset.mem_singleton]
  repeat' apply And.intro
  all_goals exact StableHlo.devRef_ne_of_ne (fun e => absurd (e ▸ hr) (by decide))

/-- The counter's two words. -/
abbrev counters : IVec S8x16384 32 × IVec S8x16384 32 :=
  (Cert.Noise.high bcast_S_S8x16384 (Cert.Noise.count 16384#64 bcast_S_S8x16384) natLt_32_64, trunci 32 (Cert.Noise.count 16384#64 bcast_S_S8x16384) natLt_32_64)

section
variable (W : Valuation τ sig (Elt F))

/-! What the thirty lines before the first round leave. -/

theorem head_k0 : StableHlo.after (cut 0 30) W (Proc.devRef .tc main_call0_call0_v4) = keyWord0 (W (Proc.devRef .tc main_v9)) := by
  dsimp only [cut, hostOps0_1, List.drop, List.take]
  after_results
  rfl

theorem head_k1 : StableHlo.after (cut 0 30) W (Proc.devRef .tc main_call0_call0_v6) = keyWord1 (W (Proc.devRef .tc main_v9)) := by
  dsimp only [cut, hostOps0_1, List.drop, List.take]
  after_results
  rfl

theorem head_k2 : StableHlo.after (cut 0 30) W (Proc.devRef .tc main_call0_call0_call0_v1)
    = (xori (xori (keyWord0 (W (Proc.devRef .tc main_v9))) (keyWord1 (W (Proc.devRef .tc main_v9)))) (constantI S_ 32 466688986#32) : IVec S_ 32) := by
  dsimp only [cut, hostOps0_1, List.drop, List.take]
  after_results
  rfl

theorem head_tiny : StableHlo.after (cut 0 30) W (Proc.devRef .tc main_call0_call0_v1) = (Cert.Noise.unit1 (F := F) bcast_S_S1x1 0x00800000#32 : Vec F S1x1 .f32) := by
  dsimp only [cut, hostOps0_1, List.drop, List.take]
  after_results
  rfl

theorem head_one : StableHlo.after (cut 0 30) W (Proc.devRef .tc main_call0_call0_v2) = (Cert.Noise.unit1 (F := F) bcast_S_S1x1 0x3F800000#32 : Vec F S1x1 .f32) := by
  dsimp only [cut, hostOps0_1, List.drop, List.take]
  after_results
  rfl

theorem head_hi : StableHlo.after (cut 0 30) W (Proc.devRef .tc main_call0_call0_call0_v3) = (addi counters.1 (Cert.Noise.all bcast_S_S8x16384 (keyWord0 (W (Proc.devRef .tc main_v9)))) : IVec S8x16384 32) := by
  dsimp only [cut, hostOps0_1, List.drop, List.take]
  after_results
  rfl

theorem head_lo : StableHlo.after (cut 0 30) W (Proc.devRef .tc main_call0_call0_call0_v5) = (addi counters.2 (Cert.Noise.all bcast_S_S8x16384 (keyWord1 (W (Proc.devRef .tc main_v9)))) : IVec S8x16384 32) := by
  dsimp only [cut, hostOps0_1, List.drop, List.take]
  after_results
  rfl

/-! Four rounds and what is fed in after them. -/

theorem group1_fst : StableHlo.after (cut 30 43) W (Proc.devRef .tc main_call0_call0_call0_v35)
    = ((Cert.Noise.feed bcast_S_S8x16384 (W (Proc.devRef .tc main_call0_call0_v6)) (W (Proc.devRef .tc main_call0_call0_call0_v1)) 1 (Cert.Noise.foursA bcast_S_S8x16384 (W (Proc.devRef .tc main_call0_call0_call0_v3), W (Proc.devRef .tc main_call0_call0_call0_v5)))).1 : IVec S8x16384 32) := by
  dsimp only [cut, hostOps0_1, List.drop, List.take]
  after_reads_simp
  dsimp only [Cert.Noise.feed, Cert.Noise.foursA, Cert.Noise.turn]
  rfl

theorem group1_snd : StableHlo.after (cut 30 43) W (Proc.devRef .tc main_call0_call0_call0_v39)
    = ((Cert.Noise.feed bcast_S_S8x16384 (W (Proc.devRef .tc main_call0_call0_v6)) (W (Proc.devRef .tc main_call0_call0_call0_v1)) 1 (Cert.Noise.foursA bcast_S_S8x16384 (W (Proc.devRef .tc main_call0_call0_call0_v3), W (Proc.devRef .tc main_call0_call0_call0_v5)))).2 : IVec S8x16384 32) := by
  dsimp only [cut, hostOps0_1, List.drop, List.take]
  after_reads_simp
  dsimp only [Cert.Noise.feed, Cert.Noise.foursA, Cert.Noise.turn]
  rfl

theorem group2_fst : StableHlo.after (cut 73 43) W (Proc.devRef .tc main_call0_call0_call0_v69)
    = ((Cert.Noise.feed bcast_S_S8x16384 (W (Proc.devRef .tc main_call0_call0_call0_v1)) (W (Proc.devRef .tc main_call0_call0_v4)) 2 (Cert.Noise.foursB bcast_S_S8x16384 (W (Proc.devRef .tc main_call0_call0_call0_v35), W (Proc.devRef .tc main_call0_call0_call0_v39)))).1 : IVec S8x16384 32) := by
  dsimp only [cut, hostOps0_1, List.drop, List.take]
  after_reads_simp
  dsimp only [Cert.Noise.feed, Cert.Noise.foursB, Cert.Noise.turn]
  rfl

theorem group2_snd : StableHlo.after (cut 73 43) W (Proc.devRef .tc main_call0_call0_call0_v73)
    = ((Cert.Noise.feed bcast_S_S8x16384 (W (Proc.devRef .tc main_call0_call0_call0_v1)) (W (Proc.devRef .tc main_call0_call0_v4)) 2 (Cert.Noise.foursB bcast_S_S8x16384 (W (Proc.devRef .tc main_call0_call0_call0_v35), W (Proc.devRef .tc main_call0_call0_call0_v39)))).2 : IVec S8x16384 32) := by
  dsimp only [cut, hostOps0_1, List.drop, List.take]
  after_reads_simp
  dsimp only [Cert.Noise.feed, Cert.Noise.foursB, Cert.Noise.turn]
  rfl

theorem group3_fst : StableHlo.after (cut 116 43) W (Proc.devRef .tc main_call0_call0_call0_v103)
    = ((Cert.Noise.feed bcast_S_S8x16384 (W (Proc.devRef .tc main_call0_call0_v4)) (W (Proc.devRef .tc main_call0_call0_v6)) 3 (Cert.Noise.foursA bcast_S_S8x16384 (W (Proc.devRef .tc main_call0_call0_call0_v69), W (Proc.devRef .tc main_call0_call0_call0_v73)))).1 : IVec S8x16384 32) := by
  dsimp only [cut, hostOps0_1, List.drop, List.take]
  after_reads_simp
  dsimp only [Cert.Noise.feed, Cert.Noise.foursA, Cert.Noise.turn]
  rfl

theorem group3_snd : StableHlo.after (cut 116 43) W (Proc.devRef .tc main_call0_call0_call0_v107)
    = ((Cert.Noise.feed bcast_S_S8x16384 (W (Proc.devRef .tc main_call0_call0_v4)) (W (Proc.devRef .tc main_call0_call0_v6)) 3 (Cert.Noise.foursA bcast_S_S8x16384 (W (Proc.devRef .tc main_call0_call0_call0_v69), W (Proc.devRef .tc main_call0_call0_call0_v73)))).2 : IVec S8x16384 32) := by
  dsimp only [cut, hostOps0_1, List.drop, List.take]
  after_reads_simp
  dsimp only [Cert.Noise.feed, Cert.Noise.foursA, Cert.Noise.turn]
  rfl

theorem group4_fst : StableHlo.after (cut 159 43) W (Proc.devRef .tc main_call0_call0_call0_v137)
    = ((Cert.Noise.feed bcast_S_S8x16384 (W (Proc.devRef .tc main_call0_call0_v6)) (W (Proc.devRef .tc main_call0_call0_call0_v1)) 4 (Cert.Noise.foursB bcast_S_S8x16384 (W (Proc.devRef .tc main_call0_call0_call0_v103), W (Proc.devRef .tc main_call0_call0_call0_v107)))).1 : IVec S8x16384 32) := by
  dsimp only [cut, hostOps0_1, List.drop, List.take]
  after_reads_simp
  dsimp only [Cert.Noise.feed, Cert.Noise.foursB, Cert.Noise.turn]
  rfl

theorem group4_snd : StableHlo.after (cut 159 43) W (Proc.devRef .tc main_call0_call0_call0_v141)
    = ((Cert.Noise.feed bcast_S_S8x16384 (W (Proc.devRef .tc main_call0_call0_v6)) (W (Proc.devRef .tc main_call0_call0_call0_v1)) 4 (Cert.Noise.foursB bcast_S_S8x16384 (W (Proc.devRef .tc main_call0_call0_call0_v103), W (Proc.devRef .tc main_call0_call0_call0_v107)))).2 : IVec S8x16384 32) := by
  dsimp only [cut, hostOps0_1, List.drop, List.take]
  after_reads_simp
  dsimp only [Cert.Noise.feed, Cert.Noise.foursB, Cert.Noise.turn]
  rfl

theorem group5_fst : StableHlo.after (cut 202 43) W (Proc.devRef .tc main_call0_call0_v18_0)
    = ((Cert.Noise.feed bcast_S_S8x16384 (W (Proc.devRef .tc main_call0_call0_call0_v1)) (W (Proc.devRef .tc main_call0_call0_v4)) 5 (Cert.Noise.foursA bcast_S_S8x16384 (W (Proc.devRef .tc main_call0_call0_call0_v137), W (Proc.devRef .tc main_call0_call0_call0_v141)))).1 : IVec S8x16384 32) := by
  dsimp only [cut, hostOps0_1, List.drop, List.take]
  after_reads_simp
  dsimp only [Cert.Noise.feed, Cert.Noise.foursA, Cert.Noise.turn]
  rfl

theorem group5_snd : StableHlo.after (cut 202 43) W (Proc.devRef .tc main_call0_call0_v18_1)
    = ((Cert.Noise.feed bcast_S_S8x16384 (W (Proc.devRef .tc main_call0_call0_call0_v1)) (W (Proc.devRef .tc main_call0_call0_v4)) 5 (Cert.Noise.foursA bcast_S_S8x16384 (W (Proc.devRef .tc main_call0_call0_call0_v137), W (Proc.devRef .tc main_call0_call0_call0_v141)))).2 : IVec S8x16384 32) := by
  dsimp only [cut, hostOps0_1, List.drop, List.take]
  after_reads_simp
  dsimp only [Cert.Noise.feed, Cert.Noise.foursA, Cert.Noise.turn]
  rfl

theorem tail_read (h1 : W (Proc.devRef .tc main_call0_call0_v1) = (Cert.Noise.unit1 (F := F) bcast_S_S1x1 0x00800000#32 : Vec F S1x1 .f32))
    (h2 : W (Proc.devRef .tc main_call0_call0_v2) = (Cert.Noise.unit1 (F := F) bcast_S_S1x1 0x3F800000#32 : Vec F S1x1 .f32)) :
    StableHlo.after (cut 245 22) W (Proc.devRef .tc main_v10)
      = (Host.negf (Host.log (Host.negf (Host.log (Cert.Noise.uniform (F := F) bcast_S_S8x16384 (d := ![0, 1]) bcast_S1x1_S8x16384_0_1 bcast_S_S1x1
          (W (Proc.devRef .tc main_call0_call0_v18_0), W (Proc.devRef .tc main_call0_call0_v18_1)))))) : Vec F S8x16384 .f32) := by
  dsimp only [cut, hostOps0_1, List.drop, List.take]
  after_reads_simp
  unfold Cert.Noise.uniform
  rw [← h1, ← h2]
  rfl

/-- The noise buffer after the lines that draw it. -/
theorem noise_read :
    StableHlo.after hostOps0_1 W (Proc.devRef .tc main_v10)
      = Cert.Noise.gumbel (F := F) (S := S8x16384) bcast_S_S8x16384 (d := ![0, 1]) bcast_S1x1_S8x16384_0_1 bcast_S_S1x1 (keyWord0 (W (Proc.devRef .tc main_v9))) (keyWord1 (W (Proc.devRef .tc main_v9)))
          counters.1 counters.2 := by
  have e0 := after_cut (F := F) 0 30 W
  obtain ⟨W1, hW1⟩ : ∃ W1, W1 = StableHlo.after (cut 0 30) W := ⟨_, rfl⟩
  have e1 := after_cut (F := F) 30 43 W1
  obtain ⟨W2, hW2⟩ : ∃ W2, W2 = StableHlo.after (cut 30 43) W1 := ⟨_, rfl⟩
  have e2 := after_cut (F := F) 73 43 W2
  obtain ⟨W3, hW3⟩ : ∃ W3, W3 = StableHlo.after (cut 73 43) W2 := ⟨_, rfl⟩
  have e3 := after_cut (F := F) 116 43 W3
  obtain ⟨W4, hW4⟩ : ∃ W4, W4 = StableHlo.after (cut 116 43) W3 := ⟨_, rfl⟩
  have e4 := after_cut (F := F) 159 43 W4
  obtain ⟨W5, hW5⟩ : ∃ W5, W5 = StableHlo.after (cut 159 43) W4 := ⟨_, rfl⟩
  have e5 := after_cut (F := F) 202 43 W5
  obtain ⟨W6, hW6⟩ : ∃ W6, W6 = StableHlo.after (cut 202 43) W5 := ⟨_, rfl⟩
  have e6 := after_cut (F := F) 245 22 W6
  rw [← hW1] at e0
  rw [← hW2] at e1
  rw [← hW3] at e2
  rw [← hW4] at e3
  rw [← hW5] at e4
  rw [← hW6] at e5
  have k2 : ∀ r ∈ keyRefs, W2 (Proc.devRef .tc r) = W1 (Proc.devRef .tc r) := fun r hr => by rw [hW2]; exact cut_kept W1 30 43 (by decide) r hr
  have k3 : ∀ r ∈ keyRefs, W3 (Proc.devRef .tc r) = W1 (Proc.devRef .tc r) := fun r hr => by rw [hW3, cut_kept W2 73 43 (by decide) r hr, k2 r hr]
  have k4 : ∀ r ∈ keyRefs, W4 (Proc.devRef .tc r) = W1 (Proc.devRef .tc r) := fun r hr => by rw [hW4, cut_kept W3 116 43 (by decide) r hr, k3 r hr]
  have k5 : ∀ r ∈ keyRefs, W5 (Proc.devRef .tc r) = W1 (Proc.devRef .tc r) := fun r hr => by rw [hW5, cut_kept W4 159 43 (by decide) r hr, k4 r hr]
  have k6 : ∀ r ∈ keyRefs, W6 (Proc.devRef .tc r) = W1 (Proc.devRef .tc r) := fun r hr => by rw [hW6, cut_kept W5 202 43 (by decide) r hr, k5 r hr]
  have m0 : (main_call0_call0_v4 : Ref sig .tc) ∈ keyRefs := .head _
  have m1 : (main_call0_call0_v6 : Ref sig .tc) ∈ keyRefs := .tail _ (.head _)
  have m2 : (main_call0_call0_call0_v1 : Ref sig .tc) ∈ keyRefs := .tail _ (.tail _ (.head _))
  have m3 : (main_call0_call0_v1 : Ref sig .tc) ∈ keyRefs := .tail _ (.tail _ (.tail _ (.head _)))
  have m4 : (main_call0_call0_v2 : Ref sig .tc) ∈ keyRefs := .tail _ (.tail _ (.tail _ (.tail _ (.head _))))
  have g1 := group1_fst W1; have g1' := group1_snd W1
  have g2 := group2_fst W2; have g2' := group2_snd W2
  have g3 := group3_fst W3; have g3' := group3_snd W3
  have g4 := group4_fst W4; have g4' := group4_snd W4
  have g5 := group5_fst W5; have g5' := group5_snd W5
  have t1 : W6 (Proc.devRef .tc main_call0_call0_v1) = _ := (k6 _ m3).trans (hW1 ▸ head_tiny W)
  have t2 : W6 (Proc.devRef .tc main_call0_call0_v2) = _ := (k6 _ m4).trans (hW1 ▸ head_one W)
  have hr := tail_read W6 t1 t2
  rw [← hW2] at g1 g1'
  rw [← hW3, k2 _ m2, k2 _ m0, g1, g1'] at g2 g2'
  rw [← hW4, k3 _ m0, k3 _ m1, g2, g2'] at g3 g3'
  rw [← hW5, k4 _ m1, k4 _ m2, g3, g3'] at g4 g4'
  rw [← hW6, k5 _ m2, k5 _ m0, g4, g4'] at g5 g5'
  rw [g5, g5'] at hr
  have i0 : W1 (Proc.devRef .tc main_call0_call0_v4) = _ := hW1 ▸ head_k0 W
  have i1 : W1 (Proc.devRef .tc main_call0_call0_v6) = _ := hW1 ▸ head_k1 W
  have i2 : W1 (Proc.devRef .tc main_call0_call0_call0_v1) = _ := hW1 ▸ head_k2 W
  have i3 : W1 (Proc.devRef .tc main_call0_call0_call0_v3) = _ := hW1 ▸ head_hi W
  have i4 : W1 (Proc.devRef .tc main_call0_call0_call0_v5) = _ := hW1 ▸ head_lo W
  rw [i0, i1, i2, i3, i4] at hr
  refine (congrFun (e0.trans (e1.trans (e2.trans (e3.trans (e4.trans (e5.trans e6)))))) _).trans (Eq.trans ?_ hr)
  rfl

end

end Cert.KernelIdeal.Hand
end
-- ==== Proof.Final.lean ====
module

public import proofs.«01_k».proof.Proof.Run
public import proofs.«01_k».proof.Proof.NoiseKernel
public import Idealize.ShloMosaic.Lib.Pointwise.Tactic

@[expose] public section

noncomputable section

namespace Cert.KernelIdeal.Hand

open Cert.KernelIdeal Cert.KernelIdeal.Gen
open Idealize.ShloMosaic Idealize.ShloMosaic.TcCoe
open Idealize.ShloMosaic.Pipeline (Dat BodyObligation)

variable {F : FTy → Type} [FloatOps F] [∀ e, Nonempty (Elt F e)]
variable (m : (ℓ : Loc nD τ sig) → Buf (Elt F) ℓ) (ok : InRange F)

/-! What the launch reads and what it leaves, as whole arrays. -/

/-! ## The windows that are their whole arrays -/

/-- A two-axis block at the origin with the array's own extents starts at the origin. -/
theorem at_origin {r : Fin 2 → ℕ} (i : Fin 2 → ℕ) (h0 : i 0 = 0) (h1 : i 1 = 0) : (fun a => i a * r a) = fun _ => 0 :=
  funext fun a => by
    match a with
    | ⟨0, _⟩ => show i 0 * _ = 0; rw [h0, Nat.zero_mul]
    | ⟨1, _⟩ => show i 1 * _ = 0; rw [h1, Nat.zero_mul]

theorem fits {r : Fin 2 → ℕ} (i : Fin 2 → ℕ) (h0 : i 0 = 0) (h1 : i 1 = 0) (a : Fin 2) : i a * r a + r a ≤ r a := by
  rw [congrFun (at_origin i h0 h1) a, Nat.zero_add]

theorem xw1_eq (c : Dev nD) (t : Fin cfg0.N) : xw1 m c t = V m c main_arg4 :=
  Memref.read_access_unit_zero (Elt F) main_arg4 (at_origin (win0_1.index t) rfl rfl) (fits (win0_1.index t) rfl rfl) (V m c main_arg4)
theorem xb1_eq (c : Dev nD) (t : Fin cfg0.N) : xb1 m c t = V m c main_v12 :=
  Memref.read_access_unit_zero (Elt F) main_v12 (at_origin (win0_2.index t) rfl rfl) (fits (win0_2.index t) rfl rfl) (V m c main_v12)
theorem xw2_eq (c : Dev nD) (t : Fin cfg0.N) : xw2 m c t = V m c main_arg6 :=
  Memref.read_access_unit_zero (Elt F) main_arg6 (at_origin (win0_3.index t) rfl rfl) (fits (win0_3.index t) rfl rfl) (V m c main_arg6)
theorem xb2_eq (c : Dev nD) (t : Fin cfg0.N) : xb2 m c t = V m c main_v13 :=
  Memref.read_access_unit_zero (Elt F) main_v13 (at_origin (win0_4.index t) rfl rfl) (fits (win0_4.index t) rfl rfl) (V m c main_v13)
theorem yw1_eq (c : Dev nD) (t : Fin cfg0.N) : yw1 m c t = V m c main_arg8 :=
  Memref.read_access_unit_zero (Elt F) main_arg8 (at_origin (win0_5.index t) rfl rfl) (fits (win0_5.index t) rfl rfl) (V m c main_arg8)
theorem yb1_eq (c : Dev nD) (t : Fin cfg0.N) : yb1 m c t = V m c main_v14 :=
  Memref.read_access_unit_zero (Elt F) main_v14 (at_origin (win0_6.index t) rfl rfl) (fits (win0_6.index t) rfl rfl) (V m c main_v14)
theorem yw2_eq (c : Dev nD) (t : Fin cfg0.N) : yw2 m c t = V m c main_arg10 :=
  Memref.read_access_unit_zero (Elt F) main_arg10 (at_origin (win0_7.index t) rfl rfl) (fits (win0_7.index t) rfl rfl) (V m c main_arg10)
theorem yb2_eq (c : Dev nD) (t : Fin cfg0.N) : yb2 m c t = V m c main_v15 :=
  Memref.read_access_unit_zero (Elt F) main_v15 (at_origin (win0_8.index t) rfl rfl) (fits (win0_8.index t) rfl rfl) (V m c main_v15)
theorem xmask_eq (c : Dev nD) (t : Fin cfg0.N) : xmask m c t = V m c main_v2 :=
  Memref.read_access_unit_zero (Elt F) main_v2 (at_origin (win0_10.index t) rfl rfl) (fits (win0_10.index t) rfl rfl) (V m c main_v2)
theorem xnoise_eq (c : Dev nD) (t : Fin cfg0.N) : xnoise m c t = V m c main_v10 :=
  Memref.read_access_unit_zero (Elt F) main_v10 (at_origin (win0_11.index t) rfl rfl) (fits (win0_11.index t) rfl rfl) (V m c main_v10)
theorem zw_eq (c : Dev nD) (t : Fin cfg0.N) : zw m c t = V m c main_arg12 :=
  Memref.read_access_unit_zero (Elt F) main_arg12 (at_origin (win0_12.index t) rfl rfl) (fits (win0_12.index t) rfl rfl) (V m c main_arg12)
theorem zb_eq (c : Dev nD) (t : Fin cfg0.N) : zb m c t = V m c main_v16 :=
  Memref.read_access_unit_zero (Elt F) main_v16 (at_origin (win0_13.index t) rfl rfl) (fits (win0_13.index t) rfl rfl) (V m c main_v16)

/-! ## The windows that move with the point -/

theorem place_0 (t : Fin cfg0.N) : win0_0.index t 0 = t.val / 2 ∧ win0_0.index t 1 = 0 ∧ win0_0.index t 2 = 0 := by
  rcases fin_N0 t with rfl | rfl | rfl | rfl | rfl | rfl | rfl | rfl <;> decide
theorem place_9 (t : Fin cfg0.N) : win0_9.index t 0 = t.val / 2 ∧ win0_9.index t 1 = t.val % 2 ∧ win0_9.index t 2 = 0 := by
  rcases fin_N0 t with rfl | rfl | rfl | rfl | rfl | rfl | rfl | rfl <;> decide
theorem place_14 (t : Fin cfg0.N) : win0_14.index t 0 = t.val / 2 ∧ win0_14.index t 1 = 0 ∧ win0_14.index t 2 = t.val % 2 := by
  rcases fin_N0 t with rfl | rfl | rfl | rfl | rfl | rfl | rfl | rfl <;> decide

theorem half_lt (t : Fin cfg0.N) : t.val / 2 < 4 := by
  have := lt_of_lt_of_eq t.isLt N_0
  omega
theorem pt_lt (t : Fin cfg0.N) : t.val < 8 := lt_of_lt_of_eq t.isLt N_0

/-- The embedding row of a point. -/
theorem xae_at (c : Dev nD) (t : Fin cfg0.N) (i : Fin 512) :
    xae m c t (ix3 (0 : Fin 1) (0 : Fin 1) i) = V m c main_arg1 (ix3 (⟨t.val / 2, half_lt t⟩ : Fin 4) (0 : Fin 1) i) := by
  show V m c main_arg1 (((cfg0.win 0).blk t).view.emb (ix3 (0 : Fin 1) (0 : Fin 1) i)) = _
  obtain ⟨e0, e1, e2⟩ := place_0 t
  congr 1
  funext a
  apply Fin.ext
  match a with
  | ⟨0, _⟩ => show win0_0.index t 0 * 1 + 1 * 0 = t.val / 2; omega
  | ⟨1, _⟩ => show win0_0.index t 1 * 1 + 1 * 0 = 0; omega
  | ⟨2, _⟩ => show win0_0.index t 2 * 512 + 1 * i.val = i.val; omega

/-- The embeddings of a point's block of moves. -/
theorem xmv_at (c : Dev nD) (t : Fin cfg0.N) (r : Fin 16384) (i : Fin 256) :
    xmv m c t (ix3 (0 : Fin 1) r i) = V m c main_v0 (ix3 (⟨t.val / 2, half_lt t⟩ : Fin 4) (⟨16384 * (t.val % 2) + r.val, by have := r.isLt; omega⟩ : Fin 32768) i) := by
  show V m c main_v0 (((cfg0.win 9).blk t).view.emb (ix3 (0 : Fin 1) r i)) = _
  obtain ⟨e0, e1, e2⟩ := place_9 t
  congr 1
  funext a
  apply Fin.ext
  match a with
  | ⟨0, _⟩ => show win0_9.index t 0 * 1 + 1 * 0 = t.val / 2; omega
  | ⟨1, _⟩ => show win0_9.index t 1 * 16384 + 1 * r.val = 16384 * (t.val % 2) + r.val; omega
  | ⟨2, _⟩ => show win0_9.index t 2 * 256 + 1 * i.val = i.val; omega

/-- Where a point's block of logits lies in the array. -/
theorem emb_14 (t : Fin cfg0.N) (j : S1x1x16384.Idx) :
    ((cfg0.win 14).blk t).view.emb j = (ix3 (⟨t.val / 2, half_lt t⟩ : Fin 4) (0 : Fin 1) (⟨16384 * (t.val % 2) + (j 2).val, by have h : (j 2).val < 16384 := (j 2).isLt; omega⟩ : Fin 32768) : S4x1x32768.Idx) := by
  obtain ⟨e0, e1, e2⟩ := place_14 t
  have h0 : (j 0).val < 1 := (j 0).isLt
  have h1 : (j 1).val < 1 := (j 1).isLt
  funext a
  apply Fin.ext
  match a with
  | ⟨0, _⟩ => show win0_14.index t 0 * 1 + 1 * (j 0).val = t.val / 2; omega
  | ⟨1, _⟩ => show win0_14.index t 1 * 1 + 1 * (j 1).val = 0; omega
  | ⟨2, _⟩ => show win0_14.index t 2 * 16384 + 1 * (j 2).val = 16384 * (t.val % 2) + (j 2).val; omega

/-! ## What the launch leaves -/

/-- All logits as the launch leaves them: every point's block in its place. -/
def allBlocks (c : Dev nD) : Vec F S4x1x32768 .f32 := fun i =>
  outBlock m c (pt (2 * (i 0).val + (i 2).val / 16384)) (ix3 (0 : Fin 1) (0 : Fin 1) (⟨(i 2).val % 16384, Nat.mod_lt _ (by decide)⟩ : Fin 16384))

theorem arr14_eq (c : Dev nD) : arr14 m ok c = allBlocks m c := by
  refine (dats m ok 0 c).arrAt_eq_of_cover 14 (allBlocks m c) (fun t _ => ?_) fun i => ?_
  · show (cfg0.win 14).cut (grid0.coords t) ((dats m ok 0 c).after 14 t) = _
    rw [after_14]
    funext j
    show outBlock m c t j = allBlocks m c (((cfg0.win 14).blk t).view.emb j)
    rw [emb_14]
    have h0 : j 0 = (0 : Fin 1) := Subsingleton.elim (α := Fin 1) _ _
    have h1 : j 1 = (0 : Fin 1) := Subsingleton.elim (α := Fin 1) _ _
    have h2 : (j 2).val < 16384 := (j 2).isLt
    have ht := pt_lt t
    show _ = outBlock m c (pt (2 * (t.val / 2) + (16384 * (t.val % 2) + (j 2).val) / 16384)) (ix3 (0 : Fin 1) (0 : Fin 1) ⟨(16384 * (t.val % 2) + (j 2).val) % 16384, _⟩)
    have e1 : pt (2 * (t.val / 2) + (16384 * (t.val % 2) + (j 2).val) / 16384) = t :=
      Fin.ext (by show (2 * (t.val / 2) + (16384 * (t.val % 2) + (j 2).val) / 16384) % 8 = t.val; omega)
    have e2 : j = (ix3 (0 : Fin 1) (0 : Fin 1) ⟨(16384 * (t.val % 2) + (j 2).val) % 16384, Nat.mod_lt _ (by decide)⟩ : S1x1x16384.Idx) := by
      funext a
      match a with
      | ⟨0, _⟩ => exact h0
      | ⟨1, _⟩ => exact h1
      | ⟨2, _⟩ => exact Fin.ext (by show (j 2).val = (16384 * (t.val % 2) + (j 2).val) % 16384; omega)
    rw [e1, ← e2]
  · have h0 : ((i : S4x1x32768.Idx) 0).val < 4 := ((i : S4x1x32768.Idx) 0).isLt
    have h1 : ((i : S4x1x32768.Idx) 1).val < 1 := ((i : S4x1x32768.Idx) 1).isLt
    have h2 : ((i : S4x1x32768.Idx) 2).val < 32768 := ((i : S4x1x32768.Idx) 2).isLt
    refine ⟨pt (2 * (i 0).val + (i 2).val / 16384), flush0_14 _, ?_⟩
    have h := ((cfg0.win 14).blk (pt (2 * (i 0).val + (i 2).val / 16384))).view.emb_mem_set (ix3 (0 : Fin 1) (0 : Fin 1) (⟨(i 2).val % 16384, Nat.mod_lt _ (by decide)⟩ : Fin 16384) : S1x1x16384.Idx)
    rw [emb_14] at h
    refine (congrArg (· ∈ ((cfg0.win 14).blk (pt (2 * (i 0).val + (i 2).val / 16384))).view.set) ?_).mp h
    funext a
    apply Fin.ext
    match a with
    | ⟨0, _⟩ => show (2 * (i 0).val + (i 2).val / 16384) % 8 / 2 = (i 0).val; omega
    | ⟨1, _⟩ => show 0 = (i 1).val; omega
    | ⟨2, _⟩ => show 16384 * ((2 * (i 0).val + (i 2).val / 16384) % 8 % 2) + (i 2).val % 16384 = (i 2).val; omega

/-- The last point. -/
theorem last_pt (t : Fin cfg0.N) (h : t.val % 8 = 7) : t = pt 7 := Fin.ext (by have := pt_lt t; show t.val = 7; omega)

theorem read_15 (t : Fin cfg0.N) (X : Vec F S8x16384 .f32) : ((cfg0.win 15).blk t).view.read (Elt F) X = X :=
  Memref.read_access_unit_zero (Elt F) main_v17_1 (at_origin (win0_15.index t) rfl rfl) (fits (win0_15.index t) rfl rfl) X

theorem arr15_eq (c : Dev nD) : arr15 m ok c = outPolicy m c (pt 7) := by
  refine (dats m ok 0 c).arrAt_eq_of_cover 15 (outPolicy m c (pt 7)) (fun t ht => ?_) fun i => ⟨pt 7, (flush0_15 _).mpr rfl, ?_⟩
  · obtain rfl := last_pt t ((flush0_15 t).mp ht)
    show (cfg0.win 15).cut (grid0.coords (pt 7)) ((dats m ok 0 c).after 15 (pt 7)) = _
    rw [after_15]
    exact (read_15 _ _).symm
  · have e : ∀ j : S8x16384.Idx, ((cfg0.win 15).blk (pt 7)).view.emb j = j := fun j => by
      funext a
      apply Fin.ext
      match a with
      | ⟨0, _⟩ => show 0 * _ + 1 * (j 0).val = (j 0).val; omega
      | ⟨1, _⟩ => show 0 * _ + 1 * (j 1).val = (j 1).val; omega
    have h := ((cfg0.win 15).blk (pt 7)).view.emb_mem_set (i : S8x16384.Idx)
    rwa [e] at h

theorem read_16 (t : Fin cfg0.N) (X : Vec F S1x4 .i32) : ((cfg0.win 16).blk t).view.read (Elt F) X = X :=
  Memref.read_access_unit_zero (Elt F) main_v17_2 (at_origin (win0_16.index t) rfl rfl) (fits (win0_16.index t) rfl rfl) X

theorem arr16_eq (c : Dev nD) : arr16 m ok c = outIdx m c (pt 7) := by
  refine (dats m ok 0 c).arrAt_eq_of_cover 16 (outIdx m c (pt 7)) (fun t ht => ?_) fun i => ⟨pt 7, (flush0_16 _).mpr rfl, ?_⟩
  · obtain rfl := last_pt t ((flush0_16 t).mp ht)
    show (cfg0.win 16).cut (grid0.coords (pt 7)) ((dats m ok 0 c).after 16 (pt 7)) = _
    rw [after_16]
    exact (read_16 _ _).symm
  · have e : ∀ j : S1x4.Idx, ((cfg0.win 16).blk (pt 7)).view.emb j = j := fun j => by
      funext a
      apply Fin.ext
      match a with
      | ⟨0, _⟩ => show 0 * _ + 1 * (j 0).val = (j 0).val; omega
      | ⟨1, _⟩ => show 0 * _ + 1 * (j 1).val = (j 1).val; omega
    have h := ((cfg0.win 16).blk (pt 7)).view.emb_mem_set (i : S1x4.Idx)
    rwa [e] at h

theorem read_17 (t : Fin cfg0.N) (X : Vec F S4x512 .f32) : ((cfg0.win 17).blk t).view.read (Elt F) X = X :=
  Memref.read_access_unit_zero (Elt F) main_v17_3 (at_origin (win0_17.index t) rfl rfl) (fits (win0_17.index t) rfl rfl) X

theorem arr17_eq (c : Dev nD) : arr17 m ok c = outProj m ok c (pt 7) := by
  refine (dats m ok 0 c).arrAt_eq_of_cover 17 (outProj m ok c (pt 7)) (fun t ht => ?_) fun i => ⟨pt 7, (flush0_17 _).mpr rfl, ?_⟩
  · obtain rfl := last_pt t ((flush0_17 t).mp ht)
    show (cfg0.win 17).cut (grid0.coords (pt 7)) ((dats m ok 0 c).after 17 (pt 7)) = _
    rw [after_17]
    exact (read_17 _ _).symm
  · have e : ∀ j : S4x512.Idx, ((cfg0.win 17).blk (pt 7)).view.emb j = j := fun j => by
      funext a
      apply Fin.ext
      match a with
      | ⟨0, _⟩ => show 0 * _ + 1 * (j 0).val = (j 0).val; omega
      | ⟨1, _⟩ => show 0 * _ + 1 * (j 1).val = (j 1).val; omega
    have h := ((cfg0.win 17).blk (pt 7)).view.emb_mem_set (i : S4x512.Idx)
    rwa [e] at h

end Cert.KernelIdeal.Hand
end
-- ==== Proof.HostValues.lean ====
module

public import proofs.«01_k».proof.Proof.Final

@[expose] public section

noncomputable section

namespace Cert.KernelIdeal.Hand

open Cert.KernelIdeal Cert.KernelIdeal.Gen
open Idealize.ShloMosaic Idealize.ShloMosaic.TcCoe

variable {F : FTy → Type} [FloatOps F] [∀ e, Nonempty (Elt F e)]
variable (m : (ℓ : Loc nD τ sig) → Buf (Elt F) ℓ)

/-! The arrays the host lines before the launch make for it. -/

/-- What the lines that draw the noise leave alone. -/
abbrev stillRefs : List (Ref sig .tc) :=
  [main_v0, main_v2, main_arg2, main_arg5, main_arg7, main_arg9, main_arg11, main_arg13]

theorem noise_kept (W : Valuation τ sig (Elt F)) (r : Ref sig .tc) (hr : r ∈ stillRefs) :
    StableHlo.after hostOps0_1 W (Proc.devRef .tc r) = W (Proc.devRef .tc r) := by
  refine StableHlo.after_of_forall_not_mem _ _ fun op hop => ?_
  revert op
  suffices (hostOps0_1 : List (HloOp τ sig (Elt F))).Forall fun op => Proc.devRef .tc r ∉ op.writes from
    fun op h => List.forall_iff_forall_mem.mp this op h
  simp only [hostOps0_1, List.Forall, StableHlo.nullary_writes, StableHlo.unary_writes, StableHlo.binary_writes, StableHlo.ternary_writes, StableHlo.reshape_writes, Finset.mem_singleton]
  repeat' apply And.intro
  all_goals exact StableHlo.devRef_ne_of_ne (fun e => absurd (e ▸ hr) (by decide))

/-- The three groups of lines one after another. -/
theorem V_eq (c : Dev nD) (b : Ref sig .tc) :
    V m c b = StableHlo.after hostOps0_2 (StableHlo.after hostOps0_1 (StableHlo.after hostOps0 (fun r => m (c, r)))) (Proc.devRef .tc b) := by
  show StableHlo.after [hostOps0, hostOps0_1, hostOps0_2].flatten (fun r => m (c, r)) (Proc.devRef .tc b) = _
  rw [List.flatten_cons, List.flatten_cons, List.flatten_cons, List.flatten_nil, List.append_nil, after_two, after_two]

section
variable (W : Valuation τ sig (Elt F))

theorem first_arg (r : Ref sig .tc) (hr : r ∈ ([main_arg2, main_arg5, main_arg7, main_arg9, main_arg11, main_arg13] : List (Ref sig .tc))) :
    StableHlo.after hostOps0 W (Proc.devRef .tc r) = W (Proc.devRef .tc r) := by
  refine StableHlo.after_of_forall_not_mem _ _ fun op hop => ?_
  revert op
  suffices (hostOps0 : List (HloOp τ sig (Elt F))).Forall fun op => Proc.devRef .tc r ∉ op.writes from
    fun op h => List.forall_iff_forall_mem.mp this op h
  simp only [hostOps0, List.Forall, StableHlo.nullary_writes, StableHlo.unary_writes, StableHlo.binary_writes, StableHlo.ternary_writes, StableHlo.reshape_writes, Finset.mem_singleton]
  repeat' apply And.intro
  all_goals exact StableHlo.devRef_ne_of_ne (fun e => absurd (e ▸ hr) (by decide))

theorem first_v0 : StableHlo.after hostOps0 W (Proc.devRef .tc main_v0) = (shapeCast S4x32768x256 (W (Proc.devRef .tc main_arg2)) shapeCasts_S4x1x16x2048x256_S4x32768x256 : Vec F S4x32768x256 .f32) := by
  after_results
  rfl
theorem first_v2 : StableHlo.after hostOps0 W (Proc.devRef .tc main_v2) = (uitofp (F := F) .f32 (shapeCast S8x16384 (W (Proc.devRef .tc main_arg3)) shapeCasts_S4x1x16x2048_S8x16384 : IVec S8x16384 1) : Vec F S8x16384 .f32) := by
  after_results
  rfl

/-- The generator's key. -/
abbrev theKey : IVec S2 32 :=
  concatenate S2 0 [⟨S1, broadcastInDim S1 ![] bcast_S_S1 (Host.shrui (constantI S_ 32 42#32) (constantI S_ 32 32#32))⟩,
    ⟨S1, broadcastInDim S1 ![] bcast_S_S1 (andi (constantI S_ 32 42#32) (constantI S_ 32 4294967295#32))⟩] concatenates_S1_S1_S2_d0

theorem first_v9 : StableHlo.after hostOps0 W (Proc.devRef .tc main_v9) = theKey := by
  after_results
  rfl

theorem last_kept (r : Ref sig .tc) (hr : r ∈ ([main_v0, main_v2, main_v10] : List (Ref sig .tc))) :
    StableHlo.after hostOps0_2 W (Proc.devRef .tc r) = W (Proc.devRef .tc r) := by
  refine StableHlo.after_of_forall_not_mem _ _ fun op hop => ?_
  revert op
  suffices (hostOps0_2 : List (HloOp τ sig (Elt F))).Forall fun op => Proc.devRef .tc r ∉ op.writes from
    fun op h => List.forall_iff_forall_mem.mp this op h
  simp only [hostOps0_2, List.Forall, StableHlo.reshape_writes, Finset.mem_singleton]
  repeat' apply And.intro
  all_goals exact StableHlo.devRef_ne_of_ne (fun e => absurd (e ▸ hr) (by decide))

theorem last_v11 : StableHlo.after hostOps0_2 W (Proc.devRef .tc main_v11) = (shapeCast S131072x256 (W (Proc.devRef .tc main_arg2)) shapeCasts_S4x1x16x2048x256_S131072x256 : Vec F S131072x256 .f32) := by
  after_results
  rfl
theorem last_v12 : StableHlo.after hostOps0_2 W (Proc.devRef .tc main_v12) = (shapeCast S1x256 (W (Proc.devRef .tc main_arg5)) shapeCasts_S256_S1x256 : Vec F S1x256 .f32) := by
  after_results
  rfl
theorem last_v13 : StableHlo.after hostOps0_2 W (Proc.devRef .tc main_v13) = (shapeCast S1x128 (W (Proc.devRef .tc main_arg7)) shapeCasts_S128_S1x128 : Vec F S1x128 .f32) := by
  after_results
  rfl
theorem last_v14 : StableHlo.after hostOps0_2 W (Proc.devRef .tc main_v14) = (shapeCast S1x256 (W (Proc.devRef .tc main_arg9)) shapeCasts_S256_S1x256 : Vec F S1x256 .f32) := by
  after_results
  rfl
theorem last_v15 : StableHlo.after hostOps0_2 W (Proc.devRef .tc main_v15) = (shapeCast S1x128 (W (Proc.devRef .tc main_arg11)) shapeCasts_S128_S1x128 : Vec F S1x128 .f32) := by
  after_results
  rfl
theorem last_v16 : StableHlo.after hostOps0_2 W (Proc.devRef .tc main_v16) = (shapeCast S1x512 (W (Proc.devRef .tc main_arg13)) shapeCasts_S512_S1x512 : Vec F S1x512 .f32) := by
  after_results
  rfl
end

/-- An argument is unchanged when the last lines begin. -/
theorem arg_still (c : Dev nD) (r : Ref sig .tc) (hr : r ∈ ([main_arg2, main_arg5, main_arg7, main_arg9, main_arg11, main_arg13] : List (Ref sig .tc))) :
    StableHlo.after hostOps0_1 (StableHlo.after hostOps0 (fun r => m (c, r))) (Proc.devRef .tc r) = m ((c : Thread nD τ).loc r) :=
  (noise_kept _ r (.tail _ (.tail _ hr))).trans (first_arg _ r hr)

variable (c : Dev nD)

theorem V_v0 : V m c main_v0 = (shapeCast S4x32768x256 (m ((c : Thread nD τ).loc main_arg2)) shapeCasts_S4x1x16x2048x256_S4x32768x256 : Vec F S4x32768x256 .f32) := by
  rw [V_eq, last_kept _ _ (.head _), noise_kept _ _ (.head _), first_v0]
theorem V_v2 : V m c main_v2 = (uitofp (F := F) .f32 (shapeCast S8x16384 (m ((c : Thread nD τ).loc main_arg3)) shapeCasts_S4x1x16x2048_S8x16384 : IVec S8x16384 1) : Vec F S8x16384 .f32) := by
  rw [V_eq, last_kept _ _ (.tail _ (.head _)), noise_kept _ _ (.tail _ (.head _)), first_v2]
theorem V_v10 : V m c main_v10 = Cert.Noise.gumbel (F := F) (S := S8x16384) bcast_S_S8x16384 (d := ![0, 1]) bcast_S1x1_S8x16384_0_1 bcast_S_S1x1 (keyWord0 theKey) (keyWord1 theKey)
    counters.1 counters.2 := by
  rw [V_eq, last_kept _ _ (.tail _ (.tail _ (.head _))), noise_read, first_v9]
theorem V_v11 : V m c main_v11 = (shapeCast S131072x256 (m ((c : Thread nD τ).loc main_arg2)) shapeCasts_S4x1x16x2048x256_S131072x256 : Vec F S131072x256 .f32) := by
  rw [V_eq, last_v11, arg_still m c _ (by decide)]
theorem V_v12 : V m c main_v12 = (shapeCast S1x256 (m ((c : Thread nD τ).loc main_arg5)) shapeCasts_S256_S1x256 : Vec F S1x256 .f32) := by
  rw [V_eq, last_v12, arg_still m c _ (by decide)]
theorem V_v13 : V m c main_v13 = (shapeCast S1x128 (m ((c : Thread nD τ).loc main_arg7)) shapeCasts_S128_S1x128 : Vec F S1x128 .f32) := by
  rw [V_eq, last_v13, arg_still m c _ (by decide)]
theorem V_v14 : V m c main_v14 = (shapeCast S1x256 (m ((c : Thread nD τ).loc main_arg9)) shapeCasts_S256_S1x256 : Vec F S1x256 .f32) := by
  rw [V_eq, last_v14, arg_still m c _ (by decide)]
theorem V_v15 : V m c main_v15 = (shapeCast S1x128 (m ((c : Thread nD τ).loc main_arg11)) shapeCasts_S128_S1x128 : Vec F S1x128 .f32) := by
  rw [V_eq, last_v15, arg_still m c _ (by decide)]
theorem V_v16 : V m c main_v16 = (shapeCast S1x512 (m ((c : Thread nD τ).loc main_arg13)) shapeCasts_S512_S1x512 : Vec F S1x512 .f32) := by
  rw [V_eq, last_v16, arg_still m c _ (by decide)]

end Cert.KernelIdeal.Hand
end
-- ==== Proof.Values.lean ====
module

public import Idealize.ShloMosaic.PureOps.Ideal
public import Idealize.ShloMosaic.PureOps.Reduce

@[expose] public section

noncomputable section

namespace Cert.Values

open Idealize.ShloMosaic

/-! The problem's mathematics entry by entry, over the extended reals: what both programs compute. -/

/-- One output of a two-layer perceptron. -/
def mlp {e h d : ℕ} (x : Fin e → EReal) (w1 : Fin e → Fin h → EReal) (b1 : Fin h → EReal) (w2 : Fin h → Fin d → EReal) (b2 : Fin d → EReal) (o : Fin d) : EReal :=
  (∑ k : Fin h, max ((∑ i : Fin e, x i * w1 i k) + b1 k) 0 * w2 k o) + b2 o

/-- The inner product of a query and a key. -/
def inner {d : ℕ} (q k : Fin d → EReal) : EReal := ∑ i : Fin d, q i * k i

/-- The least of a row. -/
def least (L : Fin 32768 → EReal) : EReal := Finset.univ.fold min ⊤ L
/-- The largest of a row. -/
def most (L : Fin 32768 → EReal) : EReal := Finset.univ.fold max ⊥ L

/-- A legal bit as a number. -/
def num (g : BitVec 1) : EReal := if g = 1#1 then 1 else 0

/-- A row of logits with the illegal places at the least. -/
def masked (L : Fin 32768 → EReal) (g : Fin 32768 → BitVec 1) (n : Fin 32768) : EReal := if g n = 1#1 then L n else least L

/-- The weight of a place: the exponential of its distance to the largest, or nothing. -/
def weight (L : Fin 32768 → EReal) (g : Fin 32768 → BitVec 1) (n : Fin 32768) : EReal :=
  if g n = 1#1 then Ideal.exp ((masked L g n - most (masked L g)) * num (g n)) else 0

/-- The policy. -/
def policy (L : Fin 32768 → EReal) (g : Fin 32768 → BitVec 1) (n : Fin 32768) : EReal := Ideal.div (weight L g n) (∑ k : Fin 32768, weight L g k)

/-! ## A row of two blocks -/

/-- Place `o` of block `r` in the row. -/
def place (r : Fin 2) (o : Fin 16384) : Fin 32768 := ⟨16384 * r.val + o.val, by have := r.isLt; have := o.isLt; omega⟩

/-- The places of the blocks are the places of the row. -/
def placeEquiv : Fin 2 × Fin 16384 ≃ Fin 32768 where
  toFun x := place x.1 x.2
  invFun n := (⟨n.val / 16384, by omega⟩, ⟨n.val % 16384, by omega⟩)
  left_inv x := by
    obtain ⟨r, o⟩ := x
    have := o.isLt
    refine Prod.ext (Fin.ext ?_) (Fin.ext ?_)
    · show (16384 * r.val + o.val) / 16384 = r.val; omega
    · show (16384 * r.val + o.val) % 16384 = o.val; omega
  right_inv n := Fin.ext (by show 16384 * (n.val / 16384) + n.val % 16384 = n.val; omega)

theorem fold_place {β : Type} (op : β → β → β) [Std.Commutative op] [Std.Associative op] (b : β) (f : Fin 32768 → β) :
    (Finset.univ : Finset (Fin 2 × Fin 16384)).fold op b (fun x => f (place x.1 x.2)) = Finset.univ.fold op b f := by
  have h := Finset.fold_map (op := op) (b := b) (f := f) (g := placeEquiv.toEmbedding) (s := Finset.univ)
  rw [Finset.univ_map_equiv_to_embedding] at h
  exact h.symm

theorem sum_place (f : Fin 32768 → EReal) : (∑ r : Fin 2, ∑ o : Fin 16384, f (place r o)) = ∑ n, f n := by
  rw [← Fintype.sum_prod_type' (f := fun r o => f (place r o))]
  exact Equiv.sum_comp placeEquiv f

theorem num_pos (g : BitVec 1) : 0 < num g ↔ g = 1#1 := by
  unfold num
  split <;> simp_all

theorem num_zero (g : BitVec 1) : num g = 0 ↔ g = 0#1 := by
  rcases BitVec.eq_zero_or_eq_one g with rfl | rfl <;> simp [num]

theorem num_nonneg (g : BitVec 1) : 0 ≤ num g := by
  unfold num
  split <;> simp

/-- A bit read as a number. -/
theorem bit_num (g : BitVec 1) : FloatOps.uitofp (F := Ideal) .f32 g = num g := by
  show ((g.toNat : ℝ) : EReal) = num g
  unfold num
  rcases BitVec.eq_zero_or_eq_one g with rfl | rfl
  · simp
  · simp

/-! ## The legal moves -/

/-- The mask holds no bit at all. -/
def NoMoves (mask : Fin 4 → Fin 32768 → BitVec 1) : Prop := ∀ b n, mask b n = 0#1

open Classical in
/-- The legal bits: the mask's, or ones where the whole mask holds none. -/
def legal (mask : Fin 4 → Fin 32768 → BitVec 1) (b : Fin 4) (n : Fin 32768) : BitVec 1 := if NoMoves mask then 1#1 else mask b n

end Cert.Values
end
-- ==== Proof.KernelValues.lean ====
module

public import proofs.«01_k».proof.Proof.Words
public import proofs.«01_k».proof.Proof.Values
public import Idealize.ShloMosaic.Lib.Pointwise.Tactic

@[expose] public section

noncomputable section

namespace Cert.KernelIdeal.Hand

open Cert.KernelIdeal Cert.KernelIdeal.Gen
open Idealize.ShloMosaic
open Cert.Values (mlp inner policy num place)

set_option maxRecDepth 16384

/-- The query, entry by entry. -/
theorem query_val (x : Vec Ideal S1x1x512 .f32) (w1 : Vec Ideal S512x256 .f32) (b1 : Vec Ideal S1x256 .f32) (w2 : Vec Ideal S256x128 .f32) (b2 : Vec Ideal S1x128 .f32) (o : Fin 128) :
    k0_pay16 (F := Ideal) x w1 b1 w2 b2 (ix2 (0 : Fin 1) o) = Cert.Values.mlp (fun i : Fin 512 => x (ix3 (0 : Fin 1) (0 : Fin 1) i)) (fun (i : Fin 512) (k : Fin 256) => w1 (ix2 i k))
      (fun k : Fin 256 => b1 (ix2 (0 : Fin 1) k)) (fun (k : Fin 256) (o : Fin 128) => w2 (ix2 k o)) (fun o : Fin 128 => b2 (ix2 (0 : Fin 1) o)) o := by
  pointwise [k0_pay16, Cert.Values.mlp]

/-- A logit of a block. -/
theorem logit_val (x : Vec Ideal S1x16384x256 .f32) (w1 : Vec Ideal S256x256 .f32) (b1 : Vec Ideal S1x256 .f32) (w2 : Vec Ideal S256x128 .f32) (b2 : Vec Ideal S1x128 .f32) (q : Vec Ideal S1x128 .f32) (r : Fin 16384) :
    k0_pay17 (F := Ideal) x w1 b1 w2 b2 q (ix2 (0 : Fin 1) r) = Cert.Values.inner (fun o : Fin 128 => q (ix2 (0 : Fin 1) o))
      (Cert.Values.mlp (fun i : Fin 256 => x (ix3 (0 : Fin 1) r i)) (fun (i : Fin 256) (k : Fin 256) => w1 (ix2 i k))
      (fun k : Fin 256 => b1 (ix2 (0 : Fin 1) k)) (fun (k : Fin 256) (o : Fin 128) => w2 (ix2 k o)) (fun o : Fin 128 => b2 (ix2 (0 : Fin 1) o))) := by
  pointwise [k0_pay17, Cert.Values.mlp, Cert.Values.inner]

theorem proj_val (x : Vec Ideal S4x256 .f32) (w : Vec Ideal S256x512 .f32) (b : Vec Ideal S1x512 .f32) (r : Fin 4) (o : Fin 512) :
    k0_pay1 (F := Ideal) x w b (ix2 r o) = (∑ i : Fin 256, x (ix2 r i) * w (ix2 i o)) + b (ix2 (0 : Fin 1) o) := by
  pointwise [k0_pay1]

/-- The policy of a batch element, entry by entry, from its row of logits and its legal bits. -/
theorem policy_val (M : Vec Ideal S8x16384 .f32) (L G : Vec Ideal S2x16384 .f32) (l : Fin 32768 → EReal) (g : Fin 32768 → BitVec 1)
    (hl : ∀ r o, L (ix2 r o) = l (place r o))
    (hg : ∀ r o, (if (∑ a : Fin 8, ∑ b : Fin 16384, M (ix2 a b)) = (0 : EReal) then (1 : EReal) else G (ix2 r o)) = num (g (place r o)))
    (r : Fin 2) (o : Fin 16384) : k0_pay4 (F := Ideal) M L G (ix2 r o) = policy l g (place r o) := by
  obtain ⟨H, hH⟩ : ∃ H : S2x16384.Idx → EReal, H = if (∑ a : Fin 8, ∑ b : Fin 16384, M (ix2 a b)) = (0 : EReal) then broadcast S2x16384 (1 : EReal) else G := ⟨_, rfl⟩
  have hn (r : Fin 2) (o : Fin 16384) : H (ix2 r o) = num (g (place r o)) := by
    rw [← hg, hH]
    split <;> rfl
  have e1 : Ideal.ofBits FTy.f32 2139095040#32 = ⊤ := by simp [Ideal.ofBits, Ideal.ieee]
  have e2 : Ideal.ofBits FTy.f32 4286578688#32 = ⊥ := by simp [Ideal.ofBits, Ideal.ieee]
  pointwise [k0_pay4, k0_pay2]
  rw [← hH]
  simp only [hn, hl, Cert.Values.num_pos, e1, e2]
  rw [Cert.Values.fold_place min ⊤ l]
  unfold policy
  have hm : (Finset.univ.fold max ⊥ fun x : Fin 2 × Fin 16384 => if g (place x.1 x.2) = 1#1 then l (place x.1 x.2) else Finset.univ.fold min ⊤ l) = Cert.Values.most (Cert.Values.masked l g) :=
    Cert.Values.fold_place max ⊥ (Cert.Values.masked l g)
  rw [hm]
  exact congrArg (Ideal.div _) (Cert.Values.sum_place (Cert.Values.weight l g))

end Cert.KernelIdeal.Hand
end
-- ==== Proof.KernelEntries.lean ====
module

public import proofs.«01_k».proof.Proof.HostValues
public import proofs.«01_k».proof.Proof.KernelValues
public import Idealize.ShloMosaic.Lib.Pointwise
public import Idealize.ShloMosaic.Lib.Pointwise.Tactic

@[expose] public section

noncomputable section

namespace Cert.KernelIdeal.Hand

open Cert.KernelIdeal Cert.KernelIdeal.Gen
open Idealize.ShloMosaic Idealize.ShloMosaic.TcCoe
open Cert.Values (mlp policy num place)

set_option maxRecDepth 16384

variable (m : (ℓ : Loc nD τ sig) → Buf (Elt Ideal) ℓ) (c : Dev nD)

/-! What the launch computes, entry by entry, from the arguments. -/

/-- The arguments. -/
abbrev A0 : IVec S4x1 32 := m ((c : Thread nD τ).loc main_arg0)
abbrev A1 : Vec Ideal S4x1x512 .f32 := m ((c : Thread nD τ).loc main_arg1)
abbrev A2 : Vec Ideal S4x1x16x2048x256 .f32 := m ((c : Thread nD τ).loc main_arg2)
abbrev A3 : IVec S4x1x16x2048 1 := m ((c : Thread nD τ).loc main_arg3)
abbrev A4 : Vec Ideal S512x256 .f32 := m ((c : Thread nD τ).loc main_arg4)
abbrev A5 : Vec Ideal S256 .f32 := m ((c : Thread nD τ).loc main_arg5)
abbrev A6 : Vec Ideal S256x128 .f32 := m ((c : Thread nD τ).loc main_arg6)
abbrev A7 : Vec Ideal S128 .f32 := m ((c : Thread nD τ).loc main_arg7)
abbrev A8 : Vec Ideal S256x256 .f32 := m ((c : Thread nD τ).loc main_arg8)
abbrev A9 : Vec Ideal S256 .f32 := m ((c : Thread nD τ).loc main_arg9)
abbrev A10 : Vec Ideal S256x128 .f32 := m ((c : Thread nD τ).loc main_arg10)
abbrev A11 : Vec Ideal S128 .f32 := m ((c : Thread nD τ).loc main_arg11)
abbrev A12 : Vec Ideal S256x512 .f32 := m ((c : Thread nD τ).loc main_arg12)
abbrev A13 : Vec Ideal S512 .f32 := m ((c : Thread nD τ).loc main_arg13)

/-! ## The casts the host lines make -/

theorem moves_cast (x : Vec Ideal S4x1x16x2048x256 .f32) (b : Fin 4) (n : Fin 32768) (i : Fin 256) :
    shapeCast S4x32768x256 x shapeCasts_S4x1x16x2048x256_S4x32768x256 (ix3 b n i)
      = x (ix5 b (0 : Fin 1) (⟨n.val / 2048, by omega⟩ : Fin 16) (⟨n.val % 2048, by omega⟩ : Fin 2048) i) := by
  pointwise
theorem cast_256 (x : Vec Ideal S256 .f32) (k : Fin 256) : shapeCast S1x256 x shapeCasts_S256_S1x256 (ix2 (0 : Fin 1) k) = x (ix1 k) := by
  pointwise
theorem cast_128 (x : Vec Ideal S128 .f32) (k : Fin 128) : shapeCast S1x128 x shapeCasts_S128_S1x128 (ix2 (0 : Fin 1) k) = x (ix1 k) := by
  pointwise
theorem cast_512 (x : Vec Ideal S512 .f32) (k : Fin 512) : shapeCast S1x512 x shapeCasts_S512_S1x512 (ix2 (0 : Fin 1) k) = x (ix1 k) := by
  pointwise

/-- Row `2 b + j` of the eight rows. -/
def rowNo (b : Fin 4) (j : Fin 2) : Fin 8 := ⟨2 * b.val + j.val, by omega⟩

theorem mask_cast (x : IVec S4x1x16x2048 1) (b : Fin 4) (j : Fin 2) (o : Fin 16384) :
    shapeCast S8x16384 x shapeCasts_S4x1x16x2048_S8x16384 (ix2 (rowNo b j) o)
      = x (ix4 b (0 : Fin 1) (⟨(place j o).val / 2048, by omega⟩ : Fin 16) (⟨(place j o).val % 2048, by omega⟩ : Fin 2048)) := by
  pointwise [rowNo, place]
  exact congrArg₂ (fun (p : Fin 16) (q : Fin 2048) => x (ix4 b (0 : Fin 1) p q))
    (Fin.ext (by show (2 * b.val + j.val) % 2 * 8 + o.val / 2048 = (16384 * j.val + o.val) / 2048; omega))
    (Fin.ext (by show o.val % 2048 = (16384 * j.val + o.val) % 2048; omega))

/-! ## The logits -/

theorem pay18_at (x : Vec Ideal S1x16384x256 .f32) (w1 : Vec Ideal S256x256 .f32) (b1 : Vec Ideal S1x256 .f32) (w2 : Vec Ideal S256x128 .f32) (b2 : Vec Ideal S1x128 .f32) (q : Vec Ideal S1x128 .f32) (r : Fin 16384) :
    k0_pay18 (F := Ideal) x w1 b1 w2 b2 q (ix3 (0 : Fin 1) (0 : Fin 1) r) = k0_pay19 (F := Ideal) x w1 b1 w2 b2 q (ix2 (0 : Fin 1) r) := by
  unfold k0_pay18 k0_pay19
  pointwise

theorem pay19_at (x : Vec Ideal S1x16384x256 .f32) (w1 : Vec Ideal S256x256 .f32) (b1 : Vec Ideal S1x256 .f32) (w2 : Vec Ideal S256x128 .f32) (b2 : Vec Ideal S1x128 .f32) (q : Vec Ideal S1x128 .f32) (r : Fin 16384) :
    k0_pay19 (F := Ideal) x w1 b1 w2 b2 q (ix2 (0 : Fin 1) r) = k0_pay17 (F := Ideal) x w1 b1 w2 b2 q (ix2 (0 : Fin 1) r) := by
  unfold k0_pay19
  pointwise

/-- The query of batch element `b`. -/
def queryOf (b : Fin 4) : Fin 128 → EReal :=
  mlp (fun i : Fin 512 => A1 m c (ix3 b (0 : Fin 1) i)) (fun (i : Fin 512) (k : Fin 256) => A4 m c (ix2 i k)) (fun k : Fin 256 => A5 m c (ix1 k))
    (fun (k : Fin 256) (o : Fin 128) => A6 m c (ix2 k o)) (fun o : Fin 128 => A7 m c (ix1 o))

/-- The key of move `n` of batch element `b`. -/
def keyOf (b : Fin 4) (n : Fin 32768) : Fin 128 → EReal :=
  mlp (fun i : Fin 256 => A2 m c (ix5 b (0 : Fin 1) (⟨n.val / 2048, by omega⟩ : Fin 16) (⟨n.val % 2048, by omega⟩ : Fin 2048) i)) (fun (i : Fin 256) (k : Fin 256) => A8 m c (ix2 i k))
    (fun k : Fin 256 => A9 m c (ix1 k)) (fun (k : Fin 256) (o : Fin 128) => A10 m c (ix2 k o)) (fun o : Fin 128 => A11 m c (ix1 o))

/-- The logit of move `n` of batch element `b`. -/
def logitAt (b : Fin 4) (n : Fin 32768) : EReal := Cert.Values.inner (queryOf m c b) (keyOf m c b n)

theorem query_from (x : Vec Ideal S1x1x512 .f32) (w1 : Vec Ideal S512x256 .f32) (b1 : Vec Ideal S256 .f32) (w2 : Vec Ideal S256x128 .f32) (b2 : Vec Ideal S128 .f32)
    (e : Fin 512 → EReal) (h : ∀ i : Fin 512, x (ix3 (0 : Fin 1) (0 : Fin 1) i) = e i) (o : Fin 128) :
    k0_pay16 (F := Ideal) x w1 (shapeCast S1x256 b1 shapeCasts_S256_S1x256) w2 (shapeCast S1x128 b2 shapeCasts_S128_S1x128) (ix2 (0 : Fin 1) o)
      = mlp e (fun (i : Fin 512) (k : Fin 256) => w1 (ix2 i k)) (fun k : Fin 256 => b1 (ix1 k)) (fun (k : Fin 256) (o : Fin 128) => w2 (ix2 k o)) (fun o : Fin 128 => b2 (ix1 o)) o := by
  rw [query_val]
  have e5 : (fun k : Fin 256 => shapeCast S1x256 b1 shapeCasts_S256_S1x256 (ix2 (0 : Fin 1) k)) = fun k => b1 (ix1 k) := funext (cast_256 b1)
  have e6 : (fun k : Fin 128 => shapeCast S1x128 b2 shapeCasts_S128_S1x128 (ix2 (0 : Fin 1) k)) = fun k => b2 (ix1 k) := funext (cast_128 b2)
  rw [e5, e6, funext h]

theorem logit_from (x : Vec Ideal S1x16384x256 .f32) (w1 : Vec Ideal S256x256 .f32) (b1 : Vec Ideal S256 .f32) (w2 : Vec Ideal S256x128 .f32) (b2 : Vec Ideal S128 .f32) (q : Vec Ideal S1x128 .f32)
    (f : Fin 128 → EReal) (hq : ∀ o : Fin 128, q (ix2 (0 : Fin 1) o) = f o) (r : Fin 16384) (e : Fin 256 → EReal) (h : ∀ i : Fin 256, x (ix3 (0 : Fin 1) r i) = e i) :
    k0_pay17 (F := Ideal) x w1 (shapeCast S1x256 b1 shapeCasts_S256_S1x256) w2 (shapeCast S1x128 b2 shapeCasts_S128_S1x128) q (ix2 (0 : Fin 1) r)
      = Cert.Values.inner f (mlp e (fun (i : Fin 256) (k : Fin 256) => w1 (ix2 i k)) (fun k : Fin 256 => b1 (ix1 k)) (fun (k : Fin 256) (o : Fin 128) => w2 (ix2 k o)) (fun o : Fin 128 => b2 (ix1 o))) := by
  rw [logit_val]
  have e5 : (fun k : Fin 256 => shapeCast S1x256 b1 shapeCasts_S256_S1x256 (ix2 (0 : Fin 1) k)) = fun k => b1 (ix1 k) := funext (cast_256 b1)
  have e6 : (fun k : Fin 128 => shapeCast S1x128 b2 shapeCasts_S128_S1x128 (ix2 (0 : Fin 1) k)) = fun k => b2 (ix1 k) := funext (cast_128 b2)
  rw [e5, e6, funext h, funext hq]

theorem query_at (b : Fin 4) (j : Fin 2) (o : Fin 128) : queryAt m c (2 * b.val + j.val) (ix2 (0 : Fin 1) o) = queryOf m c b o := by
  have hb : (⟨(pt (2 * ((2 * b.val + j.val) / 2))).val / 2, half_lt _⟩ : Fin 4) = b :=
    Fin.ext (by show (2 * ((2 * b.val + j.val) / 2)) % 8 / 2 = b.val; omega)
  unfold queryAt
  generalize pt (2 * ((2 * b.val + j.val) / 2)) = t at hb
  have e1 : xw1 m c t = A4 m c := (xw1_eq m c t).trans (V_main_arg4 m c)
  have e2 : xb1 m c t = shapeCast S1x256 (A5 m c) shapeCasts_S256_S1x256 := (xb1_eq m c t).trans (V_v12 m c)
  have e3 : xw2 m c t = A6 m c := (xw2_eq m c t).trans (V_main_arg6 m c)
  have e4 : xb2 m c t = shapeCast S1x128 (A7 m c) shapeCasts_S128_S1x128 := (xb2_eq m c t).trans (V_v13 m c)
  have h (i : Fin 512) : xae m c t (ix3 (0 : Fin 1) (0 : Fin 1) i) = A1 m c (ix3 b (0 : Fin 1) i) := by
    rw [xae_at, hb]
    exact congrFun (V_main_arg1 m c) _
  rw [e1, e2, e3, e4]
  exact query_from _ _ _ _ _ _ h o

theorem row_at (b : Fin 4) (j : Fin 2) (o : Fin 16384) : rowAt m c (2 * b.val + j.val) (ix2 (0 : Fin 1) o) = logitAt m c b (place j o) := by
  have hb : (⟨(pt (2 * b.val + j.val)).val / 2, half_lt _⟩ : Fin 4) = b :=
    Fin.ext (by show (2 * b.val + j.val) % 8 / 2 = b.val; omega)
  have hn (h) : (⟨16384 * ((pt (2 * b.val + j.val)).val % 2) + o.val, h⟩ : Fin 32768) = place j o :=
    Fin.ext (by show 16384 * ((2 * b.val + j.val) % 8 % 2) + o.val = 16384 * j.val + o.val; omega)
  unfold rowAt
  generalize pt (2 * b.val + j.val) = t at hb hn
  have e1 : yw1 m c t = A8 m c := (yw1_eq m c t).trans (V_main_arg8 m c)
  have e2 : yb1 m c t = shapeCast S1x256 (A9 m c) shapeCasts_S256_S1x256 := (yb1_eq m c t).trans (V_v14 m c)
  have e3 : yw2 m c t = A10 m c := (yw2_eq m c t).trans (V_main_arg10 m c)
  have e4 : yb2 m c t = shapeCast S1x128 (A11 m c) shapeCasts_S128_S1x128 := (yb2_eq m c t).trans (V_v15 m c)
  have h (i : Fin 256) : xmv m c t (ix3 (0 : Fin 1) o i)
      = A2 m c (ix5 b (0 : Fin 1) (⟨(place j o).val / 2048, by omega⟩ : Fin 16) (⟨(place j o).val % 2048, by omega⟩ : Fin 2048) i) := by
    rw [xmv_at, hb, hn]
    exact (congrFun (V_v0 m c) _).trans (moves_cast (A2 m c) b (place j o) i)
  rw [e1, e2, e3, e4, pay19_at]
  exact logit_from _ _ _ _ _ _ _ (query_at m c b j) o _ h

theorem rows_at (b : Fin 4) (r : Fin 2) (o : Fin 16384) : rowsOf b (allRows m c) (ix2 r o) = logitAt m c b (place r o) :=
  row_at m c b r o

/-- The launch's first result, entry by entry. -/
theorem blocks_at (b : Fin 4) (n : Fin 32768) : allBlocks m c (ix3 b (0 : Fin 1) n) = logitAt m c b n := by
  have e : allBlocks m c (ix3 b (0 : Fin 1) n) = rowAt m c (2 * b.val + n.val / 16384) (ix2 (0 : Fin 1) (⟨n.val % 16384, Nat.mod_lt _ (by decide)⟩ : Fin 16384)) := by
    have hp : (pt (2 * b.val + n.val / 16384)).val = 2 * b.val + n.val / 16384 := by
      show (2 * b.val + n.val / 16384) % 8 = _; omega
    show outBlock m c (pt (2 * b.val + n.val / 16384)) (ix3 (0 : Fin 1) (0 : Fin 1) _) = _
    unfold outBlock
    rw [pay18_at, hp]
    rfl
  rw [e]
  refine (row_at m c b (⟨n.val / 16384, by omega⟩ : Fin 2) _).trans (congrArg (logitAt m c b) (Fin.ext ?_))
  show 16384 * (n.val / 16384) + n.val % 16384 = n.val
  omega

/-! ## The policies -/

/-- The mask's bit of move `n` of batch element `b`. -/
def bitOf (b : Fin 4) (n : Fin 32768) : BitVec 1 := A3 m c (ix4 b (0 : Fin 1) (⟨n.val / 2048, by omega⟩ : Fin 16) (⟨n.val % 2048, by omega⟩ : Fin 2048))

/-- The mask as the launch reads it. -/
abbrev maskV : Vec Ideal S8x16384 .f32 := V m c main_v2

theorem mask_at (b : Fin 4) (j : Fin 2) (o : Fin 16384) : maskV m c (ix2 (rowNo b j) o) = num (bitOf m c b (place j o)) := by
  refine (congrFun (V_v2 m c) _).trans ?_
  show FloatOps.uitofp (F := Ideal) .f32 (shapeCast S8x16384 (A3 m c) shapeCasts_S4x1x16x2048_S8x16384 (ix2 (rowNo b j) o)) = _
  rw [mask_cast]
  exact Cert.Values.bit_num _

/-- A sum of eight rows of bits vanishes just when no bit is set. -/
theorem total_zero (M : Vec Ideal S8x16384 .f32) (bits : Fin 4 → Fin 32768 → BitVec 1) (hM : ∀ b j o, M (ix2 (rowNo b j) o) = num (bits b (place j o))) :
    (∑ a : Fin 8, ∑ o : Fin 16384, M (ix2 a o)) = (0 : EReal) ↔ Cert.Values.NoMoves bits := by
  have hrow (a : Fin 8) : a = rowNo (⟨a.val / 2, by omega⟩ : Fin 4) (⟨a.val % 2, by omega⟩ : Fin 2) := Fin.ext (by show a.val = 2 * (a.val / 2) + a.val % 2; omega)
  have hv (a : Fin 8) (o : Fin 16384) : M (ix2 a o) = num (bits (⟨a.val / 2, by omega⟩ : Fin 4) (place (⟨a.val % 2, by omega⟩ : Fin 2) o)) := by
    conv_lhs => rw [hrow a]
    exact hM _ _ o
  simp only [hv]
  rw [Finset.sum_eq_zero_iff_of_nonneg (fun a _ => Finset.sum_nonneg fun o _ => Cert.Values.num_nonneg _)]
  constructor
  · intro h b n
    have h1 := h (rowNo b (⟨n.val / 16384, by omega⟩ : Fin 2)) (Finset.mem_univ _)
    rw [Finset.sum_eq_zero_iff_of_nonneg (fun o _ => Cert.Values.num_nonneg _)] at h1
    have h2 := (Cert.Values.num_zero _).mp (h1 (⟨n.val % 16384, by omega⟩ : Fin 16384) (Finset.mem_univ _))
    refine (congrArg₂ bits (Fin.ext ?_) (Fin.ext ?_)).trans h2
    · show b.val = (2 * b.val + n.val / 16384) / 2; omega
    · show n.val = 16384 * ((2 * b.val + n.val / 16384) % 2) + n.val % 16384; omega
  · intro h a _
    exact Finset.sum_eq_zero fun o _ => (Cert.Values.num_zero _).mpr (h _ _)

/-- The policy of move `n` of batch element `b`. -/
def policyAt (b : Fin 4) (n : Fin 32768) : EReal := policy (logitAt m c b) (Cert.Values.legal (bitOf m c) b) n

theorem pol_at (t : Fin cfg0.N) (b : Fin 4) (r : Fin 2) (o : Fin 16384) : polOf (xmask m c t) (allRows m c) b (ix2 r o) = policyAt m c b (place r o) := by
  have e : xmask m c t = maskV m c := xmask_eq m c t
  rw [e]
  unfold polOf policyAt
  refine policy_val _ _ _ _ _ (rows_at m c b) (fun r o => ?_) r o
  have h := total_zero (maskV m c) (bitOf m c) (mask_at m c)
  unfold Cert.Values.legal
  by_cases hn : Cert.Values.NoMoves (bitOf m c)
  · rw [if_pos hn, if_pos (h.mpr hn)]
    rfl
  · rw [if_neg hn, if_neg (fun e => hn (h.mp e))]
    exact mask_at m c b r o

theorem policies_at (t : Fin cfg0.N) (b : Fin 4) (j : Fin 2) (o : Fin 16384) : outPolicy m c t (ix2 (rowNo b j) o) = policyAt m c b (place j o) := by
  have h := pol_at m c t b j o
  have e1 : (⟨(rowNo b j).val / 2, by omega⟩ : Fin 4) = b := Fin.ext (by show (2 * b.val + j.val) / 2 = b.val; omega)
  have e2 : (⟨(rowNo b j).val % 2, by omega⟩ : Fin 2) = j := Fin.ext (by show (2 * b.val + j.val) % 2 = j.val; omega)
  show polOf _ _ (⟨(rowNo b j).val / 2, _⟩ : Fin 4) (ix2 (⟨(rowNo b j).val % 2, _⟩ : Fin 2) o) = _
  rw [e1, e2]
  exact h

/-! ## The index words -/

/-- The noise as the launch reads it. -/
abbrev noiseV : Vec Ideal S8x16384 .f32 := V m c main_v10

/-- The noise's entry for move `n` of batch element `b`. -/
def noiseAt (b : Fin 4) (n : Fin 32768) : EReal :=
  noiseV m c (ix2 (rowNo b (⟨n.val / 16384, by omega⟩ : Fin 2)) (⟨n.val % 16384, by omega⟩ : Fin 16384))

/-- The score of move `n` of batch element `b`. -/
def scoreAt (b : Fin 4) (n : Fin 32768) : EReal := Ideal.log (policyAt m c b n + Ideal.ofBits .f32 0x1E3CE508#32) + noiseAt m c b n

theorem score_at (P G : Vec Ideal S2x16384 .f32) (x : S2x16384.Idx) : score P G x = Ideal.log (P x + Ideal.ofBits .f32 0x1E3CE508#32) + G x := rfl

theorem word_at (t : Fin cfg0.N) (b : Fin 4) (n : Fin 32768) (hn : FirstMax (scoreAt m c b) n) :
    wordOf (xmask m c t) (allRows m c) (xnoise m c t) b = BitVec.ofNat 32 n.val := by
  unfold wordOf
  refine word_eq _ _ (scoreAt m c b) (fun x => ?_) n hn
  have hk : place (x 0) (x 1) = flat x := rfl
  have hx : x = ix2 (x 0) (x 1) := by
    funext a
    match a with
    | ⟨0, _⟩ => rfl
    | ⟨1, _⟩ => rfl
  have hp : polOf (xmask m c t) (allRows m c) b x = policyAt m c b (flat x) := by
    conv_lhs => rw [hx]
    exact pol_at m c t b (x 0) (x 1)
  have e : xnoise m c t = noiseV m c := xnoise_eq m c t
  have hg : rowsOf b (noiseV m c) x = noiseAt m c b (flat x) := by
    have h0 : (x 0).val < 2 := (x 0).isLt
    have h1 : (x 1).val < 16384 := (x 1).isLt
    unfold noiseAt rowsOf
    refine congrArg (noiseV m c) (funext fun a => ?_)
    match a with
    | ⟨0, _⟩ => exact Fin.ext (by show 2 * b.val + (x 0).val = 2 * b.val + (16384 * (x 0).val + (x 1).val) / 16384; omega)
    | ⟨1, _⟩ => exact Fin.ext (by show (x 1).val = (16384 * (x 0).val + (x 1).val) % 16384; omega)
  rw [score_at, hp, e, hg]
  rfl

/-! ## The projected rows -/

theorem gathered_at (T : Vec Ideal S131072x256 .f32) (w : Fin 4 → BitVec 32) (h) (b : Fin 4) (i : Fin 256) (n : ℕ) (hn : n < 131072) (hw : (w b).toNat = n) :
    gathered T w h (ix2 b i) = T (ix2 (⟨n, hn⟩ : Fin 131072) i) := by
  subst hw
  rfl

theorem projected_at (t : Fin cfg0.N) (b : Fin 4) (n : Fin 32768) (hn : FirstMax (scoreAt m c b) n) (o : Fin 512) :
    outProj m inRange c t (ix2 b o) = (∑ i : Fin 256, shapeCast S131072x256 (A2 m c) shapeCasts_S4x1x16x2048x256_S131072x256 (ix2 (⟨n.val, by omega⟩ : Fin 131072) i) * A12 m c (ix2 i o))
      + A13 m c (ix1 o) := by
  have hw : (wordOf (xmask m c t) (allRows m c) (xnoise m c t) b).toNat = n.val := by
    rw [word_at m c t b n hn, BitVec.toNat_ofNat]; omega
  have hg (i : Fin 256) : gathered (xtab m c) (wordOf (xmask m c t) (allRows m c) (xnoise m c t)) (words_ok inRange _ _ _) (ix2 b i)
      = shapeCast S131072x256 (A2 m c) shapeCasts_S4x1x16x2048x256_S131072x256 (ix2 (⟨n.val, by omega⟩ : Fin 131072) i) := by
    exact (gathered_at (xtab m c) _ _ b i n.val (by omega) hw).trans (congrFun (V_v11 m c) _)
  have e1 : zw m c t = A12 m c := (zw_eq m c t).trans (V_main_arg12 m c)
  have e2 : zb m c t = shapeCast S1x512 (A13 m c) shapeCasts_S512_S1x512 := (zb_eq m c t).trans (V_v16 m c)
  unfold outProj
  rw [proj_val, e1, e2, cast_512]
  exact congrArg (· + A13 m c (ix1 o)) (Finset.sum_congr rfl fun i _ => congrArg (· * A12 m c (ix2 i o)) (hg i))

end Cert.KernelIdeal.Hand
end
-- ==== Proof.NoiseRef.lean ====
module

public import proofs.«01_k».proof.Proof.Noise
public import proofs.«01_k».proof.Proof.RefOps
public import Idealize.ShloMosaic.Lib.StableHlo.RunRead

@[expose] public section

noncomputable section

namespace Cert.ReferenceIdeal.Hand

open Cert.ReferenceIdeal Cert.ReferenceIdeal.Gen
open Idealize.ShloMosaic Idealize.ShloMosaic.TcCoe
variable {F : FTy → Type} [FloatOps F] [∀ e, Nonempty (Elt F e)]

/-! The noise the reference draws, read off its lines four rounds at a time. -/

/-- The lines `a`, …, `a + b - 1` of those that draw the noise. -/
abbrev cut (a b : ℕ) : List (HloOp τ sig (Elt F)) := (noiseOps.drop a).take b

theorem after_two (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => exact ih _

theorem after_cut (a b : ℕ) (W : Valuation τ sig (Elt F)) :
    StableHlo.after (noiseOps.drop a) W = StableHlo.after (noiseOps.drop (a + b)) (StableHlo.after (cut a b) W) := by
  have h := List.take_append_drop b (noiseOps.drop a : List (HloOp τ sig (Elt F)))
  rw [List.drop_drop] at h
  rw [← after_two, h]

/-- The key's two words. -/
abbrev keyWord0 (K : IVec S2 32) : IVec S_ 32 := shapeCast S_ (extractStridedSlice S1 ![0] K slices_S2_S1_0) shapeCasts_S1_S_
abbrev keyWord1 (K : IVec S2 32) : IVec S_ 32 := shapeCast S_ (extractStridedSlice S1 ![1] K slices_S2_S1_1) shapeCasts_S1_S_

/-- The buffers of the key's words and of the two literals, which no line after the first thirty writes. -/
abbrev keyRefs : List (Ref sig .tc) := [main_call3_call0_v4, main_call3_call0_v6, main_call3_call0_call0_v1, main_call3_call0_v1, main_call3_call0_v2]

theorem cut_kept (W : Valuation τ sig (Elt F)) (a b : ℕ) (ha : 30 ≤ a) (r : Ref sig .tc) (hr : r ∈ keyRefs) :
    StableHlo.after (cut a b) W (Proc.devRef .tc r) = W (Proc.devRef .tc r) := by
  refine StableHlo.after_of_forall_not_mem _ _ fun op hop => ?_
  have h : op ∈ (noiseOps : List (HloOp τ sig (Elt F))).drop 30 := by
    have h1 := List.mem_of_mem_take hop
    obtain ⟨k, rfl⟩ := Nat.exists_eq_add_of_le ha
    rw [← List.drop_drop] at h1
    exact List.mem_of_mem_drop h1
  revert op
  suffices (List.drop 30 (noiseOps : List (HloOp τ sig (Elt F)))).Forall fun op => Proc.devRef .tc r ∉ op.writes from
    fun op _ h => List.forall_iff_forall_mem.mp this op h
  simp only [noiseOps, List.drop_succ_cons, List.drop_zero, List.Forall, StableHlo.nullary_writes, StableHlo.unary_writes, StableHlo.binary_writes, StableHlo.ternary_writes, StableHlo.reshape_writes, Finset.mem_singleton]
  repeat' apply And.intro
  all_goals exact StableHlo.devRef_ne_of_ne (fun e => absurd (e ▸ hr) (by decide))

/-- The counter's two words. -/
abbrev counters : IVec S4x32768 32 × IVec S4x32768 32 :=
  (Cert.Noise.high bcast_S_S4x32768 (Cert.Noise.count 32768#64 bcast_S_S4x32768) natLt_32_64, trunci 32 (Cert.Noise.count 32768#64 bcast_S_S4x32768) natLt_32_64)

section
variable (W : Valuation τ sig (Elt F))

/-! What the thirty lines before the first round leave. -/

theorem head_k0 : StableHlo.after (cut 0 30) W (Proc.devRef .tc main_call3_call0_v4) = keyWord0 (W (Proc.devRef .tc main_v57)) := by
  dsimp only [cut, noiseOps, List.drop, List.take]
  after_results
  rfl

theorem head_k1 : StableHlo.after (cut 0 30) W (Proc.devRef .tc main_call3_call0_v6) = keyWord1 (W (Proc.devRef .tc main_v57)) := by
  dsimp only [cut, noiseOps, List.drop, List.take]
  after_results
  rfl

theorem head_k2 : StableHlo.after (cut 0 30) W (Proc.devRef .tc main_call3_call0_call0_v1)
    = (xori (xori (keyWord0 (W (Proc.devRef .tc main_v57))) (keyWord1 (W (Proc.devRef .tc main_v57)))) (constantI S_ 32 466688986#32) : IVec S_ 32) := by
  dsimp only [cut, noiseOps, List.drop, List.take]
  after_results
  rfl

theorem head_tiny : StableHlo.after (cut 0 30) W (Proc.devRef .tc main_call3_call0_v1) = (Cert.Noise.unit1 (F := F) bcast_S_S1x1 0x00800000#32 : Vec F S1x1 .f32) := by
  dsimp only [cut, noiseOps, List.drop, List.take]
  after_results
  rfl

theorem head_one : StableHlo.after (cut 0 30) W (Proc.devRef .tc main_call3_call0_v2) = (Cert.Noise.unit1 (F := F) bcast_S_S1x1 0x3F800000#32 : Vec F S1x1 .f32) := by
  dsimp only [cut, noiseOps, List.drop, List.take]
  after_results
  rfl

theorem head_hi : StableHlo.after (cut 0 30) W (Proc.devRef .tc main_call3_call0_call0_v3) = (addi counters.1 (Cert.Noise.all bcast_S_S4x32768 (keyWord0 (W (Proc.devRef .tc main_v57)))) : IVec S4x32768 32) := by
  dsimp only [cut, noiseOps, List.drop, List.take]
  after_results
  rfl

theorem head_lo : StableHlo.after (cut 0 30) W (Proc.devRef .tc main_call3_call0_call0_v5) = (addi counters.2 (Cert.Noise.all bcast_S_S4x32768 (keyWord1 (W (Proc.devRef .tc main_v57)))) : IVec S4x32768 32) := by
  dsimp only [cut, noiseOps, List.drop, List.take]
  after_results
  rfl

/-! Four rounds and what is fed in after them. -/

theorem group1_fst : StableHlo.after (cut 30 43) W (Proc.devRef .tc main_call3_call0_call0_v35)
    = ((Cert.Noise.feed bcast_S_S4x32768 (W (Proc.devRef .tc main_call3_call0_v6)) (W (Proc.devRef .tc main_call3_call0_call0_v1)) 1 (Cert.Noise.foursA bcast_S_S4x32768 (W (Proc.devRef .tc main_call3_call0_call0_v3), W (Proc.devRef .tc main_call3_call0_call0_v5)))).1 : IVec S4x32768 32) := by
  dsimp only [cut, noiseOps, List.drop, List.take]
  after_reads_simp
  dsimp only [Cert.Noise.feed, Cert.Noise.foursA, Cert.Noise.turn]
  rfl

theorem group1_snd : StableHlo.after (cut 30 43) W (Proc.devRef .tc main_call3_call0_call0_v39)
    = ((Cert.Noise.feed bcast_S_S4x32768 (W (Proc.devRef .tc main_call3_call0_v6)) (W (Proc.devRef .tc main_call3_call0_call0_v1)) 1 (Cert.Noise.foursA bcast_S_S4x32768 (W (Proc.devRef .tc main_call3_call0_call0_v3), W (Proc.devRef .tc main_call3_call0_call0_v5)))).2 : IVec S4x32768 32) := by
  dsimp only [cut, noiseOps, List.drop, List.take]
  after_reads_simp
  dsimp only [Cert.Noise.feed, Cert.Noise.foursA, Cert.Noise.turn]
  rfl

theorem group2_fst : StableHlo.after (cut 73 43) W (Proc.devRef .tc main_call3_call0_call0_v69)
    = ((Cert.Noise.feed bcast_S_S4x32768 (W (Proc.devRef .tc main_call3_call0_call0_v1)) (W (Proc.devRef .tc main_call3_call0_v4)) 2 (Cert.Noise.foursB bcast_S_S4x32768 (W (Proc.devRef .tc main_call3_call0_call0_v35), W (Proc.devRef .tc main_call3_call0_call0_v39)))).1 : IVec S4x32768 32) := by
  dsimp only [cut, noiseOps, List.drop, List.take]
  after_reads_simp
  dsimp only [Cert.Noise.feed, Cert.Noise.foursB, Cert.Noise.turn]
  rfl

theorem group2_snd : StableHlo.after (cut 73 43) W (Proc.devRef .tc main_call3_call0_call0_v73)
    = ((Cert.Noise.feed bcast_S_S4x32768 (W (Proc.devRef .tc main_call3_call0_call0_v1)) (W (Proc.devRef .tc main_call3_call0_v4)) 2 (Cert.Noise.foursB bcast_S_S4x32768 (W (Proc.devRef .tc main_call3_call0_call0_v35), W (Proc.devRef .tc main_call3_call0_call0_v39)))).2 : IVec S4x32768 32) := by
  dsimp only [cut, noiseOps, List.drop, List.take]
  after_reads_simp
  dsimp only [Cert.Noise.feed, Cert.Noise.foursB, Cert.Noise.turn]
  rfl

theorem group3_fst : StableHlo.after (cut 116 43) W (Proc.devRef .tc main_call3_call0_call0_v103)
    = ((Cert.Noise.feed bcast_S_S4x32768 (W (Proc.devRef .tc main_call3_call0_v4)) (W (Proc.devRef .tc main_call3_call0_v6)) 3 (Cert.Noise.foursA bcast_S_S4x32768 (W (Proc.devRef .tc main_call3_call0_call0_v69), W (Proc.devRef .tc main_call3_call0_call0_v73)))).1 : IVec S4x32768 32) := by
  dsimp only [cut, noiseOps, List.drop, List.take]
  after_reads_simp
  dsimp only [Cert.Noise.feed, Cert.Noise.foursA, Cert.Noise.turn]
  rfl

theorem group3_snd : StableHlo.after (cut 116 43) W (Proc.devRef .tc main_call3_call0_call0_v107)
    = ((Cert.Noise.feed bcast_S_S4x32768 (W (Proc.devRef .tc main_call3_call0_v4)) (W (Proc.devRef .tc main_call3_call0_v6)) 3 (Cert.Noise.foursA bcast_S_S4x32768 (W (Proc.devRef .tc main_call3_call0_call0_v69), W (Proc.devRef .tc main_call3_call0_call0_v73)))).2 : IVec S4x32768 32) := by
  dsimp only [cut, noiseOps, List.drop, List.take]
  after_reads_simp
  dsimp only [Cert.Noise.feed, Cert.Noise.foursA, Cert.Noise.turn]
  rfl

theorem group4_fst : StableHlo.after (cut 159 43) W (Proc.devRef .tc main_call3_call0_call0_v137)
    = ((Cert.Noise.feed bcast_S_S4x32768 (W (Proc.devRef .tc main_call3_call0_v6)) (W (Proc.devRef .tc main_call3_call0_call0_v1)) 4 (Cert.Noise.foursB bcast_S_S4x32768 (W (Proc.devRef .tc main_call3_call0_call0_v103), W (Proc.devRef .tc main_call3_call0_call0_v107)))).1 : IVec S4x32768 32) := by
  dsimp only [cut, noiseOps, List.drop, List.take]
  after_reads_simp
  dsimp only [Cert.Noise.feed, Cert.Noise.foursB, Cert.Noise.turn]
  rfl

theorem group4_snd : StableHlo.after (cut 159 43) W (Proc.devRef .tc main_call3_call0_call0_v141)
    = ((Cert.Noise.feed bcast_S_S4x32768 (W (Proc.devRef .tc main_call3_call0_v6)) (W (Proc.devRef .tc main_call3_call0_call0_v1)) 4 (Cert.Noise.foursB bcast_S_S4x32768 (W (Proc.devRef .tc main_call3_call0_call0_v103), W (Proc.devRef .tc main_call3_call0_call0_v107)))).2 : IVec S4x32768 32) := by
  dsimp only [cut, noiseOps, List.drop, List.take]
  after_reads_simp
  dsimp only [Cert.Noise.feed, Cert.Noise.foursB, Cert.Noise.turn]
  rfl

theorem group5_fst : StableHlo.after (cut 202 43) W (Proc.devRef .tc main_call3_call0_v18_0)
    = ((Cert.Noise.feed bcast_S_S4x32768 (W (Proc.devRef .tc main_call3_call0_call0_v1)) (W (Proc.devRef .tc main_call3_call0_v4)) 5 (Cert.Noise.foursA bcast_S_S4x32768 (W (Proc.devRef .tc main_call3_call0_call0_v137), W (Proc.devRef .tc main_call3_call0_call0_v141)))).1 : IVec S4x32768 32) := by
  dsimp only [cut, noiseOps, List.drop, List.take]
  after_reads_simp
  dsimp only [Cert.Noise.feed, Cert.Noise.foursA, Cert.Noise.turn]
  rfl

theorem group5_snd : StableHlo.after (cut 202 43) W (Proc.devRef .tc main_call3_call0_v18_1)
    = ((Cert.Noise.feed bcast_S_S4x32768 (W (Proc.devRef .tc main_call3_call0_call0_v1)) (W (Proc.devRef .tc main_call3_call0_v4)) 5 (Cert.Noise.foursA bcast_S_S4x32768 (W (Proc.devRef .tc main_call3_call0_call0_v137), W (Proc.devRef .tc main_call3_call0_call0_v141)))).2 : IVec S4x32768 32) := by
  dsimp only [cut, noiseOps, List.drop, List.take]
  after_reads_simp
  dsimp only [Cert.Noise.feed, Cert.Noise.foursA, Cert.Noise.turn]
  rfl

theorem tail_read (h1 : W (Proc.devRef .tc main_call3_call0_v1) = (Cert.Noise.unit1 (F := F) bcast_S_S1x1 0x00800000#32 : Vec F S1x1 .f32))
    (h2 : W (Proc.devRef .tc main_call3_call0_v2) = (Cert.Noise.unit1 (F := F) bcast_S_S1x1 0x3F800000#32 : Vec F S1x1 .f32)) :
    StableHlo.after (cut 245 22) W (Proc.devRef .tc main_v61)
      = (Host.negf (Host.log (Host.negf (Host.log (Cert.Noise.uniform (F := F) bcast_S_S4x32768 (d := ![0, 1]) bcast_S1x1_S4x32768_0_1 bcast_S_S1x1
          (W (Proc.devRef .tc main_call3_call0_v18_0), W (Proc.devRef .tc main_call3_call0_v18_1)))))) : Vec F S4x32768 .f32) := by
  dsimp only [cut, noiseOps, List.drop, List.take]
  after_reads_simp
  unfold Cert.Noise.uniform
  rw [← h1, ← h2]
  rfl

/-- The noise buffer after the lines that draw it. -/
theorem noise_read :
    StableHlo.after noiseOps W (Proc.devRef .tc main_v61)
      = Cert.Noise.gumbel (F := F) (S := S4x32768) bcast_S_S4x32768 (d := ![0, 1]) bcast_S1x1_S4x32768_0_1 bcast_S_S1x1 (keyWord0 (W (Proc.devRef .tc main_v57))) (keyWord1 (W (Proc.devRef .tc main_v57)))
          counters.1 counters.2 := by
  have e0 := after_cut (F := F) 0 30 W
  obtain ⟨W1, hW1⟩ : ∃ W1, W1 = StableHlo.after (cut 0 30) W := ⟨_, rfl⟩
  have e1 := after_cut (F := F) 30 43 W1
  obtain ⟨W2, hW2⟩ : ∃ W2, W2 = StableHlo.after (cut 30 43) W1 := ⟨_, rfl⟩
  have e2 := after_cut (F := F) 73 43 W2
  obtain ⟨W3, hW3⟩ : ∃ W3, W3 = StableHlo.after (cut 73 43) W2 := ⟨_, rfl⟩
  have e3 := after_cut (F := F) 116 43 W3
  obtain ⟨W4, hW4⟩ : ∃ W4, W4 = StableHlo.after (cut 116 43) W3 := ⟨_, rfl⟩
  have e4 := after_cut (F := F) 159 43 W4
  obtain ⟨W5, hW5⟩ : ∃ W5, W5 = StableHlo.after (cut 159 43) W4 := ⟨_, rfl⟩
  have e5 := after_cut (F := F) 202 43 W5
  obtain ⟨W6, hW6⟩ : ∃ W6, W6 = StableHlo.after (cut 202 43) W5 := ⟨_, rfl⟩
  have e6 := after_cut (F := F) 245 22 W6
  rw [← hW1] at e0
  rw [← hW2] at e1
  rw [← hW3] at e2
  rw [← hW4] at e3
  rw [← hW5] at e4
  rw [← hW6] at e5
  have k2 : ∀ r ∈ keyRefs, W2 (Proc.devRef .tc r) = W1 (Proc.devRef .tc r) := fun r hr => by rw [hW2]; exact cut_kept W1 30 43 (by decide) r hr
  have k3 : ∀ r ∈ keyRefs, W3 (Proc.devRef .tc r) = W1 (Proc.devRef .tc r) := fun r hr => by rw [hW3, cut_kept W2 73 43 (by decide) r hr, k2 r hr]
  have k4 : ∀ r ∈ keyRefs, W4 (Proc.devRef .tc r) = W1 (Proc.devRef .tc r) := fun r hr => by rw [hW4, cut_kept W3 116 43 (by decide) r hr, k3 r hr]
  have k5 : ∀ r ∈ keyRefs, W5 (Proc.devRef .tc r) = W1 (Proc.devRef .tc r) := fun r hr => by rw [hW5, cut_kept W4 159 43 (by decide) r hr, k4 r hr]
  have k6 : ∀ r ∈ keyRefs, W6 (Proc.devRef .tc r) = W1 (Proc.devRef .tc r) := fun r hr => by rw [hW6, cut_kept W5 202 43 (by decide) r hr, k5 r hr]
  have m0 : (main_call3_call0_v4 : Ref sig .tc) ∈ keyRefs := .head _
  have m1 : (main_call3_call0_v6 : Ref sig .tc) ∈ keyRefs := .tail _ (.head _)
  have m2 : (main_call3_call0_call0_v1 : Ref sig .tc) ∈ keyRefs := .tail _ (.tail _ (.head _))
  have m3 : (main_call3_call0_v1 : Ref sig .tc) ∈ keyRefs := .tail _ (.tail _ (.tail _ (.head _)))
  have m4 : (main_call3_call0_v2 : Ref sig .tc) ∈ keyRefs := .tail _ (.tail _ (.tail _ (.tail _ (.head _))))
  have g1 := group1_fst W1; have g1' := group1_snd W1
  have g2 := group2_fst W2; have g2' := group2_snd W2
  have g3 := group3_fst W3; have g3' := group3_snd W3
  have g4 := group4_fst W4; have g4' := group4_snd W4
  have g5 := group5_fst W5; have g5' := group5_snd W5
  have t1 : W6 (Proc.devRef .tc main_call3_call0_v1) = _ := (k6 _ m3).trans (hW1 ▸ head_tiny W)
  have t2 : W6 (Proc.devRef .tc main_call3_call0_v2) = _ := (k6 _ m4).trans (hW1 ▸ head_one W)
  have hr := tail_read W6 t1 t2
  rw [← hW2] at g1 g1'
  rw [← hW3, k2 _ m2, k2 _ m0, g1, g1'] at g2 g2'
  rw [← hW4, k3 _ m0, k3 _ m1, g2, g2'] at g3 g3'
  rw [← hW5, k4 _ m1, k4 _ m2, g3, g3'] at g4 g4'
  rw [← hW6, k5 _ m2, k5 _ m0, g4, g4'] at g5 g5'
  rw [g5, g5'] at hr
  have i0 : W1 (Proc.devRef .tc main_call3_call0_v4) = _ := hW1 ▸ head_k0 W
  have i1 : W1 (Proc.devRef .tc main_call3_call0_v6) = _ := hW1 ▸ head_k1 W
  have i2 : W1 (Proc.devRef .tc main_call3_call0_call0_v1) = _ := hW1 ▸ head_k2 W
  have i3 : W1 (Proc.devRef .tc main_call3_call0_call0_v3) = _ := hW1 ▸ head_hi W
  have i4 : W1 (Proc.devRef .tc main_call3_call0_call0_v5) = _ := hW1 ▸ head_lo W
  rw [i0, i1, i2, i3, i4] at hr
  refine (congrFun (e0.trans (e1.trans (e2.trans (e3.trans (e4.trans (e5.trans e6)))))) _).trans (Eq.trans ?_ hr)
  rfl

end

end Cert.ReferenceIdeal.Hand
end
-- ==== Proof.RefValues.lean ====
module

public import proofs.«01_k».proof.Proof.RefRun
public import proofs.«01_k».proof.Proof.NoiseRef

@[expose] public section

noncomputable section

namespace Cert.ReferenceIdeal.Hand

open Cert.ReferenceIdeal Cert.ReferenceIdeal.Gen
open Idealize.ShloMosaic Idealize.ShloMosaic.TcCoe

variable {F : FTy → Type} [FloatOps F] [∀ e, Nonempty (Elt F e)]

/-! What the reference's results are, as functions of its arguments. -/

/-- The queries. -/
def queriesR (x1 : Vec F S4x1x512 .f32) (x4 : Vec F S512x256 .f32) (x5 : Vec F S256 .f32) (x6 : Vec F S256x128 .f32) (x7 : Vec F S128 .f32) : Vec F S4x1x128 .f32 :=
  addf (Host.dotGeneral dot_S4x1x256_S256x128_S4x1x128_2_0_01_1_n_n none
    (maximumf (addf (Host.dotGeneral dot_S4x1x512_S512x256_S4x1x256_2_0_01_1_n_n none x1 x4)
        (broadcastInDim S4x1x256 ![0, 1, 2] bcast_S1x1x256_S4x1x256_0_1_2 (broadcastInDim S1x1x256 ![2] bcast_S256_S1x1x256_2 x5)))
      (broadcastInDim S4x1x256 ![] bcast_S_S4x1x256 (constant S_ .f32 0x00000000#32))) x6)
    (broadcastInDim S4x1x128 ![0, 1, 2] bcast_S1x1x128_S4x1x128_0_1_2 (broadcastInDim S1x1x128 ![2] bcast_S128_S1x1x128_2 x7))

/-- The keys. -/
def keysR (x2 : Vec F S4x1x16x2048x256 .f32) (x8 : Vec F S256x256 .f32) (x9 : Vec F S256 .f32) (x10 : Vec F S256x128 .f32) (x11 : Vec F S128 .f32) :
    Vec F S4x1x16x2048x128 .f32 :=
  addf (Host.dotGeneral dot_S4x1x16x2048x256_S256x128_S4x1x16x2048x128_4_0_0123_1_n_n none
    (maximumf (addf (Host.dotGeneral dot_S4x1x16x2048x256_S256x256_S4x1x16x2048x256_4_0_0123_1_n_n none x2 x8)
        (broadcastInDim S4x1x16x2048x256 ![0, 1, 2, 3, 4] bcast_S1x1x1x1x256_S4x1x16x2048x256_0_1_2_3_4 (broadcastInDim S1x1x1x1x256 ![4] bcast_S256_S1x1x1x1x256_4 x9)))
      (broadcastInDim S4x1x16x2048x256 ![] bcast_S_S4x1x16x2048x256 (constant S_ .f32 0x00000000#32))) x10)
    (broadcastInDim S4x1x16x2048x128 ![0, 1, 2, 3, 4] bcast_S1x1x1x1x128_S4x1x16x2048x128_0_1_2_3_4 (broadcastInDim S1x1x1x1x128 ![4] bcast_S128_S1x1x1x1x128_4 x11))

/-- The logits, from the queries and the keys. -/
def logitsR (q : Vec F S4x1x128 .f32) (k : Vec F S4x1x16x2048x128 .f32) : Vec F S4x1x32768 .f32 :=
  shapeCast S4x1x32768 (broadcastInDim S4x1x16x1x2048 ![0, 2, 3, 4] bcast_S4x16x1x2048_S4x1x16x1x2048_0_2_3_4
    (transpose S4x16x1x2048 [0, 2, 1, 3] (Host.dotGeneral dot_S4x1x128_S4x16x128x2048_S4x1x16x2048_2_2_1_13_0_0 none
        (shapeCast S4x1x128 (shapeCast S4x1x1x1x128 q shapeCasts_S4x1x128_S4x1x1x1x128) shapeCasts_S4x1x1x1x128_S4x1x128)
        (shapeCast S4x16x128x2048 (transpose S4x1x16x128x2048 [0, 1, 2, 4, 3] k transposes_S4x1x16x2048x128_S4x1x16x128x2048_0_1_2_4_3) shapeCasts_S4x1x16x128x2048_S4x16x128x2048))
      transposes_S4x1x16x2048_S4x16x1x2048_0_2_1_3)) shapeCasts_S4x1x16x1x2048_S4x1x32768

/-- The mask as rows. -/
def maskR (x3 : IVec S4x1x16x2048 1) : IVec S4x32768 1 := shapeCast S4x32768 x3 shapeCasts_S4x1x16x2048_S4x32768

/-- The legal bits: the mask, or ones where the mask has none. -/
def legalR (x3 : IVec S4x1x16x2048 1) : IVec S4x1x32768 1 :=
  shapeCast S4x1x32768 (select (broadcastInDim S4x32768 ![] bcast_S_S4x32768
      (cmpi .eq (Host.reduce IntOp.addi (extui 32 (maskR x3) natLt_1_32) (constantI S_ 32 0#32) reducesTo_S4x32768_S_d0_1 h_S_) (constantI S_ 32 0#32)))
    (broadcastInDim S4x32768 ![] bcast_S_S4x32768 (constantI S_ 1 1#1)) (maskR x3)) shapeCasts_S4x32768_S4x1x32768

/-- The logits with the illegal places at the least. -/
def maskedR (g : IVec S4x1x32768 1) (l : Vec F S4x1x32768 .f32) : Vec F S4x1x32768 .f32 :=
  select g l (broadcastInDim S4x1x32768 ![0, 1, 2] bcast_S4x1x1_S4x1x32768_0_1_2 (broadcastInDim S4x1x1 ![0, 1] bcast_S4x1_S4x1x1_0_1
    (Host.reduce FloatOps.minimumf l (constant S_ .f32 0x7F800000#32) reducesTo_S4x1x32768_S4x1_d2 h_S_)))

/-- The weights, from the logits with the illegal places at the least. -/
def weightsOf (g : IVec S4x1x32768 1) (l : Vec F S4x1x32768 .f32) : Vec F S4x1x32768 .f32 :=
  select g (Host.exp (mulf (subf l (broadcastInDim S4x1x32768 ![0, 1, 2] bcast_S4x1x1_S4x1x32768_0_1_2 (broadcastInDim S4x1x1 ![0, 1] bcast_S4x1_S4x1x1_0_1
      (Host.reduce FloatOps.maximumf l (constant S_ .f32 0xFF800000#32) reducesTo_S4x1x32768_S4x1_d2 h_S_)))) (uitofp .f32 g)))
    (broadcastInDim S4x1x32768 ![] bcast_S_S4x1x32768 (constant S_ .f32 0x00000000#32))

/-- Every weight's share of its row's sum. -/
def sharesOf (e : Vec F S4x1x32768 .f32) : Vec F S4x1x32768 .f32 :=
  Host.divf e (broadcastInDim S4x1x32768 ![0, 1, 2] bcast_S4x1x1_S4x1x32768_0_1_2 (broadcastInDim S4x1x1 ![0, 1] bcast_S4x1_S4x1x1_0_1
    (Host.reduceAdd e (constant S_ .f32 0x00000000#32) reducesTo_S4x1x32768_S4x1_d2 h_S_)))

/-- The policy. -/
def policyR (g : IVec S4x1x32768 1) (l : Vec F S4x1x32768 .f32) : Vec F S4x1x32768 .f32 := sharesOf (weightsOf g (maskedR g l))

/-- The raised policy's logarithms, as rows. -/
def logsR (p : Vec F S4x1x32768 .f32) : Vec F S4x32768 .f32 :=
  Host.log (addf (shapeCast S4x32768 p shapeCasts_S4x1x32768_S4x32768) (broadcastInDim S4x32768 ![] bcast_S_S4x32768 (constant S_ .f32 0x1E3CE508#32)))

/-- The index words. -/
def wordsR (y : Vec F S4x32768 .f32) : IVec S4 32 := fun j =>
  (Host.argReduce reducer_argmax_f32_i32 y (iotaInDim S4x32768 32 1) (constant S_ .f32 0xFF800000#32) (constantI S_ 32 0#32) reducesTo_S4x32768_S4_d1 h_S_ j).2

/-- The rows' numbers in the table. -/
def numbersR (w : IVec S4 32) : IVec S4x1 32 :=
  addi (broadcastInDim S4x1 ![0] bcast_S4_S4x1_0 w) (broadcastInDim S4x1 ![0, 1] bcast_S1x1_S4x1_0_1 (broadcastInDim S1x1 ![1] bcast_S1_S1x1_1
    (addi (broadcastInDim S1 ![] bcast_S_S1 (constantI S_ 32 0#32)) (muli (broadcastInDim S1 ![] bcast_S_S1 (constantI S_ 32 4#32)) (iotaInDim S1 32 0)))))

/-- The gathered rows. -/
def rowsR (x2 : Vec F S4x1x16x2048x256 .f32) (n : IVec S4x1 32) : Vec F S4x1x256 .f32 :=
  Host.gather gather_S131072x256_S4x1x1_S4x1x256_2_0_n_n_0_2_1256 (shapeCast S131072x256 x2 shapeCasts_S4x1x16x2048x256_S131072x256)
    (broadcastInDim S4x1x1 ![0, 1] bcast_S4x1_S4x1x1_0_1 (select (cmpi .slt n (broadcastInDim S4x1 ![] bcast_S_S4x1 (constantI S_ 32 0#32)))
      (addi n (broadcastInDim S4x1 ![] bcast_S_S4x1 (constantI S_ 32 131072#32))) n))

/-- The projected rows. -/
def projR (r : Vec F S4x1x256 .f32) (x12 : Vec F S256x512 .f32) (x13 : Vec F S512 .f32) : Vec F S4x1x512 .f32 :=
  addf (Host.dotGeneral dot_S4x1x256_S256x512_S4x1x512_2_0_01_1_n_n none r x12)
    (broadcastInDim S4x1x512 ![0, 1, 2] bcast_S1x1x512_S4x1x512_0_1_2 (broadcastInDim S1x1x512 ![2] bcast_S512_S1x1x512_2 x13))

/-- The embedding returned. -/
def chosenR (x0 : IVec S4x1 32) (x1 p : Vec F S4x1x512 .f32) : Vec F S4x1x512 .f32 :=
  select (broadcastInDim S4x1x512 ![0, 1, 2] bcast_S4x1x1_S4x1x512_0_1_2 (broadcastInDim S4x1x1 ![0, 1] bcast_S4x1_S4x1x1_0_1
    (cmpi .eq x0 (broadcastInDim S4x1 ![] bcast_S_S4x1 (constantI S_ 32 0#32))))) (addf x1 p) x1

/-- The generator's key. -/
abbrev theKey : IVec S2 32 :=
  concatenate S2 0 [⟨S1, broadcastInDim S1 ![] bcast_S_S1 (Host.shrui (constantI S_ 32 42#32) (constantI S_ 32 32#32))⟩,
    ⟨S1, broadcastInDim S1 ![] bcast_S_S1 (andi (constantI S_ 32 42#32) (constantI S_ 32 4294967295#32))⟩] concatenates_S1_S1_S2_d0

section
variable (W : Valuation τ sig (Elt F))

theorem logit_read : StableHlo.after logitOps W (Proc.devRef .tc main_v27)
    = (logitsR (queriesR (W (Proc.devRef .tc main_arg1)) (W (Proc.devRef .tc main_arg4)) (W (Proc.devRef .tc main_arg5)) (W (Proc.devRef .tc main_arg6)) (W (Proc.devRef .tc main_arg7)))
        (keysR (W (Proc.devRef .tc main_arg2)) (W (Proc.devRef .tc main_arg8)) (W (Proc.devRef .tc main_arg9)) (W (Proc.devRef .tc main_arg10)) (W (Proc.devRef .tc main_arg11))) : Vec F S4x1x32768 .f32) := by
  after_reads_simp
  rfl

/-! The lines of the policy, in four groups. -/

/-- The lines `a`, …, `a + b - 1` of those that compute the policy. -/
abbrev part (a b : ℕ) : List (HloOp τ sig (Elt F)) := (policyOps.drop a).take b

theorem parts : (policyOps : List (HloOp τ sig (Elt F))) = part 0 10 ++ (part 10 5 ++ (part 15 12 ++ part 27 6)) := rfl

theorem legal_read : StableHlo.after (part 0 10) W (Proc.devRef .tc main_v34) = (legalR (W (Proc.devRef .tc main_arg3)) : IVec S4x1x32768 1) := by
  dsimp only [part, policyOps, List.drop, List.take]
  after_reads_simp
  simp only [StableHlo.TRef.toBuf, StableHlo.TRef.ofBuf, cast_cast, cast_eq]
  rfl
theorem legal_logit : StableHlo.after (part 0 10) W (Proc.devRef .tc main_v27) = W (Proc.devRef .tc main_v27) := by
  dsimp only [part, policyOps, List.drop, List.take]
  after_results
theorem masked_read : StableHlo.after (part 10 5) W (Proc.devRef .tc main_v37) = (maskedR (W (Proc.devRef .tc main_v34)) (W (Proc.devRef .tc main_v27)) : Vec F S4x1x32768 .f32) := by
  dsimp only [part, policyOps, List.drop, List.take]
  after_reads_simp
  simp only [StableHlo.TRef.toBuf, StableHlo.TRef.ofBuf, cast_cast, cast_eq]
  rfl
theorem masked_legal : StableHlo.after (part 10 5) W (Proc.devRef .tc main_v34) = W (Proc.devRef .tc main_v34) := by
  dsimp only [part, policyOps, List.drop, List.take]
  after_results
theorem weights_read : StableHlo.after (part 15 12) W (Proc.devRef .tc main_v45) = (weightsOf (W (Proc.devRef .tc main_v34)) (W (Proc.devRef .tc main_v37)) : Vec F S4x1x32768 .f32) := by
  dsimp only [part, policyOps, List.drop, List.take]
  after_reads_simp
  rfl
theorem shares_read : StableHlo.after (part 27 6) W (Proc.devRef .tc main_v49) = (sharesOf (W (Proc.devRef .tc main_v45)) : Vec F S4x1x32768 .f32) := by
  dsimp only [part, policyOps, List.drop, List.take]
  after_results
  rfl
theorem shares_rows : StableHlo.after (part 27 6) W (Proc.devRef .tc main_v50) = (shapeCast S4x32768 (sharesOf (W (Proc.devRef .tc main_v45)) : Vec F S4x1x32768 .f32) shapeCasts_S4x1x32768_S4x32768 : Vec F S4x32768 .f32) := by
  dsimp only [part, policyOps, List.drop, List.take]
  after_results
  rfl

theorem policy_read : StableHlo.after policyOps W (Proc.devRef .tc main_v49)
    = (policyR (legalR (W (Proc.devRef .tc main_arg3))) (W (Proc.devRef .tc main_v27)) : Vec F S4x1x32768 .f32) := by
  rw [parts, after_two, after_two, after_two, shares_read, weights_read, masked_read, masked_legal, legal_read, legal_logit]
  rfl

theorem policy_rows : StableHlo.after policyOps W (Proc.devRef .tc main_v50)
    = (shapeCast S4x32768 (policyR (legalR (W (Proc.devRef .tc main_arg3))) (W (Proc.devRef .tc main_v27)) : Vec F S4x1x32768 .f32) shapeCasts_S4x1x32768_S4x32768 : Vec F S4x32768 .f32) := by
  rw [parts, after_two, after_two, after_two, shares_rows, weights_read, masked_read, masked_legal, legal_read, legal_logit]
  rfl

theorem key_read : StableHlo.after keyOps W (Proc.devRef .tc main_v57) = theKey := by
  after_results
  rfl

theorem logs_read : StableHlo.after keyOps W (Proc.devRef .tc main_v60)
    = (Host.log (addf (W (Proc.devRef .tc main_v50)) (broadcastInDim S4x32768 ![] bcast_S_S4x32768 (constant S_ .f32 0x1E3CE508#32))) : Vec F S4x32768 .f32) := by
  after_results

theorem words_read : StableHlo.after pickOps W (Proc.devRef .tc main_v65)
    = (shapeCast S4x1x1 (broadcastInDim S4x1 ![0] bcast_S4_S4x1_0 (wordsR (addf (F := F) (s := S4x32768) (φ := .f32) (W (Proc.devRef .tc main_v61)) (W (Proc.devRef .tc main_v60))))) shapeCasts_S4x1_S4x1x1 : IVec S4x1x1 32) := by
  after_reads_simp
  rfl

theorem rows_read : StableHlo.after pickOps W (Proc.devRef .tc main_v81)
    = (rowsR (W (Proc.devRef .tc main_arg2)) (numbersR (wordsR (addf (F := F) (s := S4x32768) (φ := .f32) (W (Proc.devRef .tc main_v61)) (W (Proc.devRef .tc main_v60))))) : Vec F S4x1x256 .f32) := by
  after_reads_simp
  rfl

theorem proj_read : StableHlo.after projOps W (Proc.devRef .tc main_v85)
    = (projR (W (Proc.devRef .tc main_v81)) (W (Proc.devRef .tc main_arg12)) (W (Proc.devRef .tc main_arg13)) : Vec F S4x1x512 .f32) := by
  after_results
  rfl

theorem chosen_read : StableHlo.after projOps W (Proc.devRef .tc main_v90)
    = (chosenR (W (Proc.devRef .tc main_arg0)) (W (Proc.devRef .tc main_arg1)) (projR (W (Proc.devRef .tc main_v81)) (W (Proc.devRef .tc main_arg12)) (W (Proc.devRef .tc main_arg13))) : Vec F S4x1x512 .f32) := by
  after_results
  rfl

end

end Cert.ReferenceIdeal.Hand
end
-- ==== Proof.RefEntries.lean ====
module

public import proofs.«01_k».proof.Proof.RefValues
public import proofs.«01_k».proof.Proof.Values
public import Idealize.ShloMosaic.Lib.Pointwise
public import Idealize.ShloMosaic.Lib.Pointwise.Tactic

@[expose] public section

noncomputable section

namespace Cert.ReferenceIdeal.Hand

open Cert.ReferenceIdeal Cert.ReferenceIdeal.Gen
open Idealize.ShloMosaic
open Cert.Values (mlp policy num place)

set_option maxRecDepth 16384

/-! The reference's values at the ideal arithmetic, entry by entry. -/

theorem queries_val (x1 : Vec Ideal S4x1x512 .f32) (x4 : Vec Ideal S512x256 .f32) (x5 : Vec Ideal S256 .f32) (x6 : Vec Ideal S256x128 .f32) (x7 : Vec Ideal S128 .f32) (b : Fin 4) (o : Fin 128) :
    queriesR x1 x4 x5 x6 x7 (ix3 b (0 : Fin 1) o) = mlp (fun i : Fin 512 => x1 (ix3 b (0 : Fin 1) i)) (fun (i : Fin 512) (k : Fin 256) => x4 (ix2 i k)) (fun k : Fin 256 => x5 (ix1 k))
      (fun (k : Fin 256) (o : Fin 128) => x6 (ix2 k o)) (fun o : Fin 128 => x7 (ix1 o)) o := by
  pointwise [queriesR, mlp]

theorem keys_val (x2 : Vec Ideal S4x1x16x2048x256 .f32) (x8 : Vec Ideal S256x256 .f32) (x9 : Vec Ideal S256 .f32) (x10 : Vec Ideal S256x128 .f32) (x11 : Vec Ideal S128 .f32) (b : Fin 4) (p : Fin 16) (r : Fin 2048) (o : Fin 128) :
    keysR x2 x8 x9 x10 x11 (ix5 b (0 : Fin 1) p r o) = mlp (fun i : Fin 256 => x2 (ix5 b (0 : Fin 1) p r i)) (fun (i : Fin 256) (k : Fin 256) => x8 (ix2 i k)) (fun k : Fin 256 => x9 (ix1 k))
      (fun (k : Fin 256) (o : Fin 128) => x10 (ix2 k o)) (fun o : Fin 128 => x11 (ix1 o)) o := by
  pointwise [keysR, mlp]

theorem logits_val (q : Vec Ideal S4x1x128 .f32) (k : Vec Ideal S4x1x16x2048x128 .f32) (b : Fin 4) (n : Fin 32768) :
    logitsR q k (ix3 b (0 : Fin 1) n) = Cert.Values.inner (fun o : Fin 128 => q (ix3 b (0 : Fin 1) o)) (fun o : Fin 128 => k (ix5 b (0 : Fin 1) (⟨n.val / 2048, by omega⟩ : Fin 16) (⟨n.val % 2048, by omega⟩ : Fin 2048) o)) := by
  pointwise [logitsR, Cert.Values.inner]

theorem policy_entry (g : IVec S4x1x32768 1) (l : Vec Ideal S4x1x32768 .f32) (b : Fin 4) (n : Fin 32768) :
    policyR g l (ix3 b (0 : Fin 1) n) = policy (fun n => l (ix3 b (0 : Fin 1) n)) (fun n => g (ix3 b (0 : Fin 1) n)) n := by
  have e1 : Ideal.ofBits FTy.f32 2139095040#32 = ⊤ := by simp [Ideal.ofBits, Ideal.ieee]
  have e2 : Ideal.ofBits FTy.f32 4286578688#32 = ⊥ := by simp [Ideal.ofBits, Ideal.ieee]
  pointwise [policyR, sharesOf, weightsOf, maskedR, policy, Cert.Values.weight, Cert.Values.masked, Cert.Values.most, Cert.Values.least]
  simp only [e1, e2, Cert.Values.bit_num]
  rfl

theorem mask_val (x3 : IVec S4x1x16x2048 1) (b : Fin 4) (n : Fin 32768) :
    maskR x3 (ix2 b n) = x3 (ix4 b (0 : Fin 1) (⟨n.val / 2048, by omega⟩ : Fin 16) (⟨n.val % 2048, by omega⟩ : Fin 2048)) := by
  pointwise [maskR]

/-- A sum of bits that cannot overflow, as a number. -/
theorem fold_bits {ι : Type} (s : Finset ι) (f : ι → BitVec 32) (hf : ∀ i, (f i).toNat ≤ 1) (hs : s.card < 2 ^ 32) :
    (s.fold IntOp.addi 0#32 f).toNat = ∑ i ∈ s, (f i).toNat := by
  classical
  induction s using Finset.induction_on with
  | empty => rfl
  | insert a s ha ih =>
    have hc : s.card < 2 ^ 32 := by rw [Finset.card_insert_of_notMem ha] at hs; omega
    rw [Finset.fold_insert ha, Finset.sum_insert ha, ← ih hc]
    show (f a + s.fold IntOp.addi 0#32 f).toNat = _
    have hle : ∑ i ∈ s, (f i).toNat ≤ s.card := (Finset.sum_le_sum fun i _ => hf i).trans (by simp)
    rw [BitVec.toNat_add, Nat.mod_eq_of_lt]
    rw [ih hc]
    have := hf a
    rw [Finset.card_insert_of_notMem ha] at hs
    omega

/-- The mask's bits, a row per batch element. -/
def bitsR (x3 : IVec S4x1x16x2048 1) (b : Fin 4) (n : Fin 32768) : BitVec 1 := maskR x3 (ix2 b n)

theorem fold_zero (x3 : IVec S4x1x16x2048 1) :
    (Finset.univ : Finset (Fin 4 × Fin 32768)).fold IntOp.addi (0#32) (fun k => BitVec.setWidth 32 (maskR x3 (ix2 k.1 k.2))) = 0#32 ↔ Cert.Values.NoMoves (bitsR x3) := by
  have hw (g : BitVec 1) : (BitVec.setWidth 32 g).toNat = g.toNat := by
    rcases BitVec.eq_zero_or_eq_one g with rfl | rfl <;> rfl
  have h := fold_bits (Finset.univ : Finset (Fin 4 × Fin 32768)) (fun k => BitVec.setWidth 32 (maskR x3 (ix2 k.1 k.2)))
    (fun k => by rw [hw]; have := (maskR x3 (ix2 k.1 k.2)).isLt; omega) (by rw [Finset.card_univ, Fintype.card_prod, Fintype.card_fin, Fintype.card_fin]; decide)
  rw [← BitVec.toNat_inj, h, BitVec.toNat_ofNat, Nat.zero_mod, Finset.sum_eq_zero_iff]
  constructor
  · intro e b n
    have := e (b, n) (Finset.mem_univ _)
    rw [hw] at this
    exact BitVec.eq_of_toNat_eq this
  · intro e k _
    rw [hw]
    exact congrArg BitVec.toNat (e k.1 k.2)

theorem legal_val (x3 : IVec S4x1x16x2048 1) (b : Fin 4) (n : Fin 32768) :
    legalR x3 (ix3 b (0 : Fin 1) n) = Cert.Values.legal (bitsR x3) b n := by
  have h := fold_zero x3
  unfold Cert.Values.legal
  pointwise [legalR]
  show (if BitVec.ofBool ((_ : BitVec 32) == 0#32) = 1#1 then _ else _) = _
  by_cases hn : Cert.Values.NoMoves (bitsR x3)
  · rw [if_pos hn, h.mpr hn]; rfl
  · rw [if_neg hn, beq_eq_false_iff_ne.mpr (fun e => hn (h.mp e))]; rfl

theorem proj_entry (r : Vec Ideal S4x1x256 .f32) (x12 : Vec Ideal S256x512 .f32) (x13 : Vec Ideal S512 .f32) (b : Fin 4) (o : Fin 512) :
    projR r x12 x13 (ix3 b (0 : Fin 1) o) = (∑ i : Fin 256, r (ix3 b (0 : Fin 1) i) * x12 (ix2 i o)) + x13 (ix1 o) := by
  pointwise [projR]

theorem numbers_val (w : IVec S4 32) (b : Fin 4) : numbersR w (ix2 b (0 : Fin 1)) = w (ix1 b) := by
  pointwise [numbersR]
  show w (ix1 b) + (0#32 + 4#32 * 0#32) = w (ix1 b)
  rw [BitVec.mul_zero, BitVec.add_zero, BitVec.add_zero]

/-- The gathered row: the table's at the number read as a signed integer and kept within the table. -/
theorem gather_val (x : Vec Ideal S131072x256 .f32) (idx : IVec S4x1x1 32) (b : Fin 4) (i : Fin 256) :
    Host.gather gather_S131072x256_S4x1x1_S4x1x256_2_0_n_n_0_2_1256 x idx (ix3 b (0 : Fin 1) i)
      = x (ix2 (⟨min (idx (ix3 b (0 : Fin 1) (0 : Fin 1))).toInt.toNat 131071, by omega⟩ : Fin 131072) i) := by
  unfold Host.gather
  refine congrArg x (funext fun a => Fin.ext ?_)
  show gather_S131072x256_S4x1x1_S4x1x256_2_0_n_n_0_2_1256.start _ idx a + gather_S131072x256_S4x1x1_S4x1x256_2_0_n_n_0_2_1256.batchCoord _ a
    + gather_S131072x256_S4x1x1_S4x1x256_2_0_n_n_0_2_1256.offCoord _ a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    have hm : (⟨0, by decide⟩ : Fin S131072x256.rank) ∈ gather_S131072x256_S4x1x1_S4x1x256_2_0_n_n_0_2_1256.startIndexMap := List.mem_singleton.mpr rfl
    rw [dif_pos hm]
    have e : gather_S131072x256_S4x1x1_S4x1x256_2_0_n_n_0_2_1256.siIdx (ix3 b (0 : Fin 1) i) ⟨List.idxOf (0 : Fin 2) gather_S131072x256_S4x1x1_S4x1x256_2_0_n_n_0_2_1256.startIndexMap,
        List.idxOf_lt_length_iff.2 (List.mem_singleton.mpr rfl)⟩ = ix3 b (0 : Fin 1) (0 : Fin 1) := by
      funext k
      match k with
      | ⟨0, _⟩ => rfl
      | ⟨1, _⟩ => rfl
      | ⟨2, _⟩ => rfl
    exact congrArg (fun z => min (idx z).toInt.toNat 131071) e
  | ⟨1, _⟩ =>
    unfold GatherDims.start
    have hm : (⟨1, by decide⟩ : Fin S131072x256.rank) ∉ gather_S131072x256_S4x1x1_S4x1x256_2_0_n_n_0_2_1256.startIndexMap :=
      fun h => absurd (congrArg Fin.val (List.mem_singleton.mp h)) Nat.one_ne_zero
    have ho : (⟨1, by decide⟩ : Fin S131072x256.rank) ∈ gather_S131072x256_S4x1x1_S4x1x256_2_0_n_n_0_2_1256.sKept :=
      (GatherDims.mem_sKept _ _).mpr ⟨hm, List.not_mem_nil⟩
    rw [dif_neg hm]
    unfold GatherDims.offCoord
    rw [dif_pos ho]
    show 0 + 0 + i.val = i.val
    omega

theorem rows_val (x2 : Vec Ideal S4x1x16x2048x256 .f32) (n : IVec S4x1 32) (b : Fin 4) (i : Fin 256) (h : (n (ix2 b (0 : Fin 1))).toNat < 131072) :
    rowsR x2 n (ix3 b (0 : Fin 1) i) = shapeCast S131072x256 x2 shapeCasts_S4x1x16x2048x256_S131072x256 (ix2 (⟨(n (ix2 b (0 : Fin 1))).toNat, h⟩ : Fin 131072) i) := by
  unfold rowsR
  rw [gather_val]
  refine congrArg (fun z => shapeCast S131072x256 x2 shapeCasts_S4x1x16x2048x256_S131072x256 (ix2 z i)) (Fin.ext ?_)
  have hi : (n (ix2 b (0 : Fin 1))).toInt = (n (ix2 b (0 : Fin 1))).toNat := BitVec.toInt_eq_toNat_of_lt (by omega)
  have hs : ¬ (n (ix2 b (0 : Fin 1))).slt 0#32 := by rw [BitVec.slt_iff_toInt_lt, hi]; simp
  have e : (broadcastInDim S4x1x1 ![0, 1] bcast_S4x1_S4x1x1_0_1 (select (cmpi .slt n (broadcastInDim S4x1 ![] bcast_S_S4x1 (constantI S_ 32 0#32)))
      (addi n (broadcastInDim S4x1 ![] bcast_S_S4x1 (constantI S_ 32 131072#32))) n)) (ix3 b (0 : Fin 1) (0 : Fin 1)) = n (ix2 b (0 : Fin 1)) := by
    pointwise
    show (if BitVec.ofBool ((n (ix2 b (0 : Fin 1))).slt 0#32) = 1#1 then _ else _) = _
    rw [Bool.not_eq_true _ |>.mp hs]
    rfl
  show min (_ : BitVec 32).toInt.toNat 131071 = _
  rw [e, hi, Int.toNat_natCast]
  exact min_eq_left (by omega)

/-- Rows of the table with the same number are the same row. -/
theorem row_same (T : Vec Ideal S131072x256 .f32) (i : Fin 256) (a b : ℕ) (ha : a < 131072) (hb : b < 131072) (h : a = b) :
    T (ix2 (⟨a, ha⟩ : Fin 131072) i) = T (ix2 (⟨b, hb⟩ : Fin 131072) i) := by
  subst h
  rfl

theorem logs_val (p : Vec Ideal S4x1x32768 .f32) (b : Fin 4) (n : Fin 32768) :
    logsR p (ix2 b n) = Ideal.log (p (ix3 b (0 : Fin 1) n) + Ideal.ofBits .f32 0x1E3CE508#32) := by
  pointwise [logsR]

end Cert.ReferenceIdeal.Hand
end
-- ==== Proof.RefWhole.lean ====
module

public import proofs.«01_k».proof.Proof.RefValues

@[expose] public section

noncomputable section

namespace Cert.ReferenceIdeal.Hand

open Cert.ReferenceIdeal Cert.ReferenceIdeal.Gen
open Idealize.ShloMosaic Idealize.ShloMosaic.TcCoe

variable {F : FTy → Type} [FloatOps F] [∀ e, Nonempty (Elt F e)]

/-! The results the reference ends with, as functions of its arguments: the groups of lines read one after another. -/

/-- What each group of lines leaves alone. -/
theorem still (W : Valuation τ sig (Elt F)) (r : Ref sig .tc) :
    (r ∈ argRefs → StableHlo.after logitOps W (Proc.devRef .tc r) = W (Proc.devRef .tc r))
    ∧ (r ∈ main_v27 :: argRefs → StableHlo.after policyOps W (Proc.devRef .tc r) = W (Proc.devRef .tc r))
    ∧ (r ∈ main_v27 :: main_v49 :: argRefs → StableHlo.after keyOps W (Proc.devRef .tc r) = W (Proc.devRef .tc r))
    ∧ (r ∈ main_v60 :: main_v27 :: main_v49 :: argRefs → StableHlo.after noiseOps W (Proc.devRef .tc r) = W (Proc.devRef .tc r))
    ∧ (r ∈ main_v27 :: main_v49 :: argRefs → StableHlo.after pickOps W (Proc.devRef .tc r) = W (Proc.devRef .tc r))
    ∧ (r ∈ main_v65 :: main_v27 :: main_v49 :: argRefs → StableHlo.after projOps W (Proc.devRef .tc r) = W (Proc.devRef .tc r)) := by
  refine ⟨fun hr => ?_, fun hr => ?_, fun hr => ?_, fun hr => ?_, fun hr => ?_, fun hr => ?_⟩
  all_goals
    refine StableHlo.after_of_forall_not_mem _ _ (List.forall_iff_forall_mem.mp ?_)
    simp only [List.Forall, StableHlo.nullary_writes, StableHlo.unary_writes, StableHlo.binary_writes, StableHlo.ternary_writes, StableHlo.quaternary_writes, StableHlo.reshape_writes, Finset.mem_singleton]
    repeat' apply And.intro
    all_goals exact StableHlo.devRef_ne_of_ne (fun e => absurd (e ▸ hr) (by decide))

/-- The noise of the reference. -/
def noiseR : Vec F S4x32768 .f32 := Cert.Noise.gumbel (F := F) (S := S4x32768) bcast_S_S4x32768 (d := ![0, 1]) bcast_S1x1_S4x32768_0_1 bcast_S_S1x1
  (keyWord0 theKey) (keyWord1 theKey) counters.1 counters.2

/-- The scores whose first largest place is drawn: the policy's logarithms with the noise. -/
def scoresR (p : Vec F S4x1x32768 .f32) : Vec F S4x32768 .f32 := addf noiseR (logsR p)

section
variable (W : Valuation τ sig (Elt F))

/-- All logits, from the arguments. -/
def logitOf : Vec F S4x1x32768 .f32 :=
  logitsR (queriesR (W (Proc.devRef .tc main_arg1)) (W (Proc.devRef .tc main_arg4)) (W (Proc.devRef .tc main_arg5)) (W (Proc.devRef .tc main_arg6)) (W (Proc.devRef .tc main_arg7)))
        (keysR (W (Proc.devRef .tc main_arg2)) (W (Proc.devRef .tc main_arg8)) (W (Proc.devRef .tc main_arg9)) (W (Proc.devRef .tc main_arg10)) (W (Proc.devRef .tc main_arg11)))
/-- All policies, from the arguments. -/
def policyOf : Vec F S4x1x32768 .f32 := policyR (legalR (W (Proc.devRef .tc main_arg3))) (logitOf W)
/-- The index words, from the arguments. -/
def pickOf : IVec S4 32 := wordsR (scoresR (policyOf W))
/-- The projected rows, from the arguments. -/
def projOf : Vec F S4x1x512 .f32 := projR (rowsR (W (Proc.devRef .tc main_arg2)) (numbersR (pickOf W))) (W (Proc.devRef .tc main_arg12)) (W (Proc.devRef .tc main_arg13))

theorem stages (b : Ref sig .tc) : StableHlo.after allOps W (Proc.devRef .tc b)
    = StableHlo.after projOps (StableHlo.after pickOps (StableHlo.after noiseOps (StableHlo.after keyOps (StableHlo.after policyOps (StableHlo.after logitOps W))))) (Proc.devRef .tc b) := by
  unfold allOps
  rw [List.flatten_cons, List.flatten_cons, List.flatten_cons, List.flatten_cons, List.flatten_cons, List.flatten_cons, List.flatten_nil, List.append_nil,
    after_two, after_two, after_two, after_two, after_two]

/-- An argument after the first two groups, the first three, the first four and the first five. -/
theorem arg2 (r : Ref sig .tc) (hr : r ∈ argRefs) : StableHlo.after policyOps (StableHlo.after logitOps W) (Proc.devRef .tc r) = W (Proc.devRef .tc r) := by
  rw [(still _ r).2.1 (.tail _ hr), (still W r).1 hr]
theorem arg4 (r : Ref sig .tc) (hr : r ∈ argRefs) :
    StableHlo.after noiseOps (StableHlo.after keyOps (StableHlo.after policyOps (StableHlo.after logitOps W))) (Proc.devRef .tc r) = W (Proc.devRef .tc r) := by
  rw [(still _ r).2.2.2.1 (.tail _ (.tail _ (.tail _ hr))), (still _ r).2.2.1 (.tail _ (.tail _ hr)), arg2 W r hr]
theorem arg5 (r : Ref sig .tc) (hr : r ∈ argRefs) :
    StableHlo.after pickOps (StableHlo.after noiseOps (StableHlo.after keyOps (StableHlo.after policyOps (StableHlo.after logitOps W)))) (Proc.devRef .tc r) = W (Proc.devRef .tc r) := by
  rw [(still _ r).2.2.2.2.1 (.tail _ (.tail _ hr)), arg4 W r hr]

/-- What is kept from the policy's lines to the end. -/
theorem to_end (W : Valuation τ sig (Elt F)) (r : Ref sig .tc) (hr : r ∈ main_v27 :: main_v49 :: argRefs) :
    StableHlo.after projOps (StableHlo.after pickOps (StableHlo.after noiseOps (StableHlo.after keyOps W))) (Proc.devRef .tc r) = W (Proc.devRef .tc r) := by
  rw [(still _ r).2.2.2.2.2 (.tail _ hr), (still _ r).2.2.2.2.1 hr, (still _ r).2.2.2.1 (.tail _ hr), (still _ r).2.2.1 hr]

theorem whole_v27 : StableHlo.after allOps W (Proc.devRef .tc main_v27) = logitOf W := by
  rw [stages, to_end _ _ (.head _), (still _ _).2.1 (.head _), logit_read]
  rfl

theorem whole_v49 : StableHlo.after allOps W (Proc.devRef .tc main_v49) = policyOf W := by
  rw [stages, to_end _ _ (.tail _ (.head _)), policy_read, logit_read, (still _ main_arg3).1 (by decide)]
  rfl

/-- The scores, where the index words are drawn. -/
theorem scores_read : addf (F := F) (s := S4x32768) (φ := .f32)
      (StableHlo.after noiseOps (StableHlo.after keyOps (StableHlo.after policyOps (StableHlo.after logitOps W))) (Proc.devRef .tc main_v61))
      (StableHlo.after noiseOps (StableHlo.after keyOps (StableHlo.after policyOps (StableHlo.after logitOps W))) (Proc.devRef .tc main_v60))
    = scoresR (policyOf W) := by
  rw [noise_read, key_read, (still _ main_v60).2.2.2.1 (.head _), logs_read, policy_rows, logit_read, (still _ main_arg3).1 (by decide)]
  rfl

theorem whole_v65 : StableHlo.after allOps W (Proc.devRef .tc main_v65)
    = (shapeCast S4x1x1 (broadcastInDim S4x1 ![0] bcast_S4_S4x1_0 (pickOf W)) shapeCasts_S4x1_S4x1x1 : IVec S4x1x1 32) := by
  rw [stages, (still _ _).2.2.2.2.2 (.head _), words_read, scores_read]
  rfl

theorem proj_whole : projR (StableHlo.after pickOps (StableHlo.after noiseOps (StableHlo.after keyOps (StableHlo.after policyOps (StableHlo.after logitOps W)))) (Proc.devRef .tc main_v81))
      (StableHlo.after pickOps (StableHlo.after noiseOps (StableHlo.after keyOps (StableHlo.after policyOps (StableHlo.after logitOps W)))) (Proc.devRef .tc main_arg12))
      (StableHlo.after pickOps (StableHlo.after noiseOps (StableHlo.after keyOps (StableHlo.after policyOps (StableHlo.after logitOps W)))) (Proc.devRef .tc main_arg13))
    = projOf W := by
  rw [rows_read, scores_read, arg4 W main_arg2 (by decide), arg5 W main_arg12 (by decide), arg5 W main_arg13 (by decide)]
  rfl

theorem whole_v85 : StableHlo.after allOps W (Proc.devRef .tc main_v85) = projOf W := by
  rw [stages, proj_read, proj_whole]

theorem whole_v90 : StableHlo.after allOps W (Proc.devRef .tc main_v90)
    = chosenR (W (Proc.devRef .tc main_arg0)) (W (Proc.devRef .tc main_arg1)) (projOf W) := by
  rw [stages, chosen_read, proj_whole, arg5 W main_arg0 (by decide), arg5 W main_arg1 (by decide)]

end

end Cert.ReferenceIdeal.Hand
end
-- ==== Proof.ArgMax.lean ====
module

public import proofs.«01_k».proof.Proof.RefValues
public import proofs.«01_k».proof.Proof.Words
public import Idealize.ShloMosaic.Lib.Pointwise
public import Idealize.ShloMosaic.PureOps.Ideal.Laws
public import Idealize.ShloMosaic.PureOps.Reduce

@[expose] public section

noncomputable section

namespace Cert.ReferenceIdeal.Hand

open Cert.ReferenceIdeal Cert.ReferenceIdeal.Gen
open Idealize.ShloMosaic
open Cert.KernelIdeal.Hand (FirstMax)

/-! The reference's index words at the ideal values: the first place at which the score is largest. -/

/-- `r` comes no later than `p` in the order by value, then by earlier word. -/
def Beats (r p : EReal × BitVec 32) : Prop := p.1 < r.1 ∨ (p.1 = r.1 ∧ r.2.toInt ≤ p.2.toInt)

theorem Beats.trans {a b c : EReal × BitVec 32} (h1 : Beats a b) (h2 : Beats b c) : Beats a c := by
  rcases h1 with h1 | ⟨h1, h1'⟩ <;> rcases h2 with h2 | ⟨h2, h2'⟩
  · exact Or.inl (h2.trans h1)
  · exact Or.inl (h2 ▸ h1)
  · exact Or.inl (h1 ▸ h2)
  · exact Or.inr ⟨h2.trans h1, h1'.trans h2'⟩

theorem Beats.refl (a : EReal × BitVec 32) : Beats a a := Or.inr ⟨rfl, le_refl _⟩

/-- One step of the reference's fold keeps one of its two pairs. -/
theorem step_eq (a b : EReal × BitVec 32) :
    reducer_argmax_f32_i32 (F := Ideal) a b = (if b.1 < a.1 then a.1 else b.1, if b.1 < a.1 ∨ (a.1 = b.1 ∧ a.2.toInt < b.2.toInt) then a.2 else b.2) := by
  have hs : a.2.slt b.2 = decide (a.2.toInt < b.2.toInt) := rfl
  show ((if IntOp.ori (BitVec.ofBool (decide (a.1 > b.1))) (BitVec.ofBool (decide (a.1 ≠ a.1))) = 1#1 then a.1 else b.1),
    (if IntOp.ori (IntOp.ori (BitVec.ofBool (decide (a.1 > b.1))) (BitVec.ofBool (decide (a.1 ≠ a.1))))
      (IntOp.andi (BitVec.ofBool (decide (a.1 = b.1))) (BitVec.ofBool (a.2.slt b.2))) = 1#1 then a.2 else b.2)) = _
  rw [hs]
  by_cases h1 : b.1 < a.1 <;> by_cases h2 : a.1 = b.1 <;> by_cases h3 : a.2.toInt < b.2.toInt <;>
    simp [h1, h2, h3, IntOp.ori, IntOp.andi]

theorem step_beats (a b : EReal × BitVec 32) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  rw [step_eq]
  obtain ⟨av, aw⟩ := a
  obtain ⟨bv, bw⟩ := b
  unfold Beats
  rcases lt_trichotomy bv av with h | h | h
  · simp [h]
  · subst h
    by_cases h3 : aw.toInt < bw.toInt
    · simp [h3, h3.le]
    · simp [h3, not_lt.mp h3]
  · simp [h, h.not_gt, h.ne]

theorem fold_beats (L : List (EReal × BitVec 32)) (i : EReal × BitVec 32) :
    (L.foldl (reducer_argmax_f32_i32 (F := Ideal)) i = i ∨ L.foldl (reducer_argmax_f32_i32 (F := Ideal)) i ∈ L)
      ∧ Beats (L.foldl (reducer_argmax_f32_i32 (F := Ideal)) i) i ∧ ∀ p ∈ L, Beats (L.foldl (reducer_argmax_f32_i32 (F := Ideal)) i) p := by
  induction L generalizing i with
  | nil => exact ⟨Or.inl rfl, Beats.refl i, fun p hp => absurd hp List.not_mem_nil⟩
  | cons a L ih =>
    obtain ⟨h1, h2, h3⟩ := ih (reducer_argmax_f32_i32 (F := Ideal) i a)
    obtain ⟨s1, s2, s3⟩ := step_beats i a
    rw [List.foldl_cons]
    refine ⟨?_, h2.trans s2, fun p hp => ?_⟩
    · rcases h1 with h1 | h1
      · rw [h1]
        rcases s1 with s1 | s1
        · exact Or.inl s1
        · exact Or.inr (by rw [s1]; exact List.mem_cons_self)
      · exact Or.inr (List.mem_cons_of_mem _ h1)
    · rcases List.mem_cons.mp hp with rfl | hp
      · exact h2.trans s3
      · exact h3 p hp

theorem drop_row (i : S4x32768.Idx) : reducesTo_S4x32768_S4_d1.drop i = (ix1 (i 0) : S4.Idx) := by
  funext a
  match a with
  | ⟨0, _⟩ => rfl

/-- The pairs of a row. -/
theorem mem_row (y : Vec Ideal S4x32768 .f32) (b : Fin 4) (p : EReal × BitVec 32) :
    p ∈ Host.argReduceFiber (α := EReal) (t := S4) y (iotaInDim S4x32768 32 1) reducesTo_S4x32768_S4_d1 (ix1 b) ↔ ∃ n : Fin 32768, p = (y (ix2 b n), BitVec.ofNat 32 n.val) := by
  unfold Host.argReduceFiber
  constructor
  · intro h
    obtain ⟨k, hk, rfl⟩ := List.mem_map.mp h
    have hd := of_decide_eq_true (List.mem_filter.mp hk).2
    rw [drop_row] at hd
    have h0 : (S4x32768.rowMajor.symm k) 0 = b := congrFun hd 0
    refine ⟨(S4x32768.rowMajor.symm k) 1, Prod.ext (congrArg y (funext fun a => ?_)) rfl⟩
    match a with
    | ⟨0, _⟩ => exact h0
    | ⟨1, _⟩ => rfl
  · rintro ⟨n, rfl⟩
    refine List.mem_map.mpr ⟨S4x32768.rowMajor (ix2 b n), List.mem_filter.mpr ⟨List.mem_finRange _, decide_eq_true ?_⟩, ?_⟩
    · rw [Equiv.symm_apply_apply, drop_row]; rfl
    · rw [Equiv.symm_apply_apply]; rfl

/-- The index word of a row is the first place at which the row is largest. -/
theorem words_val (y : Vec Ideal S4x32768 .f32) (b : Fin 4) (n : Fin 32768) (hn : FirstMax (fun k => y (ix2 b k)) n) :
    wordsR y (ix1 b) = BitVec.ofNat 32 n.val := by
  have e2 : (constant (F := Ideal) S_ .f32 0xFF800000#32) (Shape.Idx.first h_S_) = (⊥ : EReal) := by
    show Ideal.ofBits .f32 0xFF800000#32 = ⊥
    simp [Ideal.ofBits, Ideal.ieee]
  unfold wordsR
  rw [Ideal.argReduce_eq_reduce2, Host.reduce2_eq_foldl_fiber]
  obtain ⟨h1, h2, h3⟩ := fold_beats (Host.argReduceFiber (α := EReal) (t := S4) y (iotaInDim S4x32768 32 1) reducesTo_S4x32768_S4_d1 (ix1 b)) ((⊥ : EReal), 0#32)
  have hb := h3 _ ((mem_row y b _).mpr ⟨n, rfl⟩)
  have hf : ∀ k : Fin 32768, (BitVec.ofNat 32 k.val).toInt = (k.val : ℤ) := Cert.KernelIdeal.Hand.flat_toInt
  rw [e2]
  show ((Host.argReduceFiber (α := EReal) (t := S4) y (iotaInDim S4x32768 32 1) reducesTo_S4x32768_S4_d1 (ix1 b)).foldl (reducer_argmax_f32_i32 (F := Ideal)) ((⊥ : EReal), 0#32)).2 = _
  generalize (Host.argReduceFiber (α := EReal) (t := S4) y (iotaInDim S4x32768 32 1) reducesTo_S4x32768_S4_d1 (ix1 b)).foldl (reducer_argmax_f32_i32 (F := Ideal)) ((⊥ : EReal), 0#32) = r at h1 h2 h3 hb
  rcases h1 with rfl | h1
  · rcases hb with hb | ⟨hb, -⟩
    · exact absurd hb not_lt_bot
    · have h0 : n.val = 0 := by
        by_contra hne
        have hlt := hn.2 ⟨0, by omega⟩ (by rw [Fin.lt_def]; show 0 < n.val; omega)
        exact absurd (lt_of_lt_of_eq hlt hb) not_lt_bot
      rw [h0]
  · obtain ⟨k, rfl⟩ := (mem_row y b r).mp h1
    rcases hb with hb | ⟨hb, hle⟩
    · exact absurd hb (not_lt.mpr (hn.1 k))
    · rw [hf, hf] at hle
      have hk : k = n := by
        by_contra hne
        have hlt : k < n := by
          rw [Fin.lt_def]
          have : k.val ≠ n.val := fun e => hne (Fin.ext e)
          omega
        exact absurd hb.symm (hn.2 k hlt).ne
      rw [hk]

end Cert.ReferenceIdeal.Hand
end
-- ==== Proof.Same.lean ====
module

public import proofs.«01_k».proof.Proof.KernelEntries
public import proofs.«01_k».proof.Proof.RefEntries
public import proofs.«01_k».proof.Proof.RefWhole
public import proofs.«01_k».proof.Proof.ArgMax

@[expose] public section

noncomputable section

namespace Cert.Same

open Idealize.ShloMosaic Idealize.ShloMosaic.TcCoe
open Cert.KernelIdeal.Hand
open Cert.ReferenceIdeal.Hand (logitsR queriesR keysR policyR legalR wordsR scoresR numbersR rowsR projR chosenR noiseR)
open Cert.Values (mlp policy num place)

set_option maxRecDepth 16384

variable (m : (ℓ : Loc Cert.KernelIdeal.nD Cert.KernelIdeal.τ Cert.KernelIdeal.sig) → Buf (Elt Ideal) ℓ) (c : Dev Cert.KernelIdeal.nD)

/-! The two programs' results agree, from the same arguments. -/

/-- Arrays with a unit middle axis agree if their entries do. -/
theorem ext3 {α : Type} {N : ℕ} (X Y : (⟨3, ![4, 1, N]⟩ : Shape).Idx → α) (h : ∀ (b : Fin 4) (n : Fin N), X (ix3 b (0 : Fin 1) n) = Y (ix3 b (0 : Fin 1) n)) : X = Y := by
  funext i
  have h1 : i 1 = (0 : Fin 1) := Subsingleton.elim (α := Fin 1) _ _
  have e : i = ix3 (i 0) (0 : Fin 1) (i 2) := by
    funext a
    match a with
    | ⟨0, _⟩ => rfl
    | ⟨1, _⟩ => exact h1
    | ⟨2, _⟩ => rfl
  rw [e]
  exact h (i 0) (i 2)

/-! ## The logits -/

/-- The reference's logits from the kernel's arguments. -/
def logitsX : Vec Ideal Cert.ReferenceIdeal.S4x1x32768 .f32 :=
  logitsR (queriesR (A1 m c) (A4 m c) (A5 m c) (A6 m c) (A7 m c)) (keysR (A2 m c) (A8 m c) (A9 m c) (A10 m c) (A11 m c))

theorem logitsX_at (b : Fin 4) (n : Fin 32768) : logitsX m c (ix3 b (0 : Fin 1) n) = logitAt m c b n := by
  unfold logitsX
  rw [Cert.ReferenceIdeal.Hand.logits_val]
  exact congrArg₂ Cert.Values.inner (funext fun o => Cert.ReferenceIdeal.Hand.queries_val _ _ _ _ _ b o) (funext fun o => Cert.ReferenceIdeal.Hand.keys_val _ _ _ _ _ b _ _ o)

theorem same_logits : allBlocks m c = logitsX m c :=
  ext3 _ _ fun b n => (blocks_at m c b n).trans (logitsX_at m c b n).symm

/-! ## The policies -/

/-- The reference's policies from the kernel's arguments. -/
def policyX : Vec Ideal Cert.ReferenceIdeal.S4x1x32768 .f32 := policyR (legalR (A3 m c)) (logitsX m c)

theorem bits_same : Cert.ReferenceIdeal.Hand.bitsR (A3 m c) = bitOf m c :=
  funext fun b => funext fun n => Cert.ReferenceIdeal.Hand.mask_val _ b n

theorem policyX_at (b : Fin 4) (n : Fin 32768) : policyX m c (ix3 b (0 : Fin 1) n) = policyAt m c b n := by
  unfold policyX policyAt
  rw [Cert.ReferenceIdeal.Hand.policy_entry, ← bits_same]
  exact congrArg₂ (fun l g => policy l g n) (funext fun n => logitsX_at m c b n) (funext fun n => Cert.ReferenceIdeal.Hand.legal_val _ b n)

theorem policy_cast (X : Vec Ideal Cert.KernelIdeal.S8x16384 .f32) (b : Fin 4) (n : Fin 32768) :
    shapeCast Cert.KernelIdeal.S4x1x32768 X Cert.KernelIdeal.Gen.shapeCasts_S8x16384_S4x1x32768 (ix3 b (0 : Fin 1) n)
      = X (ix2 (rowNo b (⟨n.val / 16384, by omega⟩ : Fin 2)) (⟨n.val % 16384, by omega⟩ : Fin 16384)) := by
  pointwise [rowNo]
  exact congrArg (fun a : Fin 8 => X (ix2 a (⟨n.val % 16384, by omega⟩ : Fin 16384))) (Fin.ext (by show b.val * 2 + n.val / 16384 = 2 * b.val + n.val / 16384; omega))

theorem place_back (n : Fin 32768) : place (⟨n.val / 16384, by omega⟩ : Fin 2) (⟨n.val % 16384, by omega⟩ : Fin 16384) = n :=
  Fin.ext (by show 16384 * (n.val / 16384) + n.val % 16384 = n.val; omega)

theorem same_policy (t : Fin Cert.KernelIdeal.cfg0.N) :
    shapeCast Cert.KernelIdeal.S4x1x32768 (outPolicy m c t) Cert.KernelIdeal.Gen.shapeCasts_S8x16384_S4x1x32768 = policyX m c :=
  ext3 _ _ fun b n => by
    rw [policy_cast, policies_at, place_back]
    exact (policyX_at m c b n).symm

/-! ## The noise -/

theorem count_at {A B : ℕ} (n : BitVec 64) (hb : Cert.Noise.Z.BroadcastsInDim ⟨2, ![A, B]⟩ ![]) (a : Fin A) (b : Fin B) :
    Cert.Noise.count n hb (ix2 a b) = n * BitVec.ofNat 64 a.val + 1#64 * BitVec.ofNat 64 b.val := rfl

/-- The two programs count the same entry alike. -/
theorem count_same (b : Fin 4) (j : Fin 2) (o : Fin 16384) :
    Cert.Noise.count 16384#64 Cert.KernelIdeal.Gen.bcast_S_S8x16384 (ix2 (rowNo b j) o) = Cert.Noise.count 32768#64 Cert.ReferenceIdeal.Gen.bcast_S_S4x32768 (ix2 b (place j o)) := by
  rw [count_at, count_at]
  apply BitVec.eq_of_toNat_eq
  simp only [BitVec.toNat_add, BitVec.toNat_mul, BitVec.toNat_ofNat, rowNo, place]
  omega

theorem noise_same (b : Fin 4) (j : Fin 2) (o : Fin 16384) : noiseV m c (ix2 (rowNo b j) o) = noiseR (F := Ideal) (ix2 b (place j o)) := by
  refine (congrFun (V_v10 m c) _).trans ?_
  unfold noiseR
  have hc := count_same b j o
  refine Cert.Noise.gumbel_at (F := Ideal) _ _ _ _ _ _ _ ?_ ?_
  · exact congrArg (fun w : BitVec 64 => BitVec.setWidth 32 (IntOp.shrui .host w 32#64)) hc
  · exact congrArg (fun w : BitVec 64 => BitVec.setWidth 32 w) hc

theorem noiseAt_eq (b : Fin 4) (n : Fin 32768) : noiseAt m c b n = noiseR (F := Ideal) (ix2 b n) := by
  unfold noiseAt
  rw [noise_same, place_back]

/-! ## The index words -/

/-- The reference's index words from the kernel's arguments. -/
def wordsX : IVec Cert.ReferenceIdeal.S4 32 := wordsR (scoresR (policyX m c))

theorem sum_at (x y : Vec Ideal Cert.ReferenceIdeal.S4x32768 .f32) (i : Cert.ReferenceIdeal.S4x32768.Idx) :
    addf (F := Ideal) (s := Cert.ReferenceIdeal.S4x32768) (φ := .f32) x y i = (y i + x i : EReal) := add_comm (x i : EReal) (y i)

theorem scores_at (p : Vec Ideal Cert.ReferenceIdeal.S4x1x32768 .f32) (b : Fin 4) (n : Fin 32768) :
    scoresR p (ix2 b n) = Ideal.log (p (ix3 b (0 : Fin 1) n) + Ideal.ofBits .f32 0x1E3CE508#32) + noiseR (F := Ideal) (ix2 b n) := by
  unfold scoresR
  rw [sum_at, Cert.ReferenceIdeal.Hand.logs_val]

theorem scores_same (b : Fin 4) : (fun n : Fin 32768 => scoresR (policyX m c) (ix2 b n)) = scoreAt m c b := by
  funext n
  unfold scoreAt
  rw [scores_at, noiseAt_eq, policyX_at]

theorem wordsX_at (b : Fin 4) (n : Fin 32768) (hn : FirstMax (scoreAt m c b) n) : wordsX m c (ix1 b) = BitVec.ofNat 32 n.val :=
  Cert.ReferenceIdeal.Hand.words_val _ b n (by rw [scores_same]; exact hn)

theorem word_cast (X : IVec Cert.KernelIdeal.S1x4 32) (b : Fin 4) :
    shapeCast Cert.KernelIdeal.S4x1x1 X Cert.KernelIdeal.Gen.shapeCasts_S1x4_S4x1x1 (ix3 b (0 : Fin 1) (0 : Fin 1)) = X (ix2 (0 : Fin 1) b) := by
  pointwise

theorem word_castR (X : IVec Cert.ReferenceIdeal.S4 32) (b : Fin 4) :
    shapeCast Cert.ReferenceIdeal.S4x1x1 (broadcastInDim Cert.ReferenceIdeal.S4x1 ![0] Cert.ReferenceIdeal.Gen.bcast_S4_S4x1_0 X) Cert.ReferenceIdeal.Gen.shapeCasts_S4x1_S4x1x1 (ix3 b (0 : Fin 1) (0 : Fin 1)) = X (ix1 b) := by
  pointwise

theorem same_words (t : Fin Cert.KernelIdeal.cfg0.N) :
    shapeCast Cert.KernelIdeal.S4x1x1 (outIdx m c t) Cert.KernelIdeal.Gen.shapeCasts_S1x4_S4x1x1
      = shapeCast Cert.ReferenceIdeal.S4x1x1 (broadcastInDim Cert.ReferenceIdeal.S4x1 ![0] Cert.ReferenceIdeal.Gen.bcast_S4_S4x1_0 (wordsX m c)) Cert.ReferenceIdeal.Gen.shapeCasts_S4x1_S4x1x1 :=
  ext3 _ _ fun b n => by
    obtain rfl : n = 0 := Subsingleton.elim _ _
    obtain ⟨k, hk⟩ := exists_firstMax (scoreAt m c b)
    rw [word_cast, word_castR, wordsX_at m c b k hk]
    exact word_at m c t b k hk

/-! ## The projected rows -/

/-- The reference's projected rows from the kernel's arguments. -/
def projX : Vec Ideal Cert.ReferenceIdeal.S4x1x512 .f32 := projR (rowsR (A2 m c) (numbersR (wordsX m c))) (A12 m c) (A13 m c)

theorem proj_cast (X : Vec Ideal Cert.KernelIdeal.S4x512 .f32) (b : Fin 4) (o : Fin 512) :
    shapeCast Cert.KernelIdeal.S4x1x512 X Cert.KernelIdeal.Gen.shapeCasts_S4x512_S4x1x512 (ix3 b (0 : Fin 1) o) = X (ix2 b o) := by
  pointwise

theorem same_proj (t : Fin Cert.KernelIdeal.cfg0.N) :
    shapeCast Cert.KernelIdeal.S4x1x512 (outProj m inRange c t) Cert.KernelIdeal.Gen.shapeCasts_S4x512_S4x1x512 = projX m c :=
  ext3 _ _ fun b o => by
    obtain ⟨k, hk⟩ := exists_firstMax (scoreAt m c b)
    have hw : (numbersR (wordsX m c) (ix2 b (0 : Fin 1))).toNat = k.val := by
      rw [Cert.ReferenceIdeal.Hand.numbers_val, wordsX_at m c b k hk, BitVec.toNat_ofNat]; omega
    rw [proj_cast, projected_at m c t b k hk o]
    unfold projX
    rw [Cert.ReferenceIdeal.Hand.proj_entry]
    refine congrArg (· + A13 m c (ix1 o)) (Finset.sum_congr rfl fun i _ => congrArg (· * A12 m c (ix2 i o)) ?_)
    rw [Cert.ReferenceIdeal.Hand.rows_val _ _ b i (by omega)]
    exact Cert.ReferenceIdeal.Hand.row_same _ i _ _ _ _ hw.symm

end Cert.Same
end
-- ==== Proof.lean ====
module

public import proofs.«01_k».proof.Defs
public import proofs.«01_k».proof.Proof.Run
public import proofs.«01_k».proof.Proof.Words
public import proofs.«01_k».proof.Proof.RefRun
public import proofs.«01_k».proof.Proof.Same

@[expose] public section

noncomputable section

namespace Cert.Proof

open Idealize.ShloMosaic Idealize.SL.Sem

/-- The kernel leaves its arguments unchanged and every counter at zero. -/
theorem kernel_frame : Cert.quiescent_KernelIdeal (hKernelIdeal := Cert.KernelIdeal.Gen.facts) := fun m g _ =>
  θ_run_mono (Cert.KernelIdeal.Hand.run_values m g Cert.KernelIdeal.Hand.inRange) fun r h => ⟨fun c => (h.1 c).2, h.2⟩

/-- The reference leaves its arguments unchanged and every counter at zero. -/
theorem reference_frame : Cert.quiescent_ReferenceIdeal (hReferenceIdeal := Cert.ReferenceIdeal.Gen.facts) := fun m g _ =>
  θ_run_mono (Cert.ReferenceIdeal.Hand.run_all m g) fun r h => ⟨fun c => by
    have same (b : Ref Cert.ReferenceIdeal.sig .tc) (hb : b ∈ Cert.ReferenceIdeal.Hand.argRefs) :=
      (h.1 c b).trans (Cert.ReferenceIdeal.Hand.kept (StableHlo.launchContents m c) b hb)
    exact ⟨same _ (by decide), same _ (by decide), same _ (by decide), same _ (by decide), same _ (by decide), same _ (by decide),
      same _ (by decide), same _ (by decide), same _ (by decide), same _ (by decide), same _ (by decide), same _ (by decide),
      same _ (by decide), same _ (by decide)⟩, h.2⟩

/-- The reference's results, from the kernel's arguments. -/
theorem reference_values (m : (ℓ : Loc Cert.KernelIdeal.nD Cert.KernelIdeal.τ Cert.KernelIdeal.sig) → Buf (Elt Ideal) ℓ) (c : Dev Cert.KernelIdeal.nD)
    (W : Valuation Cert.ReferenceIdeal.τ Cert.ReferenceIdeal.sig (Elt Ideal))
    (h0 : W (Proc.devRef .tc Cert.ReferenceIdeal.main_arg0) = Cert.KernelIdeal.Hand.A0 m c)
    (h1 : W (Proc.devRef .tc Cert.ReferenceIdeal.main_arg1) = Cert.KernelIdeal.Hand.A1 m c)
    (h2 : W (Proc.devRef .tc Cert.ReferenceIdeal.main_arg2) = Cert.KernelIdeal.Hand.A2 m c)
    (h3 : W (Proc.devRef .tc Cert.ReferenceIdeal.main_arg3) = Cert.KernelIdeal.Hand.A3 m c)
    (h4 : W (Proc.devRef .tc Cert.ReferenceIdeal.main_arg4) = Cert.KernelIdeal.Hand.A4 m c)
    (h5 : W (Proc.devRef .tc Cert.ReferenceIdeal.main_arg5) = Cert.KernelIdeal.Hand.A5 m c)
    (h6 : W (Proc.devRef .tc Cert.ReferenceIdeal.main_arg6) = Cert.KernelIdeal.Hand.A6 m c)
    (h7 : W (Proc.devRef .tc Cert.ReferenceIdeal.main_arg7) = Cert.KernelIdeal.Hand.A7 m c)
    (h8 : W (Proc.devRef .tc Cert.ReferenceIdeal.main_arg8) = Cert.KernelIdeal.Hand.A8 m c)
    (h9 : W (Proc.devRef .tc Cert.ReferenceIdeal.main_arg9) = Cert.KernelIdeal.Hand.A9 m c)
    (h10 : W (Proc.devRef .tc Cert.ReferenceIdeal.main_arg10) = Cert.KernelIdeal.Hand.A10 m c)
    (h11 : W (Proc.devRef .tc Cert.ReferenceIdeal.main_arg11) = Cert.KernelIdeal.Hand.A11 m c)
    (h12 : W (Proc.devRef .tc Cert.ReferenceIdeal.main_arg12) = Cert.KernelIdeal.Hand.A12 m c)
    (h13 : W (Proc.devRef .tc Cert.ReferenceIdeal.main_arg13) = Cert.KernelIdeal.Hand.A13 m c)
    : Cert.ReferenceIdeal.Hand.logitOf W = Cert.Same.logitsX m c ∧ Cert.ReferenceIdeal.Hand.policyOf W = Cert.Same.policyX m c
      ∧ Cert.ReferenceIdeal.Hand.pickOf W = Cert.Same.wordsX m c ∧ Cert.ReferenceIdeal.Hand.projOf W = Cert.Same.projX m c
      ∧ Cert.ReferenceIdeal.Hand.chosenR (W (Proc.devRef .tc Cert.ReferenceIdeal.main_arg0)) (W (Proc.devRef .tc Cert.ReferenceIdeal.main_arg1)) (Cert.ReferenceIdeal.Hand.projOf W)
        = Cert.ReferenceIdeal.Hand.chosenR (Cert.KernelIdeal.Hand.A0 m c) (Cert.KernelIdeal.Hand.A1 m c) (Cert.Same.projX m c) := by
  have e0 : Cert.ReferenceIdeal.Hand.logitOf W = Cert.Same.logitsX m c := by
    unfold Cert.ReferenceIdeal.Hand.logitOf Cert.Same.logitsX
    rw [h1, h2, h4, h5, h6, h7, h8, h9, h10, h11]
  have e1 : Cert.ReferenceIdeal.Hand.policyOf W = Cert.Same.policyX m c := by
    unfold Cert.ReferenceIdeal.Hand.policyOf Cert.Same.policyX
    rw [e0, h3]
  have e2 : Cert.ReferenceIdeal.Hand.pickOf W = Cert.Same.wordsX m c := by
    unfold Cert.ReferenceIdeal.Hand.pickOf Cert.Same.wordsX
    rw [e1]
  have e3 : Cert.ReferenceIdeal.Hand.projOf W = Cert.Same.projX m c := by
    unfold Cert.ReferenceIdeal.Hand.projOf Cert.Same.projX
    rw [e2, h2, h12, h13]
  exact ⟨e0, e1, e2, e3, by rw [e3, h0, h1]⟩

/-- The kernel's last result. -/
theorem chosen_kernel (m : (ℓ : Loc Cert.KernelIdeal.nD Cert.KernelIdeal.τ Cert.KernelIdeal.sig) → Buf (Elt Ideal) ℓ) (c : Dev Cert.KernelIdeal.nD) :
    Cert.KernelIdeal.Hand.later m Cert.KernelIdeal.Hand.inRange c Cert.KernelIdeal.main_v25
      = Cert.ReferenceIdeal.Hand.chosenR (Cert.KernelIdeal.Hand.A0 m c) (Cert.KernelIdeal.Hand.A1 m c) (Cert.Same.projX m c) := by
  rw [Cert.KernelIdeal.Hand.later_v25, Cert.KernelIdeal.Hand.arr17_eq, Cert.Same.same_proj]
  rfl

/-- From the same arguments the two programs end with the same five results. -/
theorem same_results : Cert.algebraic_KernelIdeal_ReferenceIdeal (hKernelIdeal := Cert.KernelIdeal.Gen.facts) (hReferenceIdeal := Cert.ReferenceIdeal.Gen.facts) := by
  intro m g m' g' _ H
  refine ⟨fun c => Cert.Same.logitsX m c, fun c => Cert.Same.policyX m c,
    fun c => shapeCast Cert.ReferenceIdeal.S4x1x1 (broadcastInDim Cert.ReferenceIdeal.S4x1 ![0] Cert.ReferenceIdeal.Gen.bcast_S4_S4x1_0 (Cert.Same.wordsX m c)) Cert.ReferenceIdeal.Gen.shapeCasts_S4x1_S4x1x1,
    fun c => Cert.ReferenceIdeal.Hand.chosenR (Cert.KernelIdeal.Hand.A0 m c) (Cert.KernelIdeal.Hand.A1 m c) (Cert.Same.projX m c),
    fun c => Cert.Same.projX m c, ?_, ?_⟩
  · refine θ_run_mono (Cert.KernelIdeal.Hand.run_values m g Cert.KernelIdeal.Hand.inRange) fun r h c => ?_
    obtain ⟨⟨r0, r1, r2, r3, r4⟩, ra⟩ := h.1 c
    refine ⟨r0.trans ((Cert.KernelIdeal.Hand.arr14_eq m Cert.KernelIdeal.Hand.inRange c).trans (Cert.Same.same_logits m c)), r1.trans ?_, r2.trans ?_, r3.trans (chosen_kernel m c), r4.trans ?_, ra⟩
    · rw [Cert.KernelIdeal.Hand.later_v18, Cert.KernelIdeal.Hand.arr15_eq]
      exact Cert.Same.same_policy m c _
    · rw [Cert.KernelIdeal.Hand.later_v19, Cert.KernelIdeal.Hand.arr16_eq]
      exact Cert.Same.same_words m c _
    · rw [Cert.KernelIdeal.Hand.later_v20, Cert.KernelIdeal.Hand.arr17_eq]
      exact Cert.Same.same_proj m c _
  · refine θ_run_mono (Cert.ReferenceIdeal.Hand.run_all m' g') fun r h c => ?_
    have same (b : Ref Cert.ReferenceIdeal.sig .tc) (hb : b ∈ Cert.ReferenceIdeal.Hand.argRefs) :=
      (h.1 c b).trans (Cert.ReferenceIdeal.Hand.kept (StableHlo.launchContents m' c) b hb)
    obtain ⟨a0, a1, a2, a3, a4, a5, a6, a7, a8, a9, a10, a11, a12, a13⟩ := H c
    obtain ⟨e0, e1, e2, e3, e4⟩ := reference_values m c (StableHlo.launchContents m' c) a0 a1 a2 a3 a4 a5 a6 a7 a8 a9 a10 a11 a12 a13
    refine ⟨(h.1 c _).trans ((Cert.ReferenceIdeal.Hand.whole_v27 _).trans e0), (h.1 c _).trans ((Cert.ReferenceIdeal.Hand.whole_v49 _).trans e1),
      (h.1 c _).trans ((Cert.ReferenceIdeal.Hand.whole_v65 _).trans ?_), (h.1 c _).trans ((Cert.ReferenceIdeal.Hand.whole_v90 _).trans e4),
      (h.1 c _).trans ((Cert.ReferenceIdeal.Hand.whole_v85 _).trans e3), ?_⟩
    · rw [e2]
    · exact ⟨same _ (by decide), same _ (by decide), same _ (by decide), same _ (by decide), same _ (by decide), same _ (by decide),
        same _ (by decide), same _ (by decide), same _ (by decide), same _ (by decide), same _ (by decide), same _ (by decide),
        same _ (by decide), same _ (by decide)⟩

theorem claim : Cert.Claim := ⟨Cert.KernelIdeal.Gen.facts, Cert.ReferenceIdeal.Gen.facts, kernel_frame, reference_frame, same_results⟩

end Cert.Proof

end
